-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ preserves_Kernel_KernelIdeal
    ∧ algebraic_KernelIdeal_ReferenceIdeal_pre_finite_scores (hKernelIdeal := hKernelIdeal) (hReferenceIdeal := hReferenceIdeal) (hPre_finite_scores := hPre_finite_scores)
-- ==== Pre_finite_scores.lean ====
abbrev S128x100000 : Shape := ⟨2, ![128, 100000]⟩
abbrev S_ : Shape := ⟨0, ![]⟩

class Facts : Prop where
  bcast_S_S128x100000 : S_.BroadcastsInDim S128x100000 (![] : Fin 0 → Fin S128x100000.rank)
  reducesTo_S128x100000_S_d0_1 : S128x100000.ReducesTo [0, 1] S_
  h_S_ : 0 < S_.numel

variable [Facts]

def fn {F : FTy → Type} [FloatOps F] (main_arg0 : FVec F S128x100000 .f32) : IVec S_ 1 :=
  let main_v0 : FVec F S128x100000 .f32 := Host.absf main_arg0
  let main_cst : FVec F S_ .f32 := constant S_ .f32 0x7F800000#32
  let main_v1 : FVec F S128x100000 .f32 := broadcastInDim S128x100000 ![] bcast_S_S128x100000 main_cst
  let main_v2 : IVec S128x100000 1 := cmpf .olt main_v0 main_v1
  let main_c : IVec S_ 1 := constantI S_ 1 1#1
  let main_v3 : IVec S_ 1 := (fun x v => Host.reduce IntOp.andi x v reducesTo_S128x100000_S_d0_1 h_S_) main_v2 main_c
  main_v3
-- ==== Kernel.lean ====
abbrev S128x100000 : Shape := ⟨2, ![128, 100000]⟩
abbrev S32x100096 : Shape := ⟨2, ![32, 100096]⟩
abbrev S32x256 : Shape := ⟨2, ![32, 256]⟩
abbrev S32 : Shape := ⟨1, ![32]⟩
abbrev S32x1 : Shape := ⟨2, ![32, 1]⟩

abbrev nBuf : Space → Nat
  | .hbm => 2
  | .vmem => 4
  | .smem => 0
  | _ => 0

abbrev bufTy : (tb : Table) → Fin (tcTables nBuf tb) → BufTy
  | .hbm, ⟨0, _⟩ => ⟨S128x100000, .f32⟩
  | .hbm, ⟨1, _⟩ => ⟨S128x100000, .f32⟩
  | .local _ .vmem, ⟨0, _⟩ => ⟨S32x100096, .f32⟩
  | .local _ .vmem, ⟨1, _⟩ => ⟨S32x100096, .f32⟩
  | .local _ .vmem, ⟨2, _⟩ => ⟨S32x100096, .f32⟩
  | .local _ .vmem, ⟨3, _⟩ => ⟨S32x100096, .f32⟩
  | _, _ => ⟨S128x100000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32 : BitVec 32 := 0#32
  let c391_i32 : BitVec 32 := 391#32
  let v12 : BitVec 32 := Scalar.addi c0_i32 c391_i32
  let c1_i32 : BitVec 32 := 1#32
  ⟨c0_i32, v12, c1_i32⟩
def k0_mult1 (k0_t1 : Fin k0_t1_loop.trips) : BitVec 32 :=
  let c0_i32 : BitVec 32 := 0#32
  let c1_i32 : BitVec 32 := 1#32
  let arg3 : BitVec 32 := Scf.iv c0_i32 c1_i32 k0_t1
  let c256_i32 : BitVec 32 := 256#32
  let v38 : BitVec 32 := Scalar.muli arg3 c256_i32
  v38
def k0_off1 (k0_t1 : Fin k0_t1_loop.trips) : Fin 2 → Nat :=
  let c0 : Index := 0#32
  let c0_i32 : BitVec 32 := 0#32
  let c1_i32 : BitVec 32 := 1#32
  let arg3 : BitVec 32 := Scf.iv c0_i32 c1_i32 k0_t1
  let c256_i32 : BitVec 32 := 256#32
  let v38 : BitVec 32 := Scalar.muli arg3 c256_i32
  let v39 : BitVec 32 := v38
  let v233 : Index := Scalar.indexCast v39
  ![0, v233.toNat]
@[reducible] def k0_t2_loop : Scf.Loop 32 :=
  let c0_i32_11 : BitVec 32 := 0#32
  let c391_i32_12 : BitVec 32 := 391#32
  let v37 : BitVec 32 := Scalar.addi c0_i32_11 c391_i32_12
  let c1_i32_13 : BitVec 32 := 1#32
  ⟨c0_i32_11, v37, c1_i32_13⟩
def k0_mult2 (k0_t2 : Fin k0_t2_loop.trips) : BitVec 32 :=
  let c0_i32_11 : BitVec 32 := 0#32
  let c1_i32_13 : BitVec 32 := 1#32
  let arg3 : BitVec 32 := Scf.iv c0_i32_11 c1_i32_13 k0_t2
  let c256_i32 : BitVec 32 := 256#32
  let v38 : BitVec 32 := Scalar.muli arg3 c256_i32
  v38
def k0_off2 (k0_t2 : Fin k0_t2_loop.trips) : Fin 2 → Nat :=
  let c0 : Index := 0#32
  let c0_i32_11 : BitVec 32 := 0#32
  let c1_i32_13 : BitVec 32 := 1#32
  let arg3 : BitVec 32 := Scf.iv c0_i32_11 c1_i32_13 k0_t2
  let c256_i32 : BitVec 32 := 256#32
  let v38 : BitVec 32 := Scalar.muli arg3 c256_i32
  let v39 : BitVec 32 := v38
  let v50 : Index := Scalar.indexCast v39
  ![0, v50.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x100096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x100096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceIdeal.lean ====
abbrev S128x100000 : Shape := ⟨2, ![128, 100000]⟩
abbrev S_ : Shape := ⟨0, ![]⟩
abbrev S1 : Shape := ⟨1, ![1]⟩
abbrev S2 : Shape := ⟨1, ![2]⟩
abbrev S1x1 : Shape := ⟨2, ![1, 1]⟩
abbrev S128 : Shape := ⟨1, ![128]⟩
abbrev S128x1 : Shape := ⟨2, ![128, 1]⟩
abbrev S128x2 : Shape := ⟨2, ![128, 2]⟩
abbrev S128x2x1 : Shape := ⟨3, ![128, 2, 1]⟩
abbrev S128x2x2 : Shape := ⟨3, ![128, 2, 2]⟩

abbrev nBuf : Space → Nat
  | .hbm => 368
  | .vmem => 0
  | .smem => 0
  | _ => 0

abbrev hbmTy0_0 (i : Nat) : BufTy := match i % 128 with
  | 0 => ⟨S128x100000, .f32⟩
  | 1 => ⟨S_, .i32⟩
  | 2 => ⟨S_, .i32⟩
  | 3 => ⟨S_, .i32⟩
  | 4 => ⟨S_, .i32⟩
  | 5 => ⟨S1, .i32⟩
  | 6 => ⟨S_, .i32⟩
  | 7 => ⟨S_, .i32⟩
  | 8 => ⟨S_, .i32⟩
  | 9 => ⟨S1, .i32⟩
  | 10 => ⟨S2, .i32⟩
  | 11 => ⟨S_, .f32⟩
  | 12 => ⟨S_, .f32⟩
  | 13 => ⟨S_, .f32⟩
  | 14 => ⟨S_, .f32⟩
  | 15 => ⟨S1x1, .f32⟩
  | 16 => ⟨S1x1, .f32⟩
  | 17 => ⟨S1, .i32⟩
  | 18 => ⟨S_, .i32⟩
  | 19 => ⟨S1, .i32⟩
  | 20 => ⟨S_, .i32⟩
  | 21 => ⟨S128x100000, .i64⟩
  | 22 => ⟨S128x100000, .i64⟩
  | 23 => ⟨S_, .i64⟩
  | 24 => ⟨S128x100000, .i64⟩
  | 25 => ⟨S128x100000, .i64⟩
  | 26 => ⟨S_, .i64⟩
  | 27 => ⟨S128x100000, .i64⟩
  | 28 => ⟨S128x100000, .i64⟩
  | 29 => ⟨S128x100000, .i64⟩
  | 30 => ⟨S_, .i64⟩
  | 31 => ⟨S128x100000, .i64⟩
  | 32 => ⟨S128x100000, .i64⟩
  | 33 => ⟨S128x100000, .i32⟩
  | 34 => ⟨S128x100000, .i32⟩
  | 35 => ⟨S_, .i32⟩
  | 36 => ⟨S_, .i32⟩
  | 37 => ⟨S_, .i32⟩
  | 38 => ⟨S128x100000, .i32⟩
  | 39 => ⟨S128x100000, .i32⟩
  | 40 => ⟨S128x100000, .i32⟩
  | 41 => ⟨S128x100000, .i32⟩
  | 42 => ⟨S128x100000, .i32⟩
  | 43 => ⟨S_, .i32⟩
  | 44 => ⟨S128x100000, .i32⟩
  | 45 => ⟨S128x100000, .i32⟩
  | 46 => ⟨S_, .i32⟩
  | 47 => ⟨S128x100000, .i32⟩
  | 48 => ⟨S128x100000, .i32⟩
  | 49 => ⟨S128x100000, .i32⟩
  | 50 => ⟨S128x100000, .i32⟩
  | 51 => ⟨S128x100000, .i32⟩
  | 52 => ⟨S_, .i32⟩
  | 53 => ⟨S128x100000, .i32⟩
  | 54 => ⟨S128x100000, .i32⟩
  | 55 => ⟨S_, .i32⟩
  | 56 => ⟨S128x100000, .i32⟩
  | 57 => ⟨S128x100000, .i32⟩
  | 58 => ⟨S128x100000, .i32⟩
  | 59 => ⟨S128x100000, .i32⟩
  | 60 => ⟨S128x100000, .i32⟩
  | 61 => ⟨S_, .i32⟩
  | 62 => ⟨S128x100000, .i32⟩
  | 63 => ⟨S128x100000, .i32⟩
  | 64 => ⟨S_, .i32⟩
  | 65 => ⟨S128x100000, .i32⟩
  | 66 => ⟨S128x100000, .i32⟩
  | 67 => ⟨S128x100000, .i32⟩
  | 68 => ⟨S128x100000, .i32⟩
  | 69 => ⟨S128x100000, .i32⟩
  | 70 => ⟨S_, .i32⟩
  | 71 => ⟨S128x100000, .i32⟩
  | 72 => ⟨S128x100000, .i32⟩
  | 73 => ⟨S_, .i32⟩
  | 74 => ⟨S128x100000, .i32⟩
  | 75 => ⟨S128x100000, .i32⟩
  | 76 => ⟨S128x100000, .i32⟩
  | 77 => ⟨S128x100000, .i32⟩
  | 78 => ⟨S128x100000, .i32⟩
  | 79 => ⟨S128x100000, .i32⟩
  | 80 => ⟨S128x100000, .i32⟩
  | 81 => ⟨S128x100000, .i32⟩
  | 82 => ⟨S_, .i32⟩
  | 83 => ⟨S128x100000, .i32⟩
  | 84 => ⟨S128x100000, .i32⟩
  | 85 => ⟨S128x100000, .i32⟩
  | 86 => ⟨S_, .i32⟩
  | 87 => ⟨S128x100000, .i32⟩
  | 88 => ⟨S128x100000, .i32⟩
  | 89 => ⟨S_, .i32⟩
  | 90 => ⟨S128x100000, .i32⟩
  | 91 => ⟨S128x100000, .i32⟩
  | 92 => ⟨S128x100000, .i32⟩
  | 93 => ⟨S128x100000, .i32⟩
  | 94 => ⟨S128x100000, .i32⟩
  | 95 => ⟨S_, .i32⟩
  | 96 => ⟨S128x100000, .i32⟩
  | 97 => ⟨S128x100000, .i32⟩
  | 98 => ⟨S_, .i32⟩
  | 99 => ⟨S128x100000, .i32⟩
  | 100 => ⟨S128x100000, .i32⟩
  | 101 => ⟨S128x100000, .i32⟩
  | 102 => ⟨S128x100000, .i32⟩
  | 103 => ⟨S128x100000, .i32⟩
  | 104 => ⟨S_, .i32⟩
  | 105 => ⟨S128x100000, .i32⟩
  | 106 => ⟨S128x100000, .i32⟩
  | 107 => ⟨S_, .i32⟩
  | 108 => ⟨S128x100000, .i32⟩
  | 109 => ⟨S128x100000, .i32⟩
  | 110 => ⟨S128x100000, .i32⟩
  | 111 => ⟨S128x100000, .i32⟩
  | 112 => ⟨S128x100000, .i32⟩
  | 113 => ⟨S_, .i32⟩
  | 114 => ⟨S128x100000, .i32⟩
  | 115 => ⟨S128x100000, .i32⟩
  | 116 => ⟨S_, .i32⟩
  | 117 => ⟨S128x100000, .i32⟩
  | 118 => ⟨S128x100000, .i32⟩
  | 119 => ⟨S128x100000, .i32⟩
  | 120 => ⟨S128x100000, .i32⟩
  | 121 => ⟨S128x100000, .i32⟩
  | 122 => ⟨S128x100000, .i32⟩
  | 123 => ⟨S128x100000, .i32⟩
  | 124 => ⟨S128x100000, .i32⟩
  | 125 => ⟨S_, .i32⟩
  | 126 => ⟨S128x100000, .i32⟩
  | 127 => ⟨S128x100000, .i32⟩
  | _ => ⟨S128x100000, .f32⟩

abbrev hbmTy0_1 (i : Nat) : BufTy := match i % 128 with
  | 0 => ⟨S128x100000, .i32⟩
  | 1 => ⟨S_, .i32⟩
  | 2 => ⟨S128x100000, .i32⟩
  | 3 => ⟨S128x100000, .i32⟩
  | 4 => ⟨S_, .i32⟩
  | 5 => ⟨S128x100000, .i32⟩
  | 6 => ⟨S128x100000, .i32⟩
  | 7 => ⟨S128x100000, .i32⟩
  | 8 => ⟨S128x100000, .i32⟩
  | 9 => ⟨S128x100000, .i32⟩
  | 10 => ⟨S_, .i32⟩
  | 11 => ⟨S128x100000, .i32⟩
  | 12 => ⟨S128x100000, .i32⟩
  | 13 => ⟨S_, .i32⟩
  | 14 => ⟨S128x100000, .i32⟩
  | 15 => ⟨S128x100000, .i32⟩
  | 16 => ⟨S128x100000, .i32⟩
  | 17 => ⟨S128x100000, .i32⟩
  | 18 => ⟨S128x100000, .i32⟩
  | 19 => ⟨S_, .i32⟩
  | 20 => ⟨S128x100000, .i32⟩
  | 21 => ⟨S128x100000, .i32⟩
  | 22 => ⟨S_, .i32⟩
  | 23 => ⟨S128x100000, .i32⟩
  | 24 => ⟨S128x100000, .i32⟩
  | 25 => ⟨S128x100000, .i32⟩
  | 26 => ⟨S128x100000, .i32⟩
  | 27 => ⟨S128x100000, .i32⟩
  | 28 => ⟨S_, .i32⟩
  | 29 => ⟨S128x100000, .i32⟩
  | 30 => ⟨S128x100000, .i32⟩
  | 31 => ⟨S_, .i32⟩
  | 32 => ⟨S128x100000, .i32⟩
  | 33 => ⟨S128x100000, .i32⟩
  | 34 => ⟨S128x100000, .i32⟩
  | 35 => ⟨S128x100000, .i32⟩
  | 36 => ⟨S128x100000, .i32⟩
  | 37 => ⟨S128x100000, .i32⟩
  | 38 => ⟨S128x100000, .i32⟩
  | 39 => ⟨S128x100000, .i32⟩
  | 40 => ⟨S_, .i32⟩
  | 41 => ⟨S128x100000, .i32⟩
  | 42 => ⟨S128x100000, .i32⟩
  | 43 => ⟨S128x100000, .i32⟩
  | 44 => ⟨S_, .i32⟩
  | 45 => ⟨S128x100000, .i32⟩
  | 46 => ⟨S128x100000, .i32⟩
  | 47 => ⟨S_, .i32⟩
  | 48 => ⟨S128x100000, .i32⟩
  | 49 => ⟨S128x100000, .i32⟩
  | 50 => ⟨S128x100000, .i32⟩
  | 51 => ⟨S128x100000, .i32⟩
  | 52 => ⟨S128x100000, .i32⟩
  | 53 => ⟨S_, .i32⟩
  | 54 => ⟨S128x100000, .i32⟩
  | 55 => ⟨S128x100000, .i32⟩
  | 56 => ⟨S_, .i32⟩
  | 57 => ⟨S128x100000, .i32⟩
  | 58 => ⟨S128x100000, .i32⟩
  | 59 => ⟨S128x100000, .i32⟩
  | 60 => ⟨S128x100000, .i32⟩
  | 61 => ⟨S128x100000, .i32⟩
  | 62 => ⟨S_, .i32⟩
  | 63 => ⟨S128x100000, .i32⟩
  | 64 => ⟨S128x100000, .i32⟩
  | 65 => ⟨S_, .i32⟩
  | 66 => ⟨S128x100000, .i32⟩
  | 67 => ⟨S128x100000, .i32⟩
  | 68 => ⟨S128x100000, .i32⟩
  | 69 => ⟨S128x100000, .i32⟩
  | 70 => ⟨S128x100000, .i32⟩
  | 71 => ⟨S_, .i32⟩
  | 72 => ⟨S128x100000, .i32⟩
  | 73 => ⟨S128x100000, .i32⟩
  | 74 => ⟨S_, .i32⟩
  | 75 => ⟨S128x100000, .i32⟩
  | 76 => ⟨S128x100000, .i32⟩
  | 77 => ⟨S128x100000, .i32⟩
  | 78 => ⟨S128x100000, .i32⟩
  | 79 => ⟨S128x100000, .i32⟩
  | 80 => ⟨S128x100000, .i32⟩
  | 81 => ⟨S128x100000, .i32⟩
  | 82 => ⟨S128x100000, .i32⟩
  | 83 => ⟨S_, .i32⟩
  | 84 => ⟨S128x100000, .i32⟩
  | 85 => ⟨S128x100000, .i32⟩
  | 86 => ⟨S128x100000, .i32⟩
  | 87 => ⟨S_, .i32⟩
  | 88 => ⟨S128x100000, .i32⟩
  | 89 => ⟨S128x100000, .i32⟩
  | 90 => ⟨S_, .i32⟩
  | 91 => ⟨S128x100000, .i32⟩
  | 92 => ⟨S128x100000, .i32⟩
  | 93 => ⟨S128x100000, .i32⟩
  | 94 => ⟨S128x100000, .i32⟩
  | 95 => ⟨S128x100000, .i32⟩
  | 96 => ⟨S_, .i32⟩
  | 97 => ⟨S128x100000, .i32⟩
  | 98 => ⟨S128x100000, .i32⟩
  | 99 => ⟨S_, .i32⟩
  | 100 => ⟨S128x100000, .i32⟩
  | 101 => ⟨S128x100000, .i32⟩
  | 102 => ⟨S128x100000, .i32⟩
  | 103 => ⟨S128x100000, .i32⟩
  | 104 => ⟨S128x100000, .i32⟩
  | 105 => ⟨S_, .i32⟩
  | 106 => ⟨S128x100000, .i32⟩
  | 107 => ⟨S128x100000, .i32⟩
  | 108 => ⟨S_, .i32⟩
  | 109 => ⟨S128x100000, .i32⟩
  | 110 => ⟨S128x100000, .i32⟩
  | 111 => ⟨S128x100000, .i32⟩
  | 112 => ⟨S128x100000, .i32⟩
  | 113 => ⟨S128x100000, .i32⟩
  | 114 => ⟨S_, .i32⟩
  | 115 => ⟨S128x100000, .i32⟩
  | 116 => ⟨S128x100000, .i32⟩
  | 117 => ⟨S_, .i32⟩
  | 118 => ⟨S128x100000, .i32⟩
  | 119 => ⟨S128x100000, .i32⟩
  | 120 => ⟨S128x100000, .i32⟩
  | 121 => ⟨S128x100000, .i32⟩
  | 122 => ⟨S128x100000, .i32⟩
  | 123 => ⟨S128x100000, .i32⟩
  | 124 => ⟨S128x100000, .i32⟩
  | 125 => ⟨S128x100000, .i32⟩
  | 126 => ⟨S_, .i32⟩
  | 127 => ⟨S128x100000, .i32⟩
  | _ => ⟨S128x100000, .f32⟩

abbrev hbmTy0_2 (i : Nat) : BufTy := match i % 128 with
  | 0 => ⟨S128x100000, .i32⟩
  | 1 => ⟨S128x100000, .i32⟩
  | 2 => ⟨S_, .i32⟩
  | 3 => ⟨S128x100000, .i32⟩
  | 4 => ⟨S128x100000, .i32⟩
  | 5 => ⟨S_, .i32⟩
  | 6 => ⟨S128x100000, .i32⟩
  | 7 => ⟨S128x100000, .i32⟩
  | 8 => ⟨S128x100000, .f32⟩
  | 9 => ⟨S_, .f32⟩
  | 10 => ⟨S128x100000, .f32⟩
  | 11 => ⟨S128x100000, .f32⟩
  | 12 => ⟨S1x1, .f32⟩
  | 13 => ⟨S128x100000, .f32⟩
  | 14 => ⟨S128x100000, .f32⟩
  | 15 => ⟨S128x100000, .f32⟩
  | 16 => ⟨S128x100000, .f32⟩
  | 17 => ⟨S128x100000, .f32⟩
  | 18 => ⟨S128x100000, .f32⟩
  | 19 => ⟨S_, .f32⟩
  | 20 => ⟨S128x100000, .f32⟩
  | 21 => ⟨S128x100000, .f32⟩
  | 22 => ⟨S128x100000, .f32⟩
  | 23 => ⟨S128x100000, .f32⟩
  | 24 => ⟨S128x100000, .f32⟩
  | 25 => ⟨S128x100000, .f32⟩
  | 26 => ⟨S128x100000, .f32⟩
  | 27 => ⟨S_, .f32⟩
  | 28 => ⟨S128x100000, .f32⟩
  | 29 => ⟨S_, .f32⟩
  | 30 => ⟨S128x100000, .f32⟩
  | 31 => ⟨S_, .f32⟩
  | 32 => ⟨S128x100000, .f32⟩
  | 33 => ⟨S128x100000, .f32⟩
  | 34 => ⟨S_, .f32⟩
  | 35 => ⟨S128x100000, .f32⟩
  | 36 => ⟨S128x100000, .f32⟩
  | 37 => ⟨S128x100000, .f32⟩
  | 38 => ⟨S128x100000, .f32⟩
  | 39 => ⟨S_, .f32⟩
  | 40 => ⟨S128x100000, .f32⟩
  | 41 => ⟨S128x100000, .f32⟩
  | 42 => ⟨S_, .f32⟩
  | 43 => ⟨S128, .f32⟩
  | 44 => ⟨S_, .f32⟩
  | 45 => ⟨S128, .f32⟩
  | 46 => ⟨S128, .f32⟩
  | 47 => ⟨S128x1, .f32⟩
  | 48 => ⟨S128x100000, .f32⟩
  | 49 => ⟨S128x100000, .f32⟩
  | 50 => ⟨S128x100000, .f32⟩
  | 51 => ⟨S_, .f32⟩
  | 52 => ⟨S128, .f32⟩
  | 53 => ⟨S128x1, .f32⟩
  | 54 => ⟨S128x100000, .f32⟩
  | 55 => ⟨S128x100000, .f32⟩
  | 56 => ⟨S128x100000, .f32⟩
  | 57 => ⟨S_, .f32⟩
  | 58 => ⟨S128x100000, .f32⟩
  | 59 => ⟨S128x100000, .f32⟩
  | 60 => ⟨S_, .f32⟩
  | 61 => ⟨S128x100000, .f32⟩
  | 62 => ⟨S128x100000, .f32⟩
  | 63 => ⟨S128x100000, .f32⟩
  | 64 => ⟨S128x100000, .f32⟩
  | 65 => ⟨S_, .f32⟩
  | 66 => ⟨S128x100000, .f32⟩
  | 67 => ⟨S128x100000, .f32⟩
  | 68 => ⟨S_, .f32⟩
  | 69 => ⟨S128, .f32⟩
  | 70 => ⟨S_, .f32⟩
  | 71 => ⟨S128, .f32⟩
  | 72 => ⟨S128, .f32⟩
  | 73 => ⟨S128x1, .f32⟩
  | 74 => ⟨S128x100000, .f32⟩
  | 75 => ⟨S128x100000, .f32⟩
  | 76 => ⟨S128x100000, .f32⟩
  | 77 => ⟨S_, .f32⟩
  | 78 => ⟨S128, .f32⟩
  | 79 => ⟨S128x1, .f32⟩
  | 80 => ⟨S128x100000, .f32⟩
  | 81 => ⟨S128x100000, .f32⟩
  | 82 => ⟨S128x100000, .f32⟩
  | 83 => ⟨S128x2, .f32⟩
  | 84 => ⟨S128x2, .i32⟩
  | 85 => ⟨S128, .i32⟩
  | 86 => ⟨S128x1, .i32⟩
  | 87 => ⟨S_, .f32⟩
  | 88 => ⟨S128x100000, .f32⟩
  | 89 => ⟨S_, .i32⟩
  | 90 => ⟨S128x1, .i32⟩
  | 91 => ⟨S128x1, .i1⟩
  | 92 => ⟨S_, .i32⟩
  | 93 => ⟨S128x1, .i32⟩
  | 94 => ⟨S128x1, .i32⟩
  | 95 => ⟨S128x1, .i32⟩
  | 96 => ⟨S_, .i32⟩
  | 97 => ⟨S128x2, .i32⟩
  | 98 => ⟨S128x2, .i1⟩
  | 99 => ⟨S_, .i32⟩
  | 100 => ⟨S128x2, .i32⟩
  | 101 => ⟨S128x2, .i32⟩
  | 102 => ⟨S128x2, .i32⟩
  | 103 => ⟨S128x2, .i32⟩
  | 104 => ⟨S128x2x1, .i32⟩
  | 105 => ⟨S128x2x1, .i32⟩
  | 106 => ⟨S128x2x2, .i32⟩
  | 107 => ⟨S_, .f32⟩
  | 108 => ⟨S128x2, .f32⟩
  | 109 => ⟨S128x100000, .f32⟩
  | 110 => ⟨S128x100000, .f32⟩
  | 111 => ⟨S128x100000, .f32⟩
  | _ => ⟨S128x100000, .f32⟩

abbrev hbmTy (i : Nat) : BufTy := match i / 128 with
  | 0 => hbmTy0_0 i
  | 1 => hbmTy0_1 i
  | 2 => hbmTy0_2 i
  | _ => ⟨S128x100000, .f32⟩

abbrev bufTy : (tb : Table) → Fin (tcTables nBuf tb) → BufTy
  | .hbm, ⟨i, _⟩ => hbmTy i
  | _, _ => ⟨S128x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c_1 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_cst_2 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_c : Ref sig .tc := ⟨.hbm, 23, rfl⟩
abbrev main_call0_v10 : Ref sig .tc := ⟨.hbm, 24, rfl⟩
abbrev main_call0_v11 : Ref sig .tc := ⟨.hbm, 25, rfl⟩
abbrev main_call0_c_0 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_call0_c_1 : Ref sig .tc := ⟨.hbm, 30, rfl⟩
abbrev main_call0_v15 : Ref sig .tc := ⟨.hbm, 31, rfl⟩
abbrev main_call0_v16 : Ref sig .tc := ⟨.hbm, 32, rfl⟩
abbrev main_call0_v17 : Ref sig .tc := ⟨.hbm, 33, rfl⟩
abbrev main_call0_v18 : Ref sig .tc := ⟨.hbm, 34, rfl⟩
abbrev main_call0_call0_v0 : Ref sig .tc := ⟨.hbm, 35, rfl⟩
abbrev main_call0_call0_c : Ref sig .tc := ⟨.hbm, 36, rfl⟩
abbrev main_call0_call0_v1 : Ref sig .tc := ⟨.hbm, 37, rfl⟩
abbrev main_call0_call0_v2 : Ref sig .tc := ⟨.hbm, 38, rfl⟩
abbrev main_call0_call0_v3 : Ref sig .tc := ⟨.hbm, 39, rfl⟩
abbrev main_call0_call0_v4 : Ref sig .tc := ⟨.hbm, 40, rfl⟩
abbrev main_call0_call0_v5 : Ref sig .tc := ⟨.hbm, 41, rfl⟩
abbrev main_call0_call0_v6 : Ref sig .tc := ⟨.hbm, 42, rfl⟩
abbrev main_call0_call0_c_0 : Ref sig .tc := ⟨.hbm, 43, rfl⟩
abbrev main_call0_call0_v7 : Ref sig .tc := ⟨.hbm, 44, rfl⟩
abbrev main_call0_call0_v8 : Ref sig .tc := ⟨.hbm, 45, rfl⟩
abbrev main_call0_call0_c_1 : Ref sig .tc := ⟨.hbm, 46, rfl⟩
abbrev main_call0_call0_v9 : Ref sig .tc := ⟨.hbm, 47, rfl⟩
abbrev main_call0_call0_v10 : Ref sig .tc := ⟨.hbm, 48, rfl⟩
abbrev main_call0_call0_v11 : Ref sig .tc := ⟨.hbm, 49, rfl⟩
abbrev main_call0_call0_v12 : Ref sig .tc := ⟨.hbm, 50, rfl⟩
abbrev main_call0_call0_v13 : Ref sig .tc := ⟨.hbm, 51, rfl⟩
abbrev main_call0_call0_c_2 : Ref sig .tc := ⟨.hbm, 52, rfl⟩
abbrev main_call0_call0_v14 : Ref sig .tc := ⟨.hbm, 53, rfl⟩
abbrev main_call0_call0_v15 : Ref sig .tc := ⟨.hbm, 54, rfl⟩
abbrev main_call0_call0_c_3 : Ref sig .tc := ⟨.hbm, 55, rfl⟩
abbrev main_call0_call0_v16 : Ref sig .tc := ⟨.hbm, 56, rfl⟩
abbrev main_call0_call0_v17 : Ref sig .tc := ⟨.hbm, 57, rfl⟩
abbrev main_call0_call0_v18 : Ref sig .tc := ⟨.hbm, 58, rfl⟩
abbrev main_call0_call0_v19 : Ref sig .tc := ⟨.hbm, 59, rfl⟩
abbrev main_call0_call0_v20 : Ref sig .tc := ⟨.hbm, 60, rfl⟩
abbrev main_call0_call0_c_4 : Ref sig .tc := ⟨.hbm, 61, rfl⟩
abbrev main_call0_call0_v21 : Ref sig .tc := ⟨.hbm, 62, rfl⟩
abbrev main_call0_call0_v22 : Ref sig .tc := ⟨.hbm, 63, rfl⟩
abbrev main_call0_call0_c_5 : Ref sig .tc := ⟨.hbm, 64, rfl⟩
abbrev main_call0_call0_v23 : Ref sig .tc := ⟨.hbm, 65, rfl⟩
abbrev main_call0_call0_v24 : Ref sig .tc := ⟨.hbm, 66, rfl⟩
abbrev main_call0_call0_v25 : Ref sig .tc := ⟨.hbm, 67, rfl⟩
abbrev main_call0_call0_v26 : Ref sig .tc := ⟨.hbm, 68, rfl⟩
abbrev main_call0_call0_v27 : Ref sig .tc := ⟨.hbm, 69, rfl⟩
abbrev main_call0_call0_c_6 : Ref sig .tc := ⟨.hbm, 70, rfl⟩
abbrev main_call0_call0_v28 : Ref sig .tc := ⟨.hbm, 71, rfl⟩
abbrev main_call0_call0_v29 : Ref sig .tc := ⟨.hbm, 72, rfl⟩
abbrev main_call0_call0_c_7 : Ref sig .tc := ⟨.hbm, 73, rfl⟩
abbrev main_call0_call0_v30 : Ref sig .tc := ⟨.hbm, 74, rfl⟩
abbrev main_call0_call0_v31 : Ref sig .tc := ⟨.hbm, 75, rfl⟩
abbrev main_call0_call0_v32 : Ref sig .tc := ⟨.hbm, 76, rfl⟩
abbrev main_call0_call0_v33 : Ref sig .tc := ⟨.hbm, 77, rfl⟩
abbrev main_call0_call0_v34 : Ref sig .tc := ⟨.hbm, 78, rfl⟩
abbrev main_call0_call0_v35 : Ref sig .tc := ⟨.hbm, 79, rfl⟩
abbrev main_call0_call0_v36 : Ref sig .tc := ⟨.hbm, 80, rfl⟩
abbrev main_call0_call0_v37 : Ref sig .tc := ⟨.hbm, 81, rfl⟩
abbrev main_call0_call0_c_8 : Ref sig .tc := ⟨.hbm, 82, rfl⟩
abbrev main_call0_call0_v38 : Ref sig .tc := ⟨.hbm, 83, rfl⟩
abbrev main_call0_call0_v39 : Ref sig .tc := ⟨.hbm, 84, rfl⟩
abbrev main_call0_call0_v40 : Ref sig .tc := ⟨.hbm, 85, rfl⟩
abbrev main_call0_call0_c_9 : Ref sig .tc := ⟨.hbm, 86, rfl⟩
abbrev main_call0_call0_v41 : Ref sig .tc := ⟨.hbm, 87, rfl⟩
abbrev main_call0_call0_v42 : Ref sig .tc := ⟨.hbm, 88, rfl⟩
abbrev main_call0_call0_c_10 : Ref sig .tc := ⟨.hbm, 89, rfl⟩
abbrev main_call0_call0_v43 : Ref sig .tc := ⟨.hbm, 90, rfl⟩
abbrev main_call0_call0_v44 : Ref sig .tc := ⟨.hbm, 91, rfl⟩
abbrev main_call0_call0_v45 : Ref sig .tc := ⟨.hbm, 92, rfl⟩
abbrev main_call0_call0_v46 : Ref sig .tc := ⟨.hbm, 93, rfl⟩
abbrev main_call0_call0_v47 : Ref sig .tc := ⟨.hbm, 94, rfl⟩
abbrev main_call0_call0_c_11 : Ref sig .tc := ⟨.hbm, 95, rfl⟩
abbrev main_call0_call0_v48 : Ref sig .tc := ⟨.hbm, 96, rfl⟩
abbrev main_call0_call0_v49 : Ref sig .tc := ⟨.hbm, 97, rfl⟩
abbrev main_call0_call0_c_12 : Ref sig .tc := ⟨.hbm, 98, rfl⟩
abbrev main_call0_call0_v50 : Ref sig .tc := ⟨.hbm, 99, rfl⟩
abbrev main_call0_call0_v51 : Ref sig .tc := ⟨.hbm, 100, rfl⟩
abbrev main_call0_call0_v52 : Ref sig .tc := ⟨.hbm, 101, rfl⟩
abbrev main_call0_call0_v53 : Ref sig .tc := ⟨.hbm, 102, rfl⟩
abbrev main_call0_call0_v54 : Ref sig .tc := ⟨.hbm, 103, rfl⟩
abbrev main_call0_call0_c_13 : Ref sig .tc := ⟨.hbm, 104, rfl⟩
abbrev main_call0_call0_v55 : Ref sig .tc := ⟨.hbm, 105, rfl⟩
abbrev main_call0_call0_v56 : Ref sig .tc := ⟨.hbm, 106, rfl⟩
abbrev main_call0_call0_c_14 : Ref sig .tc := ⟨.hbm, 107, rfl⟩
abbrev main_call0_call0_v57 : Ref sig .tc := ⟨.hbm, 108, rfl⟩
abbrev main_call0_call0_v58 : Ref sig .tc := ⟨.hbm, 109, rfl⟩
abbrev main_call0_call0_v59 : Ref sig .tc := ⟨.hbm, 110, rfl⟩
abbrev main_call0_call0_v60 : Ref sig .tc := ⟨.hbm, 111, rfl⟩
abbrev main_call0_call0_v61 : Ref sig .tc := ⟨.hbm, 112, rfl⟩
abbrev main_call0_call0_c_15 : Ref sig .tc := ⟨.hbm, 113, rfl⟩
abbrev main_call0_call0_v62 : Ref sig .tc := ⟨.hbm, 114, rfl⟩
abbrev main_call0_call0_v63 : Ref sig .tc := ⟨.hbm, 115, rfl⟩
abbrev main_call0_call0_c_16 : Ref sig .tc := ⟨.hbm, 116, rfl⟩
abbrev main_call0_call0_v64 : Ref sig .tc := ⟨.hbm, 117, rfl⟩
abbrev main_call0_call0_v65 : Ref sig .tc := ⟨.hbm, 118, rfl⟩
abbrev main_call0_call0_v66 : Ref sig .tc := ⟨.hbm, 119, rfl⟩
abbrev main_call0_call0_v67 : Ref sig .tc := ⟨.hbm, 120, rfl⟩
abbrev main_call0_call0_v68 : Ref sig .tc := ⟨.hbm, 121, rfl⟩
abbrev main_call0_call0_v69 : Ref sig .tc := ⟨.hbm, 122, rfl⟩
abbrev main_call0_call0_v70 : Ref sig .tc := ⟨.hbm, 123, rfl⟩
abbrev main_call0_call0_v71 : Ref sig .tc := ⟨.hbm, 124, rfl⟩
abbrev main_call0_call0_c_17 : Ref sig .tc := ⟨.hbm, 125, rfl⟩
abbrev main_call0_call0_v72 : Ref sig .tc := ⟨.hbm, 126, rfl⟩
abbrev main_call0_call0_v73 : Ref sig .tc := ⟨.hbm, 127, rfl⟩
abbrev main_call0_call0_v74 : Ref sig .tc := ⟨.hbm, 128, rfl⟩
abbrev main_call0_call0_c_18 : Ref sig .tc := ⟨.hbm, 129, rfl⟩
abbrev main_call0_call0_v75 : Ref sig .tc := ⟨.hbm, 130, rfl⟩
abbrev main_call0_call0_v76 : Ref sig .tc := ⟨.hbm, 131, rfl⟩
abbrev main_call0_call0_c_19 : Ref sig .tc := ⟨.hbm, 132, rfl⟩
abbrev main_call0_call0_v77 : Ref sig .tc := ⟨.hbm, 133, rfl⟩
abbrev main_call0_call0_v78 : Ref sig .tc := ⟨.hbm, 134, rfl⟩
abbrev main_call0_call0_v79 : Ref sig .tc := ⟨.hbm, 135, rfl⟩
abbrev main_call0_call0_v80 : Ref sig .tc := ⟨.hbm, 136, rfl⟩
abbrev main_call0_call0_v81 : Ref sig .tc := ⟨.hbm, 137, rfl⟩
abbrev main_call0_call0_c_20 : Ref sig .tc := ⟨.hbm, 138, rfl⟩
abbrev main_call0_call0_v82 : Ref sig .tc := ⟨.hbm, 139, rfl⟩
abbrev main_call0_call0_v83 : Ref sig .tc := ⟨.hbm, 140, rfl⟩
abbrev main_call0_call0_c_21 : Ref sig .tc := ⟨.hbm, 141, rfl⟩
abbrev main_call0_call0_v84 : Ref sig .tc := ⟨.hbm, 142, rfl⟩
abbrev main_call0_call0_v85 : Ref sig .tc := ⟨.hbm, 143, rfl⟩
abbrev main_call0_call0_v86 : Ref sig .tc := ⟨.hbm, 144, rfl⟩
abbrev main_call0_call0_v87 : Ref sig .tc := ⟨.hbm, 145, rfl⟩
abbrev main_call0_call0_v88 : Ref sig .tc := ⟨.hbm, 146, rfl⟩
abbrev main_call0_call0_c_22 : Ref sig .tc := ⟨.hbm, 147, rfl⟩
abbrev main_call0_call0_v89 : Ref sig .tc := ⟨.hbm, 148, rfl⟩
abbrev main_call0_call0_v90 : Ref sig .tc := ⟨.hbm, 149, rfl⟩
abbrev main_call0_call0_c_23 : Ref sig .tc := ⟨.hbm, 150, rfl⟩
abbrev main_call0_call0_v91 : Ref sig .tc := ⟨.hbm, 151, rfl⟩
abbrev main_call0_call0_v92 : Ref sig .tc := ⟨.hbm, 152, rfl⟩
abbrev main_call0_call0_v93 : Ref sig .tc := ⟨.hbm, 153, rfl⟩
abbrev main_call0_call0_v94 : Ref sig .tc := ⟨.hbm, 154, rfl⟩
abbrev main_call0_call0_v95 : Ref sig .tc := ⟨.hbm, 155, rfl⟩
abbrev main_call0_call0_c_24 : Ref sig .tc := ⟨.hbm, 156, rfl⟩
abbrev main_call0_call0_v96 : Ref sig .tc := ⟨.hbm, 157, rfl⟩
abbrev main_call0_call0_v97 : Ref sig .tc := ⟨.hbm, 158, rfl⟩
abbrev main_call0_call0_c_25 : Ref sig .tc := ⟨.hbm, 159, rfl⟩
abbrev main_call0_call0_v98 : Ref sig .tc := ⟨.hbm, 160, rfl⟩
abbrev main_call0_call0_v99 : Ref sig .tc := ⟨.hbm, 161, rfl⟩
abbrev main_call0_call0_v100 : Ref sig .tc := ⟨.hbm, 162, rfl⟩
abbrev main_call0_call0_v101 : Ref sig .tc := ⟨.hbm, 163, rfl⟩
abbrev main_call0_call0_v102 : Ref sig .tc := ⟨.hbm, 164, rfl⟩
abbrev main_call0_call0_v103 : Ref sig .tc := ⟨.hbm, 165, rfl⟩
abbrev main_call0_call0_v104 : Ref sig .tc := ⟨.hbm, 166, rfl⟩
abbrev main_call0_call0_v105 : Ref sig .tc := ⟨.hbm, 167, rfl⟩
abbrev main_call0_call0_c_26 : Ref sig .tc := ⟨.hbm, 168, rfl⟩
abbrev main_call0_call0_v106 : Ref sig .tc := ⟨.hbm, 169, rfl⟩
abbrev main_call0_call0_v107 : Ref sig .tc := ⟨.hbm, 170, rfl⟩
abbrev main_call0_call0_v108 : Ref sig .tc := ⟨.hbm, 171, rfl⟩
abbrev main_call0_call0_c_27 : Ref sig .tc := ⟨.hbm, 172, rfl⟩
abbrev main_call0_call0_v109 : Ref sig .tc := ⟨.hbm, 173, rfl⟩
abbrev main_call0_call0_v110 : Ref sig .tc := ⟨.hbm, 174, rfl⟩
abbrev main_call0_call0_c_28 : Ref sig .tc := ⟨.hbm, 175, rfl⟩
abbrev main_call0_call0_v111 : Ref sig .tc := ⟨.hbm, 176, rfl⟩
abbrev main_call0_call0_v112 : Ref sig .tc := ⟨.hbm, 177, rfl⟩
abbrev main_call0_call0_v113 : Ref sig .tc := ⟨.hbm, 178, rfl⟩
abbrev main_call0_call0_v114 : Ref sig .tc := ⟨.hbm, 179, rfl⟩
abbrev main_call0_call0_v115 : Ref sig .tc := ⟨.hbm, 180, rfl⟩
abbrev main_call0_call0_c_29 : Ref sig .tc := ⟨.hbm, 181, rfl⟩
abbrev main_call0_call0_v116 : Ref sig .tc := ⟨.hbm, 182, rfl⟩
abbrev main_call0_call0_v117 : Ref sig .tc := ⟨.hbm, 183, rfl⟩
abbrev main_call0_call0_c_30 : Ref sig .tc := ⟨.hbm, 184, rfl⟩
abbrev main_call0_call0_v118 : Ref sig .tc := ⟨.hbm, 185, rfl⟩
abbrev main_call0_call0_v119 : Ref sig .tc := ⟨.hbm, 186, rfl⟩
abbrev main_call0_call0_v120 : Ref sig .tc := ⟨.hbm, 187, rfl⟩
abbrev main_call0_call0_v121 : Ref sig .tc := ⟨.hbm, 188, rfl⟩
abbrev main_call0_call0_v122 : Ref sig .tc := ⟨.hbm, 189, rfl⟩
abbrev main_call0_call0_c_31 : Ref sig .tc := ⟨.hbm, 190, rfl⟩
abbrev main_call0_call0_v123 : Ref sig .tc := ⟨.hbm, 191, rfl⟩
abbrev main_call0_call0_v124 : Ref sig .tc := ⟨.hbm, 192, rfl⟩
abbrev main_call0_call0_c_32 : Ref sig .tc := ⟨.hbm, 193, rfl⟩
abbrev main_call0_call0_v125 : Ref sig .tc := ⟨.hbm, 194, rfl⟩
abbrev main_call0_call0_v126 : Ref sig .tc := ⟨.hbm, 195, rfl⟩
abbrev main_call0_call0_v127 : Ref sig .tc := ⟨.hbm, 196, rfl⟩
abbrev main_call0_call0_v128 : Ref sig .tc := ⟨.hbm, 197, rfl⟩
abbrev main_call0_call0_v129 : Ref sig .tc := ⟨.hbm, 198, rfl⟩
abbrev main_call0_call0_c_33 : Ref sig .tc := ⟨.hbm, 199, rfl⟩
abbrev main_call0_call0_v130 : Ref sig .tc := ⟨.hbm, 200, rfl⟩
abbrev main_call0_call0_v131 : Ref sig .tc := ⟨.hbm, 201, rfl⟩
abbrev main_call0_call0_c_34 : Ref sig .tc := ⟨.hbm, 202, rfl⟩
abbrev main_call0_call0_v132 : Ref sig .tc := ⟨.hbm, 203, rfl⟩
abbrev main_call0_call0_v133 : Ref sig .tc := ⟨.hbm, 204, rfl⟩
abbrev main_call0_call0_v134 : Ref sig .tc := ⟨.hbm, 205, rfl⟩
abbrev main_call0_call0_v135 : Ref sig .tc := ⟨.hbm, 206, rfl⟩
abbrev main_call0_call0_v136 : Ref sig .tc := ⟨.hbm, 207, rfl⟩
abbrev main_call0_call0_v137 : Ref sig .tc := ⟨.hbm, 208, rfl⟩
abbrev main_call0_call0_v138 : Ref sig .tc := ⟨.hbm, 209, rfl⟩
abbrev main_call0_call0_v139 : Ref sig .tc := ⟨.hbm, 210, rfl⟩
abbrev main_call0_call0_c_35 : Ref sig .tc := ⟨.hbm, 211, rfl⟩
abbrev main_call0_call0_v140 : Ref sig .tc := ⟨.hbm, 212, rfl⟩
abbrev main_call0_call0_v141 : Ref sig .tc := ⟨.hbm, 213, rfl⟩
abbrev main_call0_call0_v142 : Ref sig .tc := ⟨.hbm, 214, rfl⟩
abbrev main_call0_call0_c_36 : Ref sig .tc := ⟨.hbm, 215, rfl⟩
abbrev main_call0_call0_v143 : Ref sig .tc := ⟨.hbm, 216, rfl⟩
abbrev main_call0_call0_v144 : Ref sig .tc := ⟨.hbm, 217, rfl⟩
abbrev main_call0_call0_c_37 : Ref sig .tc := ⟨.hbm, 218, rfl⟩
abbrev main_call0_call0_v145 : Ref sig .tc := ⟨.hbm, 219, rfl⟩
abbrev main_call0_call0_v146 : Ref sig .tc := ⟨.hbm, 220, rfl⟩
abbrev main_call0_call0_v147 : Ref sig .tc := ⟨.hbm, 221, rfl⟩
abbrev main_call0_call0_v148 : Ref sig .tc := ⟨.hbm, 222, rfl⟩
abbrev main_call0_call0_v149 : Ref sig .tc := ⟨.hbm, 223, rfl⟩
abbrev main_call0_call0_c_38 : Ref sig .tc := ⟨.hbm, 224, rfl⟩
abbrev main_call0_call0_v150 : Ref sig .tc := ⟨.hbm, 225, rfl⟩
abbrev main_call0_call0_v151 : Ref sig .tc := ⟨.hbm, 226, rfl⟩
abbrev main_call0_call0_c_39 : Ref sig .tc := ⟨.hbm, 227, rfl⟩
abbrev main_call0_call0_v152 : Ref sig .tc := ⟨.hbm, 228, rfl⟩
abbrev main_call0_call0_v153 : Ref sig .tc := ⟨.hbm, 229, rfl⟩
abbrev main_call0_call0_v154 : Ref sig .tc := ⟨.hbm, 230, rfl⟩
abbrev main_call0_call0_v155 : Ref sig .tc := ⟨.hbm, 231, rfl⟩
abbrev main_call0_call0_v156 : Ref sig .tc := ⟨.hbm, 232, rfl⟩
abbrev main_call0_call0_c_40 : Ref sig .tc := ⟨.hbm, 233, rfl⟩
abbrev main_call0_call0_v157 : Ref sig .tc := ⟨.hbm, 234, rfl⟩
abbrev main_call0_call0_v158 : Ref sig .tc := ⟨.hbm, 235, rfl⟩
abbrev main_call0_call0_c_41 : Ref sig .tc := ⟨.hbm, 236, rfl⟩
abbrev main_call0_call0_v159 : Ref sig .tc := ⟨.hbm, 237, rfl⟩
abbrev main_call0_call0_v160 : Ref sig .tc := ⟨.hbm, 238, rfl⟩
abbrev main_call0_call0_v161 : Ref sig .tc := ⟨.hbm, 239, rfl⟩
abbrev main_call0_call0_v162 : Ref sig .tc := ⟨.hbm, 240, rfl⟩
abbrev main_call0_call0_v163 : Ref sig .tc := ⟨.hbm, 241, rfl⟩
abbrev main_call0_call0_c_42 : Ref sig .tc := ⟨.hbm, 242, rfl⟩
abbrev main_call0_call0_v164 : Ref sig .tc := ⟨.hbm, 243, rfl⟩
abbrev main_call0_call0_v165 : Ref sig .tc := ⟨.hbm, 244, rfl⟩
abbrev main_call0_call0_c_43 : Ref sig .tc := ⟨.hbm, 245, rfl⟩
abbrev main_call0_call0_v166 : Ref sig .tc := ⟨.hbm, 246, rfl⟩
abbrev main_call0_call0_v167 : Ref sig .tc := ⟨.hbm, 247, rfl⟩
abbrev main_call0_call0_v168 : Ref sig .tc := ⟨.hbm, 248, rfl⟩
abbrev main_call0_call0_v169 : Ref sig .tc := ⟨.hbm, 249, rfl⟩
abbrev main_call0_call0_v170 : Ref sig .tc := ⟨.hbm, 250, rfl⟩
abbrev main_call0_v19_0 : Ref sig .tc := ⟨.hbm, 251, rfl⟩
abbrev main_call0_call0_v172 : Ref sig .tc := ⟨.hbm, 252, rfl⟩
abbrev main_call0_call0_v173 : Ref sig .tc := ⟨.hbm, 253, rfl⟩
abbrev main_call0_call0_c_44 : Ref sig .tc := ⟨.hbm, 254, rfl⟩
abbrev main_call0_call0_v174 : Ref sig .tc := ⟨.hbm, 255, rfl⟩
abbrev main_call0_v19_1 : Ref sig .tc := ⟨.hbm, 256, rfl⟩
abbrev main_call0_v20 : Ref sig .tc := ⟨.hbm, 257, rfl⟩
abbrev main_call0_c_2 : Ref sig .tc := ⟨.hbm, 258, rfl⟩
abbrev main_call0_v21 : Ref sig .tc := ⟨.hbm, 259, rfl⟩
abbrev main_call0_v22 : Ref sig .tc := ⟨.hbm, 260, rfl⟩
abbrev main_call0_c_3 : Ref sig .tc := ⟨.hbm, 261, rfl⟩
abbrev main_call0_v23 : Ref sig .tc := ⟨.hbm, 262, rfl⟩
abbrev main_call0_v24 : Ref sig .tc := ⟨.hbm, 263, rfl⟩
abbrev main_call0_v25 : Ref sig .tc := ⟨.hbm, 264, rfl⟩
abbrev main_call0_cst : Ref sig .tc := ⟨.hbm, 265, rfl⟩
abbrev main_call0_v26 : Ref sig .tc := ⟨.hbm, 266, rfl⟩
abbrev main_call0_v27 : Ref sig .tc := ⟨.hbm, 267, rfl⟩
abbrev main_call0_v28 : Ref sig .tc := ⟨.hbm, 268, rfl⟩
abbrev main_call0_v29 : Ref sig .tc := ⟨.hbm, 269, rfl⟩
abbrev main_call0_v30 : Ref sig .tc := ⟨.hbm, 270, rfl⟩
abbrev main_call0_v31 : Ref sig .tc := ⟨.hbm, 271, rfl⟩
abbrev main_call0_v32 : Ref sig .tc := ⟨.hbm, 272, rfl⟩
abbrev main_call0_v33 : Ref sig .tc := ⟨.hbm, 273, rfl⟩
abbrev main_v7 : Ref sig .tc := ⟨.hbm, 274, rfl⟩
abbrev main_cst_3 : Ref sig .tc := ⟨.hbm, 275, rfl⟩
abbrev main_v8 : Ref sig .tc := ⟨.hbm, 276, rfl⟩
abbrev main_v9 : Ref sig .tc := ⟨.hbm, 277, rfl⟩
abbrev main_v10 : Ref sig .tc := ⟨.hbm, 278, rfl⟩
abbrev main_v11 : Ref sig .tc := ⟨.hbm, 279, rfl⟩
abbrev main_v12 : Ref sig .tc := ⟨.hbm, 280, rfl⟩
abbrev main_v13 : Ref sig .tc := ⟨.hbm, 281, rfl⟩
abbrev main_v14 : Ref sig .tc := ⟨.hbm, 282, rfl⟩
abbrev main_cst_4 : Ref sig .tc := ⟨.hbm, 283, rfl⟩
abbrev main_v15 : Ref sig .tc := ⟨.hbm, 284, rfl⟩
abbrev main_cst_5 : Ref sig .tc := ⟨.hbm, 285, rfl⟩
abbrev main_v16 : Ref sig .tc := ⟨.hbm, 286, rfl⟩
abbrev main_cst_6 : Ref sig .tc := ⟨.hbm, 287, rfl⟩
abbrev main_v17 : Ref sig .tc := ⟨.hbm, 288, rfl⟩
abbrev main_v18 : Ref sig .tc := ⟨.hbm, 289, rfl⟩
abbrev main_cst_7 : Ref sig .tc := ⟨.hbm, 290, rfl⟩
abbrev main_v19 : Ref sig .tc := ⟨.hbm, 291, rfl⟩
abbrev main_v20 : Ref sig .tc := ⟨.hbm, 292, rfl⟩
abbrev main_v21 : Ref sig .tc := ⟨.hbm, 293, rfl⟩
abbrev main_v22 : Ref sig .tc := ⟨.hbm, 294, rfl⟩
abbrev main_cst_8 : Ref sig .tc := ⟨.hbm, 295, rfl⟩
abbrev main_v23 : Ref sig .tc := ⟨.hbm, 296, rfl⟩
abbrev main_v24 : Ref sig .tc := ⟨.hbm, 297, rfl⟩
abbrev main_cst_9 : Ref sig .tc := ⟨.hbm, 298, rfl⟩
abbrev main_v25 : Ref sig .tc := ⟨.hbm, 299, rfl⟩
abbrev main_cst_10 : Ref sig .tc := ⟨.hbm, 300, rfl⟩
abbrev main_v26 : Ref sig .tc := ⟨.hbm, 301, rfl⟩
abbrev main_v27 : Ref sig .tc := ⟨.hbm, 302, rfl⟩
abbrev main_v28 : Ref sig .tc := ⟨.hbm, 303, rfl⟩
abbrev main_v29 : Ref sig .tc := ⟨.hbm, 304, rfl⟩
abbrev main_v30 : Ref sig .tc := ⟨.hbm, 305, rfl⟩
abbrev main_v31 : Ref sig .tc := ⟨.hbm, 306, rfl⟩
abbrev main_cst_11 : Ref sig .tc := ⟨.hbm, 307, rfl⟩
abbrev main_v32 : Ref sig .tc := ⟨.hbm, 308, rfl⟩
abbrev main_v33 : Ref sig .tc := ⟨.hbm, 309, rfl⟩
abbrev main_v34 : Ref sig .tc := ⟨.hbm, 310, rfl⟩
abbrev main_v35 : Ref sig .tc := ⟨.hbm, 311, rfl⟩
abbrev main_v36 : Ref sig .tc := ⟨.hbm, 312, rfl⟩
abbrev main_cst_12 : Ref sig .tc := ⟨.hbm, 313, rfl⟩
abbrev main_v37 : Ref sig .tc := ⟨.hbm, 314, rfl⟩
abbrev main_v38 : Ref sig .tc := ⟨.hbm, 315, rfl⟩
abbrev main_cst_13 : Ref sig .tc := ⟨.hbm, 316, rfl⟩
abbrev main_v39 : Ref sig .tc := ⟨.hbm, 317, rfl⟩
abbrev main_v40 : Ref sig .tc := ⟨.hbm, 318, rfl⟩
abbrev main_v41 : Ref sig .tc := ⟨.hbm, 319, rfl⟩
abbrev main_v42 : Ref sig .tc := ⟨.hbm, 320, rfl⟩
abbrev main_cst_14 : Ref sig .tc := ⟨.hbm, 321, rfl⟩
abbrev main_v43 : Ref sig .tc := ⟨.hbm, 322, rfl⟩
abbrev main_v44 : Ref sig .tc := ⟨.hbm, 323, rfl⟩
abbrev main_cst_15 : Ref sig .tc := ⟨.hbm, 324, rfl⟩
abbrev main_v45 : Ref sig .tc := ⟨.hbm, 325, rfl⟩
abbrev main_cst_16 : Ref sig .tc := ⟨.hbm, 326, rfl⟩
abbrev main_v46 : Ref sig .tc := ⟨.hbm, 327, rfl⟩
abbrev main_v47 : Ref sig .tc := ⟨.hbm, 328, rfl⟩
abbrev main_v48 : Ref sig .tc := ⟨.hbm, 329, rfl⟩
abbrev main_v49 : Ref sig .tc := ⟨.hbm, 330, rfl⟩
abbrev main_v50 : Ref sig .tc := ⟨.hbm, 331, rfl⟩
abbrev main_v51 : Ref sig .tc := ⟨.hbm, 332, rfl⟩
abbrev main_cst_17 : Ref sig .tc := ⟨.hbm, 333, rfl⟩
abbrev main_v52 : Ref sig .tc := ⟨.hbm, 334, rfl⟩
abbrev main_v53 : Ref sig .tc := ⟨.hbm, 335, rfl⟩
abbrev main_v54 : Ref sig .tc := ⟨.hbm, 336, rfl⟩
abbrev main_v55 : Ref sig .tc := ⟨.hbm, 337, rfl⟩
abbrev main_v56 : Ref sig .tc := ⟨.hbm, 338, rfl⟩
abbrev main_values : Ref sig .tc := ⟨.hbm, 339, rfl⟩
abbrev main_indices : Ref sig .tc := ⟨.hbm, 340, rfl⟩
abbrev main_v57 : Ref sig .tc := ⟨.hbm, 341, rfl⟩
abbrev main_v58 : Ref sig .tc := ⟨.hbm, 342, rfl⟩
abbrev main_cst_18 : Ref sig .tc := ⟨.hbm, 343, rfl⟩
abbrev main_v59 : Ref sig .tc := ⟨.hbm, 344, rfl⟩
abbrev main_c_19 : Ref sig .tc := ⟨.hbm, 345, rfl⟩
abbrev main_v60 : Ref sig .tc := ⟨.hbm, 346, rfl⟩
abbrev main_v61 : Ref sig .tc := ⟨.hbm, 347, rfl⟩
abbrev main_c_20 : Ref sig .tc := ⟨.hbm, 348, rfl⟩
abbrev main_v62 : Ref sig .tc := ⟨.hbm, 349, rfl⟩
abbrev main_v63 : Ref sig .tc := ⟨.hbm, 350, rfl⟩
abbrev main_v64 : Ref sig .tc := ⟨.hbm, 351, rfl⟩
abbrev main_c_21 : Ref sig .tc := ⟨.hbm, 352, rfl⟩
abbrev main_v65 : Ref sig .tc := ⟨.hbm, 353, rfl⟩
abbrev main_v66 : Ref sig .tc := ⟨.hbm, 354, rfl⟩
abbrev main_c_22 : Ref sig .tc := ⟨.hbm, 355, rfl⟩
abbrev main_v67 : Ref sig .tc := ⟨.hbm, 356, rfl⟩
abbrev main_v68 : Ref sig .tc := ⟨.hbm, 357, rfl⟩
abbrev main_v69 : Ref sig .tc := ⟨.hbm, 358, rfl⟩
abbrev main_v70 : Ref sig .tc := ⟨.hbm, 359, rfl⟩
abbrev main_v71 : Ref sig .tc := ⟨.hbm, 360, rfl⟩
abbrev main_v72 : Ref sig .tc := ⟨.hbm, 361, rfl⟩
abbrev main_v73 : Ref sig .tc := ⟨.hbm, 362, rfl⟩
abbrev main_cst_23 : Ref sig .tc := ⟨.hbm, 363, rfl⟩
abbrev main_v74 : Ref sig .tc := ⟨.hbm, 364, rfl⟩
abbrev main_v75 : Ref sig .tc := ⟨.hbm, 365, rfl⟩
abbrev main_v76 : Ref sig .tc := ⟨.hbm, 366, rfl⟩
abbrev main_v77 : Ref sig .tc := ⟨.hbm, 367, rfl⟩

abbrev nD : Nat := 1
abbrev τ : Topo := Topo.v7x

variable {F : FTy → Type} [FloatOps F]
-- ==== Proof.KBody.lean ====
/- The run of the idealised kernel's body at one grid point. -/
module

public import proofs.«01_k».proof.Proof.Gen.KernelIdeal.Frame
public import proofs.«01_k».proof.Proof.Gen.KernelIdeal.Loops
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose)

variable {F : FTy → Type} [FloatOps F]

local notation "𝕄" => MT nD τ sig Unit (Elt F) ℕ (UR sig nD τ) ℕ

/-- The variants of the certificate: none. -/
abbrev 𝒱₀ : Variants := Variants.none

set_option maxHeartbeats 4000000 in
/-- One run of the kernel body on whole staging buffers: the first is unchanged, the second ends
    overwritten by the pieces the run lists. -/
@[irreducible] def bodyRun (c : Dev nD) (i : grid0.Coords) (arg1 : Memref sig .tc .vmem S32x100096 .f32)
    (harg1 : arg1.IsWhole) (arg2 : Memref sig .tc .vmem S32x100096 .f32) (harg2 : arg2.IsWhole)
    (f1 : BufTy.Contents (Elt F) arg1.view.ty) :
    { L : List (View.Piece (Elt F) S32x100096 .f32) // ∀ (E : Set ℕ) (f2 : BufTy.Contents (Elt F) arg2.view.ty),
      (iprop((arg1.view.loc (c : Thread nD τ) ↦[arg1.view.set]{fullShare} f1)
        ∗ (arg2.view.loc (c : Thread nD τ) ↦[arg2.view.set]{fullShare} f2)) : sProp 𝕄)
      ⊢ wp frame (wpE (defs₀ (F := F)) 𝒱₀ (c : Thread nD τ) none) E (cc0__body i arg1 harg1 arg2 harg2)
          (fun _ => iprop((arg1.view.loc (c : Thread nD τ) ↦[arg1.view.set]{fullShare} f1)
            ∗ (arg2.view.loc (c : Thread nD τ) ↦[arg2.view.set]{fullShare} arg2.view.writes (Elt F) f2 L))) } := by
  refine ⟨?_, fun E f2 => ?run⟩
  case run =>
    simp only [cc0__body_eq_skeleton]
    unfold cc0__body_skel
    iintro ⟨H1, H2⟩
    sl_exec
    sl_step
    sl_close

end Cert.KernelIdeal.Hand
-- ==== Proof.KFrame.lean ====
/- The frame of the idealised kernel. -/
module

public import proofs.«01_k».proof.Proof.KBody
public import proofs.«01_k».proof.Proof.Gen.KernelIdeal.Launch
public import proofs.«01_k».proof.Proof.Gen.KernelIdeal.Points
public import Idealize.ShloMosaic.Lib.Pipeline.Frame

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window RDat BodyObligation BodyObligationLoose)
open Idealize.ShloMosaic.Rounds

variable {F : FTy → Type} [FloatOps F]

local notation "𝕄" => MT nD τ sig Unit (Elt F) ℕ (UR sig nD τ) ℕ

/-- One run of the body between the two staging buffers, as what each holds: the score block is unchanged and
    the result's buffer holds the listed pieces written over anything. -/
theorem body_owns (c : Dev nD) (E : Set ℕ) (i : grid0.Coords) (arg1 : Memref sig .tc .vmem S32x100096 .f32)
    (harg1 : arg1.IsWhole) (arg2 : Memref sig .tc .vmem S32x100096 .f32) (harg2 : arg2.IsWhole)
    (f1 : BufTy.Contents (Elt F) arg1.view.ty) (X Y : S32x100096.Idx → Elt F .f32)
    (hf : arg1.view.read (Elt F) f1 = X) (G : S32x100096.Idx → Elt F .f32)
    (hG : ∀ f2 : BufTy.Contents (Elt F) arg2.view.ty,
      arg2.view.read (Elt F) (arg2.view.writes (Elt F) f2 (bodyRun c i arg1 harg1 arg2 harg2 f1).1) = G) :
    (iprop(owns (c : Thread nD τ) arg1 fullShare X ∗ owns (c : Thread nD τ) arg2 fullShare Y) : sProp 𝕄)
      ⊢ wp frame (wpE (defs₀ (F := F)) 𝒱₀ (c : Thread nD τ) none) E (cc0__body i arg1 harg1 arg2 harg2)
          (fun _ => iprop(owns (c : Thread nD τ) arg1 fullShare X ∗ owns (c : Thread nD τ) arg2 fullShare G)) := by
  have key : ∀ f2 : BufTy.Contents (Elt F) arg2.view.ty,
      (iprop((arg1.view.loc (c : Thread nD τ) ↦[arg1.view.set]{fullShare} f1)
        ∗ (arg2.view.loc (c : Thread nD τ) ↦[arg2.view.set]{fullShare} f2)) : sProp 𝕄)
      ⊢ wp frame (wpE (defs₀ (F := F)) 𝒱₀ (c : Thread nD τ) none) E (cc0__body i arg1 harg1 arg2 harg2)
          (fun _ => iprop(owns (c : Thread nD τ) arg1 fullShare X ∗ owns (c : Thread nD τ) arg2 fullShare G)) := fun f2 =>
    triple_restated ((bodyRun c i arg1 harg1 arg2 harg2 f1).2 E f2) rfl .rfl fun _ => by
      unfold owns
      iintro ⟨H1, H2⟩
      isplitl [H1]
      · iexists f1
        isplitr; · ipureintro; exact hf
        iexact H1
      · iexists (arg2.view.writes (Elt F) f2 (bodyRun c i arg1 harg1 arg2 harg2 f1).1)
        isplitr; · ipureintro; exact hG f2
        iexact H2
  have pre : (iprop(owns (c : Thread nD τ) arg1 fullShare X ∗ owns (c : Thread nD τ) arg2 fullShare Y) : sProp 𝕄)
      ⊢ iprop(∃ f2 : BufTy.Contents (Elt F) arg2.view.ty, (arg1.view.loc (c : Thread nD τ) ↦[arg1.view.set]{fullShare} f1)
        ∗ (arg2.view.loc (c : Thread nD τ) ↦[arg2.view.set]{fullShare} f2)) := by
    unfold owns
    iintro ⟨⟨%g1, %hg1, H1⟩, ⟨%f2, %hf2, H2⟩⟩
    obtain rfl : g1 = f1 := (harg1.read_bijective (Val := Elt F)).1 (hg1.trans hf.symm)
    iexists f2
    isplitl [H1]; · iexact H1
    iexact H2
  exact pre.trans (exists_elim key)

/-- The same with nothing said of the contents. -/
theorem body_forget (c : Dev nD) (E : Set ℕ) (i : grid0.Coords) (arg1 : Memref sig .tc .vmem S32x100096 .f32)
    (harg1 : arg1.IsWhole) (arg2 : Memref sig .tc .vmem S32x100096 .f32) (harg2 : arg2.IsWhole) :
    (iprop((∃ X, owns (c : Thread nD τ) arg1 fullShare X) ∗ (∃ Y, owns (c : Thread nD τ) arg2 fullShare Y)) : sProp 𝕄)
      ⊢ wp frame (wpE (defs₀ (F := F)) 𝒱₀ (c : Thread nD τ) none) E (cc0__body i arg1 harg1 arg2 harg2)
          (fun _ => iprop((∃ X, owns (c : Thread nD τ) arg1 fullShare X) ∗ (∃ Y, owns (c : Thread nD τ) arg2 fullShare Y))) := by
  have key : ∀ (f1 : BufTy.Contents (Elt F) arg1.view.ty) (f2 : BufTy.Contents (Elt F) arg2.view.ty),
      (iprop((arg1.view.loc (c : Thread nD τ) ↦[arg1.view.set]{fullShare} f1)
        ∗ (arg2.view.loc (c : Thread nD τ) ↦[arg2.view.set]{fullShare} f2)) : sProp 𝕄)
      ⊢ wp frame (wpE (defs₀ (F := F)) 𝒱₀ (c : Thread nD τ) none) E (cc0__body i arg1 harg1 arg2 harg2)
          (fun _ => iprop((∃ X, owns (c : Thread nD τ) arg1 fullShare X) ∗ (∃ Y, owns (c : Thread nD τ) arg2 fullShare Y))) := fun f1 f2 =>
    triple_restated ((bodyRun c i arg1 harg1 arg2 harg2 f1).2 E f2) rfl .rfl fun _ => by
      unfold owns
      iintro ⟨H1, H2⟩
      isplitl [H1]
      · iexists (arg1.view.read (Elt F) f1), f1
        isplitr; · ipureintro; exact rfl
        iexact H1
      · iexists (arg2.view.read (Elt F) (arg2.view.writes (Elt F) f2 (bodyRun c i arg1 harg1 arg2 harg2 f1).1)), (arg2.view.writes (Elt F) f2 (bodyRun c i arg1 harg1 arg2 harg2 f1).1)
        isplitr; · ipureintro; exact rfl
        iexact H2
  have pre : (iprop((∃ X, owns (c : Thread nD τ) arg1 fullShare X) ∗ (∃ Y, owns (c : Thread nD τ) arg2 fullShare Y)) : sProp 𝕄)
      ⊢ iprop(∃ (f1 : BufTy.Contents (Elt F) arg1.view.ty) (f2 : BufTy.Contents (Elt F) arg2.view.ty),
        (arg1.view.loc (c : Thread nD τ) ↦[arg1.view.set]{fullShare} f1)
        ∗ (arg2.view.loc (c : Thread nD τ) ↦[arg2.view.set]{fullShare} f2)) := by
    unfold owns
    iintro ⟨⟨%X, %g1, %hg1, H1⟩, ⟨%Y, %f2, %hf2, H2⟩⟩
    iexists g1, f2
    isplitl [H1]; · iexact H1
    iexact H2
  exact pre.trans (exists_elim fun f1 => exists_elim (key f1))

variable (m : (ℓ : Loc nD τ sig) → Buf (Elt F) ℓ) (ρ : Dev nD → PrngReg)

/-- Proof data for the frame: the arrays as launched; of the staging buffers nothing is recorded. -/
def datsF (_ : Fin 1) (c : Dev nD) : Dat τ (Elt F) Unit ℕ (UR sig nD τ) ℕ cfg0 c where
  A w := V m c (Pipeline.arrRef spec0 w)
  after w _ := match w with
    | ⟨0, _⟩ => fun _ => Scalar.ofBits .f32 0#32
    | ⟨1, _⟩ => fun _ => Scalar.ofBits .f32 0#32
  Φ _ := Pipeline.ΦA spec0 c
  q _ := fullShare
  owed _ := 0

/-- The procedure the pipeline calls at a point is the body at that point's staging buffers. -/
theorem defs₀_row (t : Fin cfg0.N) :
    defs₀ (F := F) .tc cfg0.body (cfg0.bodyArgs t (cfg0.slots t)) = bodyAt0 t := by
  unfold defs₀; rw [Defs.onTc_tc]

theorem obligationF (c : Dev nD) :
    BodyObligationLoose (datsF m 0 c) (defs₀ (F := F)) 𝒱₀ () Set.univ (fun _ => true) := fun t => by
  simp only [bigSep_W0]
  rw [show (datsF m 0 c).Φ t.succ = (datsF m 0 c).Φ t.castSucc from rfl,
    show (datsF m 0 c).owesAt () t.succ = (datsF m 0 c).owesAt () t.castSucc from rfl, defs₀_row]
  have key : (iprop((datsF m 0 c).Φ t.castSucc ∗ (datsF m 0 c).owesAt () t.castSucc
      ∗ (∃ X, owns (c : Thread nD τ) (st0_0 t) fullShare X) ∗ (∃ X, owns (c : Thread nD τ) (st0_1 t) fullShare X)) : sProp 𝕄)
      ⊢ wp frame (wpE (defs₀ (F := F)) 𝒱₀ (c : Thread nD τ) none) Set.univ (bodyAt0 t)
        (fun _ => iprop((datsF m 0 c).Φ t.castSucc ∗ (datsF m 0 c).owesAt () t.castSucc
          ∗ (∃ X, owns (c : Thread nD τ) (st0_0 t) fullShare X) ∗ (∃ X, owns (c : Thread nD τ) (st0_1 t) fullShare X))) := by
    iintro ⟨HΦ, Ho, H⟩
    ihave Hw := (body_forget (F := F) c Set.univ (grid0.coords t) _ _ _ _) $$ H
    iapply wp_wand $$ Hw
    iintro %_ H
    isplitl [HΦ]; · iexact HΦ
    isplitl [Ho]; · iexact Ho
    iexact H
  exact key

/-- Every run ends, with the scores as launched and every counter at zero. -/
theorem frame_quiescent : θ_run defs (onTc (τ := τ) (main (F := F))) ⟨m, fun _ => 0, ρ⟩ (fun r => (∀ c : Dev nD,
      r.2.mem ((c.tc : Thread nD τ).loc main_arg0) = m ((c.tc : Thread nD τ).loc main_arg0)) ∧ r.2.sem = fun _ => 0) :=
  Pipeline.θ_run_frame_forget cfgs (datsF m) 0 launch0 defs₀ 𝒱₀ (fun _ => true) m ρ main
    (obligationF m) (fun c => (datsF m 0 c).share_full fun _ => rfl) (fun _ _ => rfl)
    (V m) (Gen.hmain m 𝒱₀) (fun _ _ => rfl) (fun _ _ => rfl)
    (Q' := _) (hQ' := fun r h => ⟨fun c => by
      have h0 := (h.1 c).1 0
      rw [RDat.ArrAt_in _ 0 rfl] at h0
      exact h0, h.2⟩)

end Cert.KernelIdeal.Hand
-- ==== Proof.KWit.lean ====
/- The idealised body's run in named terms: a chunk's columns, its hash, a step of the scan. -/
module

public import proofs.«01_k».proof.Proof.KBody

@[expose] public section

set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.Sem

variable {F : FTy → Type} [FloatOps F]

/-- The column numbers of a chunk. -/
def colW (k : Fin k0_t1_loop.trips) : IVec S32x256 32 := k0_pay2 (iota .tc S32x256 32 [1] iota_S32x256_d1_w32) 0#32 1#32 k

/-- The hash of a chunk's flat positions, in the four stages the body computes it in. -/
def hashW (i : grid0.Coords) (k : Fin k0_t1_loop.trips) : IVec S32x256 32 :=
  let v80 := k0_pay11 (k0_pay38 i) 0#32 1#32 k
  let v81 := k0_pay12 (k0_pay38 i) 0#32 1#32 k
  let v122 := k0_pay22 v80 v81 17#32
  let v127 := k0_pay23 v80 v81 17#32
  k0_pay37 (k0_pay34 v122 v127) (k0_pay35 v122 v127) (k0_pay36 v122 v127) 8#32

/-- The lanes a block's scan has carried after `n` trips over the contents `f`. -/
def scanAt (c : Dev nD) (i : grid0.Coords) (arg1 : Memref sig .tc .vmem S32x100096 .f32)
    (harg1 : arg1.IsWhole) (arg2 : Memref sig .tc .vmem S32x100096 .f32) (harg2 : arg2.IsWhole)
    (f1 : BufTy.Contents (Elt F) arg1.view.ty) (n : ℕ) :
    FVec F S32x256 .f32 × IVec S32x256 32 × FVec F S32x256 .f32 × IVec S32x256 32 :=
  st_k0_t1 𝒱₀ c none i arg1 harg1 arg2 harg2 (iota .tc S32x256 32 [1] iota_S32x256_d1_w32) f1
    (k0_pay39, k0_pay40, k0_pay41, k0_pay42) n

/-- What one trip of the scan carries on, from the chunk of scores it reads. -/
def scanStep (i : grid0.Coords) (k : Fin k0_t1_loop.trips) (x : FVec F S32x256 .f32)
    (a : FVec F S32x256 .f32 × IVec S32x256 32 × FVec F S32x256 .f32 × IVec S32x256 32) :
    FVec F S32x256 .f32 × IVec S32x256 32 × FVec F S32x256 .f32 × IVec S32x256 32 :=
  (k0_pay48 a.1 (colW k) (hashW i k) 9#32 x, k0_pay49 a.1 a.2.1 (colW k) (hashW i k) 9#32 x,
    k0_pay46 a.1 a.2.2.1 (colW k) (hashW i k) 9#32 x, k0_pay47 a.1 a.2.1 a.2.2.1 a.2.2.2 (colW k) (hashW i k) 9#32 x)

theorem tripR_eq (c : Dev nD) (bd : Option 𝒱₀.V) (i : grid0.Coords) (arg1 : Memref sig .tc .vmem S32x100096 .f32)
    (harg1 : arg1.IsWhole) (arg2 : Memref sig .tc .vmem S32x100096 .f32) (harg2 : arg2.IsWhole)
    (f : BufTy.Contents (Elt F) arg1.view.ty) (k : Fin k0_t1_loop.trips)
    (a : FVec F S32x256 .f32 × IVec S32x256 32 × FVec F S32x256 .f32 × IVec S32x256 32) :
    tripR_k0_t1 (F := F) 𝒱₀ c bd i arg1 harg1 arg2 harg2 (iota .tc S32x256 32 [1] iota_S32x256_d1_w32) f k a
      = scanStep i k (arg1.view.readAt (Elt F) (Rect.unit (s := S32x100096) (k0_off1 k) S32x256.size (k0_off1_inb k)).toLoadRect f) a := by
  unfold tripR_k0_t1 trip_k0_t1
  dsimp only
  sl_unfold_words
  rfl

/-- The one piece a trip of the second loop writes: the marked columns of its chunk. -/
theorem tripL_eq (c : Dev nD) (bd : Option 𝒱₀.V) (i : grid0.Coords) (arg1 : Memref sig .tc .vmem S32x100096 .f32)
    (harg1 : arg1.IsWhole) (arg2 : Memref sig .tc .vmem S32x100096 .f32) (harg2 : arg2.IsWhole)
    (v2 : IVec S32x256 32) (v21 v36 : IVec S32x1 32) (x y : F .f32) (p q : BitVec 32) (k : Fin k0_t2_loop.trips) :
    tripL_k0_t2 (F := F) 𝒱₀ c bd i arg1 harg1 arg2 harg2 v2 v21 v36 x y p q k
      = [⟨Rect.unit (s := S32x100096) (k0_off2 k) S32x256.size (k0_off2_inb k), k0_pay1 v2 v21 v36 x y p q k⟩] := by
  unfold tripL_k0_t2 trip_k0_t2
  dsimp only

theorem bodyRun_eq (c : Dev nD) (i : grid0.Coords) (arg1 : Memref sig .tc .vmem S32x100096 .f32)
    (harg1 : arg1.IsWhole) (arg2 : Memref sig .tc .vmem S32x100096 .f32) (harg2 : arg2.IsWhole)
    (f1 : BufTy.Contents (Elt F) arg1.view.ty) : (bodyRun c i arg1 harg1 arg2 harg2 f1).1
      = let S := scanAt c i arg1 harg1 arg2 harg2 f1 (Scf.trips k0_t1_loop.lb k0_t1_loop.ub k0_t1_loop.st)
        pb_k0_t2 𝒱₀ c none i arg1 harg1 arg2 harg2 (iota .tc S32x256 32 [1] iota_S32x256_d1_w32)
          (k0_pay51 S.1 S.2.1) (k0_pay52 S.1 S.2.1 S.2.2.1 S.2.2.2)
          (FloatOps.ofBits .f32 1065353216#32) (FloatOps.ofBits .f32 0#32) 0#32 1#32
          (Scf.trips k0_t2_loop.lb k0_t2_loop.ub k0_t2_loop.st) := by
  unfold bodyRun
  dsimp only
  sl_unfold_words
  rfl

end Cert.KernelIdeal.Hand
-- ==== Proof.Words.lean ====
/- The hash of a flat position, and the Gumbel noise drawn from it, as numbers. -/
module

public import Idealize.ShloMosaic.PureOps.Ideal.Laws

@[expose] public section

noncomputable section

namespace Cert.Top2

open Idealize.ShloMosaic

/-- One mixing round of the hash: the first word takes the sum, the second is rotated by `r` (with
    `s` the complementary shift) and combined with the sum. -/
def mix (r s : BitVec 32) (p : BitVec 32 × BitVec 32) : BitVec 32 × BitVec 32 :=
  (p.1 + p.2, ((p.2 <<< r) ||| (p.2 >>> s)) ^^^ (p.1 + p.2))

/-- A key injection: `a` into the first word, `b` and the counter `n` into the second. -/
def inj (a b n : BitVec 32) (p : BitVec 32 × BitVec 32) : BitVec 32 × BitVec 32 := (p.1 + a, p.2 + b + n)

/-- Four rounds of the even groups. -/
def even (p : BitVec 32 × BitVec 32) : BitVec 32 × BitVec 32 :=
  mix 6#32 26#32 (mix 26#32 6#32 (mix 15#32 17#32 (mix 13#32 19#32 p)))

/-- Four rounds of the odd groups. -/
def odd (p : BitVec 32 × BitVec 32) : BitVec 32 × BitVec 32 :=
  mix 24#32 8#32 (mix 16#32 16#32 (mix 29#32 3#32 (mix 17#32 15#32 p)))

/-- The pair after the five groups, from the keyed word `n`. -/
def mixed (n : BitVec 32) : BitVec 32 × BitVec 32 :=
  inj 466689008#32 0#32 5#32 (even (inj 42#32 466689008#32 4#32 (odd (inj 0#32 42#32 3#32 (even
    (inj 466689008#32 0#32 2#32 (odd (inj 42#32 466689008#32 1#32 (even (0#32, n))))))))))

/-- The random word at the flat position `n`. -/
def word (n : BitVec 32) : BitVec 32 := (mixed (n + 42#32)).1 ^^^ (mixed (n + 42#32)).2

/-- The uniform draw a random word denotes. -/
def uni (b : BitVec 32) : EReal :=
  Ideal.ofBits .f32 ((b >>> 9#32) ||| 1065353216#32) - Ideal.ofBits .f32 0x3F800000#32

/-- The smallest normal number. -/
def tiny : EReal := Ideal.ofBits .f32 0x00800000#32

/-- The Gumbel noise of a random word. -/
def gum (b : BitVec 32) : EReal := -Ideal.log (-Ideal.log (max tiny (uni b)))

theorem one_eq : Ideal.ofBits .f32 0x3F800000#32 = 1 := by
  simp [Ideal.ofBits, Ideal.ieee, -EReal.coe_mul]; norm_num

theorem zero_eq : Ideal.ofBits .f32 0x00000000#32 = 0 := by simp [Ideal.ofBits, Ideal.ieee]

theorem bot_eq : Ideal.ofBits .f32 0xFF800000#32 = ⊥ := by simp [Ideal.ofBits, Ideal.ieee]

theorem tiny_eq : tiny = ((2 : ℝ) ^ (-126 : ℤ) : ℝ) := by
  simp [tiny, Ideal.ofBits, Ideal.ieee, -EReal.coe_mul]; norm_num

theorem tiny_pos : (0 : ℝ) < (2 : ℝ) ^ (-126 : ℤ) := by positivity

theorem tiny_lt_one : (2 : ℝ) ^ (-126 : ℤ) < 1 := by norm_num

/-- A random word's draw is a real in [0, 1). -/
theorem uni_real (b : BitVec 32) : ∃ u : ℝ, uni b = (u : EReal) ∧ 0 ≤ u ∧ u < 1 := by
  have h8 : ((b >>> 9#32) ||| 1065353216#32).extractLsb' 23 8 = 127#8 := by
    apply BitVec.eq_of_getLsbD_eq
    intro i hi
    simp
    interval_cases i <;> simp
  have h31 : ((b >>> 9#32) ||| 1065353216#32).extractLsb' 31 1 = 0#1 := by
    apply BitVec.eq_of_getLsbD_eq
    intro i hi
    simp
    interval_cases i <;> simp
  set w := (b >>> 9#32) ||| 1065353216#32 with hw
  set fr := (w.extractLsb' 0 23).toNat with hfr
  have hlt : fr < 2 ^ 23 := (w.extractLsb' 0 23).isLt
  have hv : Ideal.ofBits .f32 w = ((1 + fr * (2 : ℝ) ^ (-23 : ℤ) : ℝ) : EReal) := by
    show Ideal.ieee 8 23 w = _
    unfold Ideal.ieee
    simp only [h8, h31, show 8 + 23 = 31 from rfl, ← hfr]
    rw [if_neg (by decide), if_neg (by decide)]
    congr 1
    push_cast
    norm_num
    ring
  refine ⟨fr * (2 : ℝ) ^ (-23 : ℤ), ?_, by positivity, ?_⟩
  · unfold uni
    rw [← hw, hv, one_eq, ← EReal.coe_one, ← EReal.coe_sub]
    congr 1; ring
  · have : (fr : ℝ) < 2 ^ 23 := by exact_mod_cast hlt
    rw [zpow_neg]
    rw [← div_eq_mul_inv, div_lt_one (by positivity)]
    exact_mod_cast this

theorem log_coe_pos {r : ℝ} (h : 0 < r) : Ideal.log (r : EReal) = (Real.log r : EReal) := by
  show (if r ≤ 0 then (⊥ : EReal) else (Real.log r : EReal)) = _
  rw [if_neg (not_le.2 h)]

/-- The noise is real. -/
theorem gum_real (b : BitVec 32) : ∃ g : ℝ, gum b = (g : EReal) := by
  obtain ⟨u, hu, h0, h1⟩ := uni_real b
  have hm : max tiny (uni b) = ((max ((2 : ℝ) ^ (-126 : ℤ)) u : ℝ) : EReal) := by
    rw [tiny_eq, hu]; exact (EReal.coe_strictMono.monotone.map_max).symm
  set v := max ((2 : ℝ) ^ (-126 : ℤ)) u with hv
  have hv0 : 0 < v := lt_of_lt_of_le tiny_pos (le_max_left _ _)
  have hv1 : v < 1 := max_lt tiny_lt_one h1
  have hl : Real.log v < 0 := Real.log_neg hv0 hv1
  refine ⟨-Real.log (-Real.log v), ?_⟩
  unfold gum
  rw [hm, log_coe_pos hv0, ← EReal.coe_neg, log_coe_pos (by linarith), ← EReal.coe_neg]

end Cert.Top2

end
-- ==== Proof.KHash.lean ====
/- The random words a block computes for a chunk are the hash of the chunk's flat positions. -/
module

public import proofs.«01_k».proof.Proof.KWit
public import proofs.«01_k».proof.Proof.Words

@[expose] public section

set_option maxRecDepth 65536

noncomputable section

namespace Cert.KernelIdeal.Hand

open Cert.KernelIdeal Cert.KernelIdeal.Gen Cert.Top2
open Idealize.ShloMosaic Idealize.ShloMosaic.TcCoe
open Idealize.SL Idealize.SL.Sem

variable (v7 v80 v81 v122 v127 : IVec S32x256 32) (p q : BitVec 32) (k : Fin k0_t1_loop.trips) (j : S32x256.Idx)

theorem round1 : (k0_pay4 v7 p q k j, k0_pay5 v7 p q k j) = mix 13#32 19#32 (0#32, k0_pay3 v7 p q k j) := rfl

theorem round2 : (k0_pay6 v7 p q k j, k0_pay7 v7 p q k j) = mix 15#32 17#32 (k0_pay4 v7 p q k j, k0_pay5 v7 p q k j) := rfl

theorem round3 : (k0_pay8 v7 p q k j, k0_pay9 v7 p q k j) = mix 26#32 6#32 (k0_pay6 v7 p q k j, k0_pay7 v7 p q k j) := rfl

theorem round45 : (k0_pay12 v7 p q k j, k0_pay13 (k0_pay11 v7 p q k) (k0_pay12 v7 p q k) 17#32 j)
    = mix 17#32 15#32 (inj 42#32 466689008#32 1#32 (mix 6#32 26#32 (k0_pay8 v7 p q k j, k0_pay9 v7 p q k j))) := rfl

theorem round6 : (k0_pay14 v80 v81 17#32 j, k0_pay15 v80 v81 17#32 j)
    = mix 29#32 3#32 (v81 j, k0_pay13 v80 v81 17#32 j) := rfl

theorem round7 : (k0_pay16 v80 v81 17#32 j, k0_pay17 v80 v81 17#32 j)
    = mix 16#32 16#32 (k0_pay14 v80 v81 17#32 j, k0_pay15 v80 v81 17#32 j) := rfl

theorem round89 : (k0_pay20 v80 v81 17#32 j, k0_pay21 v80 v81 17#32 j)
    = mix 13#32 19#32 (inj 466689008#32 0#32 2#32 (mix 24#32 8#32 (k0_pay16 v80 v81 17#32 j, k0_pay17 v80 v81 17#32 j))) := rfl

theorem round10 : (k0_pay22 v80 v81 17#32 j, k0_pay24 (k0_pay22 v80 v81 17#32) (k0_pay23 v80 v81 17#32) j)
    = mix 15#32 17#32 (k0_pay20 v80 v81 17#32 j, k0_pay21 v80 v81 17#32 j) := rfl

theorem round11 : (k0_pay25 v122 v127 j, k0_pay26 v122 v127 j) = mix 26#32 6#32 (v122 j, k0_pay24 v122 v127 j) := rfl

theorem round1213 : (k0_pay29 v122 v127 j, k0_pay30 v122 v127 j)
    = mix 17#32 15#32 (inj 0#32 42#32 3#32 (mix 6#32 26#32 (k0_pay25 v122 v127 j, k0_pay26 v122 v127 j))) := rfl

theorem round14 : (k0_pay31 v122 v127 j, k0_pay32 v122 v127 j) = mix 29#32 3#32 (k0_pay29 v122 v127 j, k0_pay30 v122 v127 j) := rfl

theorem round15 : (k0_pay33 v122 v127 j, k0_pay34 v122 v127 j) = mix 16#32 16#32 (k0_pay31 v122 v127 j, k0_pay32 v122 v127 j) := rfl

/-- The word a pair is folded into at the end. -/
def fold (x : BitVec 32 × BitVec 32) : BitVec 32 := x.1 ^^^ x.2

theorem roundEnd : k0_pay37 (k0_pay34 v122 v127) (k0_pay35 v122 v127) (k0_pay36 v122 v127) 8#32 j
    = fold (inj 466689008#32 0#32 5#32 (even (inj 42#32 466689008#32 4#32 (mix 24#32 8#32 (k0_pay33 v122 v127 j, k0_pay34 v122 v127 j))))) := rfl

/-- A chunk's random words: the hash at the flat positions. -/
theorem hashW_eq (i : grid0.Coords) : hashW i k j = word (k0_pay38 i j + (0#32 + BitVec.ofNat 32 k.val * 1#32) * 256#32) := by
  unfold hashW
  rw [roundEnd, round15, round14, round1213, round11, round10, round89, round7, round6, round45, round3, round2, round1]
  rfl

/-- A chunk's column numbers. -/
theorem colW_eq : colW k j = BitVec.ofNat 32 (256 * k.val + (j 1).val) := by
  show BitVec.ofNat 32 (0 * 256 + (j 1).val) + (0#32 + BitVec.ofNat 32 k.val * 1#32) * 256#32 = _
  apply BitVec.eq_of_toNat_eq
  simp [BitVec.toNat_add, BitVec.toNat_mul]
  omega

theorem base_eq (i : grid0.Coords) : k0_pay38 i j + (0#32 + BitVec.ofNat 32 k.val * 1#32) * 256#32
    = BitVec.ofNat 32 ((32 * (i 0).val + (j 0).val) * 100000 + (256 * k.val + (j 1).val)) := by
  show (BitVec.ofNat 32 (i 0).val * 32#32 + BitVec.ofNat 32 (0 * 32 + (j 0).val)) * 100000#32 + BitVec.ofNat 32 (0 * 256 + (j 1).val)
    + (0#32 + BitVec.ofNat 32 k.val * 1#32) * 256#32 = _
  apply BitVec.eq_of_toNat_eq
  simp [BitVec.toNat_add, BitVec.toNat_mul]
  omega

end Cert.KernelIdeal.Hand

end
-- ==== Proof.Top2.lean ====
/- The two best positions of a row: what they are, how one more position changes them, and how the
   best two of many lanes are the best two of the row. -/
module

public import Mathlib.Data.EReal.Basic

@[expose] public section

noncomputable section

namespace Cert.Top2

/-- Position `a` comes before position `b`: its value is larger, or equal at a smaller position. -/
def beats (s : ℕ → EReal) (a b : ℕ) : Prop := s b < s a ∨ (s a = s b ∧ a < b)

theorem beats.trans {s : ℕ → EReal} {a b c : ℕ} (h : beats s a b) (h' : beats s b c) : beats s a c := by
  rcases h with h | ⟨h, hl⟩ <;> rcases h' with h' | ⟨h', hl'⟩
  · exact .inl (h'.trans h)
  · exact .inl (h' ▸ h)
  · exact .inl (h ▸ h')
  · exact .inr ⟨h.trans h', hl.trans hl'⟩

theorem beats.asymm {s : ℕ → EReal} {a b : ℕ} (h : beats s a b) : ¬ beats s b a := by
  rintro (h' | ⟨h', hl'⟩) <;> rcases h with h | ⟨h, hl⟩
  · exact lt_asymm h h'
  · exact absurd h (ne_of_lt h')
  · exact absurd h' (ne_of_lt h)
  · omega

/-- `a` and `b` are the first and the second of the positions in `V`. -/
structure IsTop2 (s : ℕ → EReal) (V : ℕ → Prop) (a b : ℕ) : Prop where
  mem_fst : V a
  mem_snd : V b
  ne : a ≠ b
  fst : ∀ c, V c → c ≠ a → beats s a c
  snd : ∀ c, V c → c ≠ a → c ≠ b → beats s b c

theorem IsTop2.unique {s : ℕ → EReal} {V : ℕ → Prop} {a b a' b' : ℕ} (h : IsTop2 s V a b) (h' : IsTop2 s V a' b') :
    a = a' ∧ b = b' := by
  have ha : a = a' := by
    by_contra hne
    exact (h.fst a' h'.mem_fst (Ne.symm hne)).asymm (h'.fst a h.mem_fst hne)
  subst ha
  refine ⟨rfl, ?_⟩
  by_contra hne
  exact (h.snd b' h'.mem_snd h'.ne.symm (Ne.symm hne)).asymm (h'.snd b h.mem_snd h.ne.symm hne)

/-- Only the order of the values matters. -/
theorem IsTop2.congr {s s' : ℕ → EReal} {V : ℕ → Prop} {a b : ℕ} (hs : ∀ c d, V c → V d → (s c < s d ↔ s' c < s' d))
    (h : IsTop2 s V a b) : IsTop2 s' V a b := by
  have key : ∀ c d, V c → V d → beats s c d → beats s' c d := by
    rintro c d hc hd (hb | ⟨he, hl⟩)
    · exact .inl ((hs d c hd hc).1 hb)
    · refine .inr ⟨le_antisymm ?_ ?_, hl⟩
      · exact not_lt.1 fun hlt => absurd he (ne_of_gt ((hs d c hd hc).2 hlt))
      · exact not_lt.1 fun hlt => absurd he (ne_of_lt ((hs c d hc hd).2 hlt))
  exact ⟨h.mem_fst, h.mem_snd, h.ne, fun c hc hn => key _ _ h.mem_fst hc (h.fst c hc hn),
    fun c hc hn hn' => key _ _ h.mem_snd hc (h.snd c hc hn hn')⟩

open Classical in
/-- The marks of a row: 1 at its first and its second position, 0 elsewhere. -/
def mark (s : ℕ → EReal) (n c : ℕ) : EReal :=
  if ∃ a b, IsTop2 s (· < n) a b ∧ (c = a ∨ c = b) then 1 else 0

theorem mark_eq {s : ℕ → EReal} {n a b : ℕ} (h : IsTop2 s (· < n) a b) (c : ℕ) :
    mark s n c = if c = a ∨ c = b then 1 else 0 := by
  unfold mark
  by_cases hc : c = a ∨ c = b
  · rw [if_pos ⟨a, b, h, hc⟩, if_pos hc]
  · rw [if_neg hc, if_neg]
    rintro ⟨a', b', h', hc'⟩
    obtain ⟨rfl, rfl⟩ := h.unique h'
    exact hc hc'

/-- What a lane carries: its two best values and the positions they stand at. -/
abbrev Lane := EReal × BitVec 32 × EReal × BitVec 32

open Classical in
/-- A lane takes in the value `x` at the position `c`. -/
def Lane.step (x : EReal) (c : BitVec 32) (L : Lane) : Lane :=
  (max x L.1, if L.1 < x then c else L.2.1, if L.1 < x then L.1 else if L.2.2.1 < x then x else L.2.2.1,
    if L.1 < x then L.2.1 else if L.2.2.1 < x then c else L.2.2.2)

/-- The lane holds the first and the second of the positions in `V`. -/
structure Lane.Holds (s : ℕ → EReal) (V : ℕ → Prop) (L : Lane) : Prop where
  top : IsTop2 s V L.2.1.toNat L.2.2.2.toNat
  fst : L.1 = s L.2.1.toNat
  snd : L.2.2.1 = s L.2.2.2.toNat

/-- A value below every other changes nothing. -/
theorem Lane.step_bot (c : BitVec 32) (L : Lane) : L.step ⊥ c = L := by
  simp [Lane.step]

/-- The lane after its first two positions. -/
theorem Lane.holds_two {s : ℕ → EReal} {V : ℕ → Prop} (c d e : BitVec 32) (hcd : c.toNat < d.toNat)
    (hV : ∀ x, V x ↔ x = c.toNat ∨ x = d.toNat) (hc : ⊥ < s c.toNat) (hd : ⊥ < s d.toNat) :
    (Lane.step (s d.toNat) d (Lane.step (s c.toNat) c (⊥, e, ⊥, e))).Holds s V := by
  have h1 : Lane.step (s c.toNat) c (⊥, e, ⊥, e) = (s c.toNat, c, ⊥, e) := by simp [Lane.step, hc]
  rw [h1]
  by_cases h : s c.toNat < s d.toNat
  · have h2 : Lane.step (s d.toNat) d (s c.toNat, c, ⊥, e) = (s d.toNat, d, s c.toNat, c) := by simp [Lane.step, h, h.le]
    rw [h2]
    refine ⟨⟨(hV _).2 (.inr rfl), (hV _).2 (.inl rfl), by dsimp only; omega, fun x hx hn => ?_, fun x hx hn hn' => ?_⟩, rfl, rfl⟩
    · rcases (hV x).1 hx with rfl | rfl
      · exact .inl h
      · exact absurd rfl hn
    · rcases (hV x).1 hx with rfl | rfl
      · exact absurd rfl hn'
      · exact absurd rfl hn
  · have h2 : Lane.step (s d.toNat) d (s c.toNat, c, ⊥, e) = (s c.toNat, c, s d.toNat, d) := by
      simp [Lane.step, h, hd, not_lt.1 h]
    rw [h2]
    refine ⟨⟨(hV _).2 (.inl rfl), (hV _).2 (.inr rfl), by dsimp only; omega, fun x hx hn => ?_, fun x hx hn hn' => ?_⟩, rfl, rfl⟩
    · rcases (hV x).1 hx with rfl | rfl
      · exact absurd rfl hn
      · rcases lt_or_eq_of_le (not_lt.1 h) with h | h
        · exact .inl h
        · exact .inr ⟨h.symm, hcd⟩
    · rcases (hV x).1 hx with rfl | rfl
      · exact absurd rfl hn
      · exact absurd rfl hn'

/-- One more position, after all the others. -/
theorem Lane.Holds.step {s : ℕ → EReal} {V W : ℕ → Prop} {L : Lane} (h : L.Holds s V) (c : BitVec 32)
    (hc : ∀ x, V x → x < c.toNat) (hW : ∀ x, W x ↔ V x ∨ x = c.toNat) : (L.step (s c.toNat) c).Holds s W := by
  obtain ⟨m1, i1, m2, i2⟩ := L
  obtain ⟨ht, rfl, rfl⟩ : IsTop2 s V i1.toNat i2.toNat ∧ m1 = s i1.toNat ∧ m2 = s i2.toNat := ⟨h.top, h.fst, h.snd⟩
  have l1 := hc _ ht.mem_fst
  have l2 := hc _ ht.mem_snd
  by_cases h1 : s i1.toNat < s c.toNat
  · have e : Lane.step (s c.toNat) c (s i1.toNat, i1, s i2.toNat, i2) = (s c.toNat, c, s i1.toNat, i1) := by
      simp [Lane.step, h1, h1.le]
    rw [e]
    refine ⟨⟨(hW _).2 (.inr rfl), (hW _).2 (.inl ht.mem_fst), by dsimp only; omega, fun x hx hn => ?_, fun x hx hn hn' => ?_⟩, rfl, rfl⟩
    · rcases (hW x).1 hx with hx | hx
      · by_cases hx1 : x = i1.toNat
        · subst hx1; exact .inl h1
        · exact beats.trans (s := s) (b := i1.toNat) (.inl h1) (ht.fst x hx hx1)
      · exact absurd hx hn
    · rcases (hW x).1 hx with hx | hx
      · exact ht.fst x hx hn'
      · exact absurd hx hn
  · have b1 : beats s i1.toNat c.toNat := by
      rcases lt_or_eq_of_le (not_lt.1 h1) with h | h
      · exact .inl h
      · exact .inr ⟨h.symm, l1⟩
    by_cases h2 : s i2.toNat < s c.toNat
    · have e : Lane.step (s c.toNat) c (s i1.toNat, i1, s i2.toNat, i2) = (s i1.toNat, i1, s c.toNat, c) := by
        simp [Lane.step, h1, h2, not_lt.1 h1]
      rw [e]
      refine ⟨⟨(hW _).2 (.inl ht.mem_fst), (hW _).2 (.inr rfl), by dsimp only; omega, fun x hx hn => ?_, fun x hx hn hn' => ?_⟩, rfl, rfl⟩
      · rcases (hW x).1 hx with hx | rfl
        · exact ht.fst x hx hn
        · exact b1
      · rcases (hW x).1 hx with hx | hx
        · by_cases hx2 : x = i2.toNat
          · subst hx2; exact .inl h2
          · exact beats.trans (s := s) (b := i2.toNat) (.inl h2) (ht.snd x hx hn hx2)
        · exact absurd hx hn'
    · have e : Lane.step (s c.toNat) c (s i1.toNat, i1, s i2.toNat, i2) = (s i1.toNat, i1, s i2.toNat, i2) := by
        simp [Lane.step, h1, h2, not_lt.1 h1]
      rw [e]
      refine ⟨⟨(hW _).2 (.inl ht.mem_fst), (hW _).2 (.inl ht.mem_snd), ht.ne, fun x hx hn => ?_, fun x hx hn hn' => ?_⟩, rfl, rfl⟩
      · rcases (hW x).1 hx with hx | rfl
        · exact ht.fst x hx hn
        · exact b1
      · rcases (hW x).1 hx with hx | rfl
        · exact ht.snd x hx hn hn'
        · rcases lt_or_eq_of_le (not_lt.1 h2) with h | h
          · exact .inl h
          · exact .inr ⟨h.symm, l2⟩

/-- The best candidate: its value is the largest and its position the smallest at that value. -/
def Best {ι : Type} (val : ι → EReal) (pos : ι → ℕ) (l : ι) : Prop :=
  ∀ l', val l' ≤ val l ∧ (val l' = val l → pos l ≤ pos l')

/-- The best candidate of distinct positions comes before each of the others. -/
theorem Best.beats {ι : Type} {s : ℕ → EReal} {val : ι → EReal} {pos : ι → ℕ} {l : ι} (h : Best val pos l)
    (hv : ∀ l, val l = s (pos l)) (l' : ι) : pos l' = pos l ∨ Top2.beats s (pos l) (pos l') := by
  obtain ⟨h1, h2⟩ := h l'
  by_cases he : pos l' = pos l
  · exact .inl he
  · right
    rcases lt_or_eq_of_le h1 with hl | hl
    · left; rw [← hv, ← hv]; exact hl
    · right
      refine ⟨by rw [← hv, ← hv, hl], lt_of_le_of_ne (h2 hl) (Ne.symm he)⟩

/-- The best two of the lanes' best two are the row's: the best first position, then the best of
    the others with that lane's second in its place. -/
theorem merge {ι : Type} {s : ℕ → EReal} {W : ℕ → Prop} {V : ι → ℕ → Prop} (L : ι → Lane)
    (hV : ∀ c, W c ↔ ∃ l, V l c) (hdis : ∀ c l l', V l c → V l' c → l = l') (hL : ∀ l, (L l).Holds s (V l))
    (val : ι → EReal) (pos : ι → BitVec 32) (l1 l2 : ι)
    (hval : ∀ l, val l = if (L l).1 = (L l1).1 ∧ (L l).2.1 = (L l1).2.1 then (L l).2.2.1 else (L l).1)
    (hpos : ∀ l, pos l = if (L l).1 = (L l1).1 ∧ (L l).2.1 = (L l1).2.1 then (L l).2.2.2 else (L l).2.1)
    (h1 : Best (fun l => (L l).1) (fun l => (L l).2.1.toNat) l1) (h2 : Best val (fun l => (pos l).toNat) l2) :
    IsTop2 s W (L l1).2.1.toNat (pos l2).toNat := by
  have inj : ∀ l, (L l).2.1 = (L l1).2.1 → l = l1 := fun l h =>
    hdis (L l).2.1.toNat l l1 (hL l).top.mem_fst (h ▸ (hL l1).top.mem_fst)
  have val1 : val l1 = (L l1).2.2.1 := by rw [hval, if_pos ⟨rfl, rfl⟩]
  have pos1 : pos l1 = (L l1).2.2.2 := by rw [hpos, if_pos ⟨rfl, rfl⟩]
  have valo : ∀ l, l ≠ l1 → val l = (L l).1 := fun l h => by rw [hval, if_neg fun h' => h (inj l h'.2)]
  have poso : ∀ l, l ≠ l1 → pos l = (L l).2.1 := fun l h => by rw [hpos, if_neg fun h' => h (inj l h'.2)]
  have mem : ∀ l, V l (pos l).toNat := fun l => by
    by_cases h : l = l1
    · subst h; rw [pos1]; exact (hL l).top.mem_snd
    · rw [poso l h]; exact (hL l).top.mem_fst
  have hvp : ∀ l, val l = s (pos l).toNat := fun l => by
    by_cases h : l = l1
    · subst h; rw [pos1, val1]; exact (hL l).snd
    · rw [poso l h, valo l h]; exact (hL l).fst
  refine ⟨(hV _).2 ⟨l1, (hL l1).top.mem_fst⟩, (hV _).2 ⟨l2, mem l2⟩, ?_, fun c hc hn => ?_, fun c hc hn hn' => ?_⟩
  · intro he
    by_cases h : l2 = l1
    · subst h; rw [pos1] at he; exact (hL l2).top.ne he
    · exact h (hdis _ l2 l1 (mem l2) (he ▸ (hL l1).top.mem_fst))
  · obtain ⟨l, hl⟩ := (hV c).1 hc
    have hb := h1.beats (s := s) (fun l => (hL l).fst) l
    by_cases hcl : c = (L l).2.1.toNat
    · rw [hcl] at hn ⊢
      exact hb.resolve_left hn
    · have hb' := (hL l).top.fst c hl hcl
      rcases hb with hb | hb
      · rw [hb] at hb'; exact hb'
      · exact hb.trans hb'
  · obtain ⟨l, hl⟩ := (hV c).1 hc
    have hb := h2.beats (s := s) hvp l
    by_cases hcl : c = (pos l).toNat
    · rw [hcl] at hn' ⊢
      exact hb.resolve_left hn'
    · have hb' : Top2.beats s (pos l).toNat c := by
        by_cases h : l = l1
        · subst h; rw [pos1] at hcl ⊢; exact (hL l).top.snd c hl hn hcl
        · rw [poso l h] at hcl ⊢; exact (hL l).top.fst c hl hcl
      rcases hb with hb | hb
      · rw [hb] at hb'; exact hb'
      · exact hb.trans hb'

end Cert.Top2

end
-- ==== Proof.KLane.lean ====
/- One trip of the scan, read lane by lane over the extended reals. -/
module

public import proofs.«01_k».proof.Proof.KHash
public import proofs.«01_k».proof.Proof.Top2
public import Idealize.ShloMosaic.Lib.WritesUnit
public import Idealize.ShloMosaic.Lib.WordArith

@[expose] public section

set_option maxRecDepth 65536

noncomputable section

namespace Cert.KernelIdeal.Hand

open Cert.KernelIdeal Cert.KernelIdeal.Gen Cert.Top2
open Idealize.ShloMosaic Idealize.ShloMosaic.TcCoe
open Idealize.SL Idealize.SL.Sem

theorem trips1 : k0_t1_loop.trips = 391 := by decide +kernel

theorem trips2 : k0_t2_loop.trips = 391 := by decide +kernel

theorem select_ofBool {α : Type} (b : Prop) [Decidable b] (x y : α) :
    Scalar.select (BitVec.ofBool (decide b)) x y = if b then x else y := by
  by_cases h : b <;> simp [Scalar.select, h]

/-- A position's value from its column number and its random word. -/
theorem pay43_apply (c h : IVec S32x256 32) (x : FVec Ideal S32x256 .f32) (j : S32x256.Idx) :
    k0_pay43 (F := Ideal) c h 9#32 x j
      = Scalar.select (IntOp.cmpi .slt (c j) 100000#32)
          (x j + (Ideal.ofBits .f32 0x00000000#32 - Ideal.log (Ideal.ofBits .f32 0x00000000#32
            - Ideal.log (max tiny (uni (h j)))))) (Ideal.ofBits .f32 0xFF800000#32) := rfl

theorem slt_vocab (n : ℕ) (hn : n < 2 ^ 31) :
    IntOp.cmpi .slt (BitVec.ofNat 32 n) 100000#32 = BitVec.ofBool (decide (n < 100000)) := by
  show BitVec.ofBool (BitVec.slt _ _) = _
  congr 1
  rw [BitVec.slt_eq_decide]
  have h1 : (BitVec.ofNat 32 n).toInt = n := by
    rw [BitVec.toInt_eq_toNat_of_lt (by rw [BitVec.toNat_ofNat]; omega), BitVec.toNat_ofNat, Nat.mod_eq_of_lt (by omega)]
  have h2 : (100000#32).toInt = 100000 := by decide
  rw [h1, h2]
  congr 1
  apply propext
  omega

/-- A chunk's position values: the score plus the noise where the position is one of the row's, the
    least element past the row's end. -/
theorem pay43_eq (i : grid0.Coords) (k : Fin k0_t1_loop.trips) (x : FVec Ideal S32x256 .f32) (j : S32x256.Idx) :
    k0_pay43 (F := Ideal) (colW k) (hashW i k) 9#32 x j
      = if 256 * k.val + (j 1).val < 100000 then
          x j + gum (word (BitVec.ofNat 32 ((32 * (i 0).val + (j 0).val) * 100000 + (256 * k.val + (j 1).val)))) else ⊥ := by
  have hk : k.val < 391 := trips1 ▸ k.isLt
  have hj : (j 1).val < 256 := (j 1).isLt
  rw [pay43_apply, zero_eq, bot_eq, zero_sub, zero_sub, hashW_eq, base_eq, colW_eq, slt_vocab _ (by omega), select_ofBool]
  unfold gum
  with_reducible rfl

/-- What the lane at `j` carries. -/
def laneOf (S : FVec Ideal S32x256 .f32 × IVec S32x256 32 × FVec Ideal S32x256 .f32 × IVec S32x256 32) (j : S32x256.Idx) : Lane :=
  (S.1 j, S.2.1 j, S.2.2.1 j, S.2.2.2 j)

/-- A trip is a step of each lane. -/
theorem laneOf_scanStep (i : grid0.Coords) (k : Fin k0_t1_loop.trips) (x : FVec Ideal S32x256 .f32)
    (a : FVec Ideal S32x256 .f32 × IVec S32x256 32 × FVec Ideal S32x256 .f32 × IVec S32x256 32) (j : S32x256.Idx) :
    laneOf (scanStep i k x a) j = Lane.step (k0_pay43 (F := Ideal) (colW k) (hashW i k) 9#32 x j) (colW k j) (laneOf a j) := by
  unfold scanStep
  generalize colW k = c
  generalize hashW i k = h
  set s := k0_pay43 (F := Ideal) c h 9#32 x j with hs
  classical
  have e1 : laneOf (k0_pay48 a.1 c h 9#32 x, k0_pay49 a.1 a.2.1 c h 9#32 x,
      k0_pay46 a.1 a.2.2.1 c h 9#32 x, k0_pay47 a.1 a.2.1 a.2.2.1 a.2.2.2 c h 9#32 x) j
      = (max s (a.1 j), Scalar.select (Ideal.cmp .ogt s (a.1 j)) (c j) (a.2.1 j),
          Scalar.select (Ideal.cmp .ogt s (a.1 j)) (a.1 j) (Scalar.select (Ideal.cmp .ogt s (a.2.2.1 j)) s (a.2.2.1 j)),
          Scalar.select (Ideal.cmp .ogt s (a.1 j)) (a.2.1 j) (Scalar.select (Ideal.cmp .ogt s (a.2.2.1 j)) (c j) (a.2.2.2 j))) := rfl
  rw [e1]
  unfold Ideal.cmp Lane.step laneOf
  dsimp only
  simp only [select_ofBool]

/-- A lane starts empty. -/
theorem laneOf_init (j : S32x256.Idx) :
    laneOf (k0_pay39 (F := Ideal), k0_pay40, k0_pay41, k0_pay42) j = (⊥, 1073741824#32, ⊥, 1073741824#32) := by
  have h : laneOf (k0_pay39 (F := Ideal), k0_pay40, k0_pay41, k0_pay42) j
    = (Ideal.ofBits .f32 0xFF800000#32, 1073741824#32, Ideal.ofBits .f32 0xFF800000#32, 1073741824#32) := rfl
  rw [h, bot_eq]

/-- The positions of a lane in the first `n` chunks. -/
def laneSet (n l c : ℕ) : Prop := c < 100000 ∧ c % 256 = l ∧ c < 256 * n

/-- The lane at `j` after `n` trips over chunks `x k` holding the row's real scores. -/
theorem lane_scan (i : grid0.Coords) (x : ℕ → FVec Ideal S32x256 .f32)
    (st : ℕ → FVec Ideal S32x256 .f32 × IVec S32x256 32 × FVec Ideal S32x256 .f32 × IVec S32x256 32)
    (h0 : st 0 = (k0_pay39, k0_pay40, k0_pay41, k0_pay42))
    (hst : ∀ k : Fin k0_t1_loop.trips, st (k.val + 1) = scanStep i k (x k.val) (st k.val)) (j : S32x256.Idx) (s : ℕ → EReal)
    (hs : ∀ k : ℕ, 256 * k + (j 1).val < 100000 → s (256 * k + (j 1).val)
      = x k j + gum (word (BitVec.ofNat 32 ((32 * (i 0).val + (j 0).val) * 100000 + (256 * k + (j 1).val)))))
    (hb : ∀ c, c < 100000 → ⊥ < s c) (n : ℕ) (hn : n + 2 ≤ 391) :
    (laneOf (st (n + 2)) j).Holds s (laneSet (n + 2) (j 1).val) := by
  have hj : (j 1).val < 256 := (j 1).isLt
  have step : ∀ k : ℕ, k < 391 → laneOf (st (k + 1)) j
      = Lane.step (if 256 * k + (j 1).val < 100000 then s (256 * k + (j 1).val) else ⊥)
          (BitVec.ofNat 32 (256 * k + (j 1).val)) (laneOf (st k) j) := fun k hk => by
    rw [hst ⟨k, trips1 ▸ hk⟩, laneOf_scanStep, pay43_eq, colW_eq]
    dsimp only
    by_cases h : 256 * k + (j 1).val < 100000
    · rw [if_pos h, if_pos h, hs k h]
    · rw [if_neg h, if_neg h]
  have tn : ∀ k : ℕ, k < 391 → (BitVec.ofNat 32 (256 * k + (j 1).val)).toNat = 256 * k + (j 1).val := fun k hk => by
    rw [BitVec.toNat_ofNat, Nat.mod_eq_of_lt (by omega)]
  induction n with
  | zero =>
    rw [step 1 (by omega), step 0 (by omega), h0, laneOf_init, if_pos (by omega), if_pos (by omega)]
    have t0 := tn 0 (by omega)
    have t1 := tn 1 (by omega)
    have := Lane.holds_two (s := s) (V := laneSet 2 (j 1).val) (BitVec.ofNat 32 (256 * 0 + (j 1).val))
      (BitVec.ofNat 32 (256 * 1 + (j 1).val)) 1073741824#32 (by rw [t0, t1]; omega)
      (fun y => by rw [t0, t1]; unfold laneSet; omega) (by rw [t0]; exact hb _ (by omega)) (by rw [t1]; exact hb _ (by omega))
    rw [t0, t1] at this
    exact this
  | succ n ih =>
    have ih := ih (by omega)
    rw [show n + 1 + 2 = (n + 2) + 1 from rfl, step (n + 2) (by omega)]
    have t := tn (n + 2) (by omega)
    by_cases h : 256 * (n + 2) + (j 1).val < 100000
    · rw [if_pos h]
      have := ih.step (W := laneSet (n + 2 + 1) (j 1).val) (BitVec.ofNat 32 (256 * (n + 2) + (j 1).val))
        (fun y hy => by rw [t]; unfold laneSet at hy; omega) (fun y => by rw [t]; unfold laneSet; omega)
      rw [t] at this
      exact this
    · rw [if_neg h, Lane.step_bot]
      have e : laneSet (n + 2 + 1) (j 1).val = laneSet (n + 2) (j 1).val := by
        funext y; apply propext; unfold laneSet; omega
      rw [e]; exact ih

end Cert.KernelIdeal.Hand

end
-- ==== Proof.Folds.lean ====
/- A largest value with its smallest position, found by a maximum and then a minimum over the
   positions that reach it. -/
module

public import proofs.«01_k».proof.Proof.Top2
public import Idealize.ShloMosaic.Lib.WordArith
public import Idealize.ShloMosaic.PureOps.Ideal.Laws

@[expose] public section

noncomputable section

namespace Cert.Top2

open Idealize.ShloMosaic Idealize.ShloMosaic.WordArith

/-- The maximum over a nonempty family is one of its values. -/
theorem fold_max {n : ℕ} (hn : 0 < n) (f : Fin n → EReal) :
    ∃ l, (Finset.univ : Finset (Fin n)).fold max ⊥ f = f l ∧ ∀ l', f l' ≤ f l := by
  obtain ⟨l, -, hl⟩ := Finset.exists_max_image (Finset.univ : Finset (Fin n)) f ⟨⟨0, hn⟩, Finset.mem_univ _⟩
  refine ⟨l, le_antisymm ?_ ?_, fun l' => hl l' (Finset.mem_univ _)⟩
  · exact (Finset.fold_max_le _).2 ⟨bot_le, fun x hx => hl x hx⟩
  · exact (Finset.le_fold_max _).2 (.inr ⟨l, Finset.mem_univ _, le_rfl⟩)

/-- The signed minimum of words below 2³¹ is the minimum of their numbers. -/
theorem fold_minsi {ι : Type} (S : Finset ι) (g : ι → BitVec 32) (hg : ∀ l, (g l).toNat < 2 ^ 31) :
    (S.fold IntOp.minsi 2147483647#32 g).toNat = S.fold min 2147483647 (fun l => (g l).toNat)
      ∧ (S.fold IntOp.minsi 2147483647#32 g).toNat < 2 ^ 31 := by
  classical
  induction S using Finset.induction_on with
  | empty => simp
  | insert a S ha ih =>
    rw [Finset.fold_insert ha, Finset.fold_insert ha, toNat_minsi_of_lt _ _ (hg a) ih.2, ih.1]
    exact ⟨rfl, lt_of_le_of_lt (min_le_left _ _) (hg a)⟩

/-- The maximum, and the least position among those that reach it, belong to the best candidate. -/
theorem best_of {n : ℕ} (hn : 0 < n) (f : Fin n → EReal) (g : Fin n → BitVec 32) (hg : ∀ l, (g l).toNat < 2 ^ 30) :
    ∃ l, Best f (fun l => (g l).toNat) l ∧ (Finset.univ : Finset (Fin n)).fold max ⊥ f = f l
      ∧ ∀ g' : Fin n → BitVec 32, (∀ l', g' l' = if f l' = f l then g l' else 1073741824#32) →
          (Finset.univ : Finset (Fin n)).fold IntOp.minsi 2147483647#32 g' = g l := by
  classical
  obtain ⟨m, hm, hmax⟩ := fold_max hn f
  obtain ⟨l, hl, hmin⟩ := Finset.exists_min_image (Finset.univ.filter fun l => f l = f m) (fun l => (g l).toNat)
    ⟨m, by simp⟩
  have hfl : f l = f m := (Finset.mem_filter.1 hl).2
  refine ⟨l, fun l' => ⟨hfl ▸ hmax l', fun h => hmin l' (Finset.mem_filter.2 ⟨Finset.mem_univ _, h.trans hfl⟩)⟩,
    hm.trans hfl.symm, fun g' hg' => ?_⟩
  have hlt : ∀ l', (g' l').toNat < 2 ^ 31 := fun l' => by
    rw [hg']
    split
    · exact lt_trans (hg l') (by norm_num)
    · decide
  apply BitVec.eq_of_toNat_eq
  rw [(fold_minsi _ g' hlt).1]
  apply le_antisymm
  · refine (Finset.fold_min_le _).2 (.inr ⟨l, Finset.mem_univ _, ?_⟩)
    rw [hg', if_pos rfl]
  · refine (Finset.le_fold_min _).2 ⟨?_, fun l' _ => ?_⟩
    · have := hg l; omega
    · rw [hg']
      split
      · next h => exact hmin l' (Finset.mem_filter.2 ⟨Finset.mem_univ _, h.trans hfl⟩)
      · have := hg l
        show (g l).toNat ≤ 1073741824
        omega

end Cert.Top2

end
-- ==== Proof.KMerge.lean ====
/- The row's two best positions, as the block merges them from its lanes. -/
module

public import proofs.«01_k».proof.Proof.KLane
public import proofs.«01_k».proof.Proof.Folds
public import Idealize.ShloMosaic.Lib.ValueLayout
public import Idealize.ShloMosaic.Lib.ValueLayoutCasts

@[expose] public section

set_option maxRecDepth 65536

noncomputable section

namespace Cert.KernelIdeal.Hand

open Cert.KernelIdeal Cert.KernelIdeal.Gen Cert.Top2
open Idealize.ShloMosaic Idealize.ShloMosaic.TcCoe Idealize.ShloMosaic.ValueIdx
open Idealize.SL Idealize.SL.Sem

variable (r : Fin 32)

/-- A row's maximum over the lanes. -/
theorem rowMax (x : FVec Ideal S32x256 .f32) :
    multiReduction .maximumf [1] S32 x 0xFF800000#32 reduces_S32x256_S32 (.inl rfl) rfl (ix1 r)
      = (Finset.univ : Finset (Fin 256)).fold max ⊥ (fun l => x (ix2 r l)) := by
  refine (Ideal.multiReduction_maximumf_single x _ reduces_S32x256_S32 (.inl rfl) rfl (ix1 r)).trans ?_
  have e : (x ∘ reduces_S32x256_S32.lift (ix1 r)) = fun l : Fin 256 => x (ix2 r l) := by
    funext l
    refine congrArg x (funext fun a => ?_)
    match a with
    | ⟨0, _⟩ => rfl
    | ⟨1, _⟩ => rfl
  rw [e]
  exact congrArg (fun b => (Finset.univ : Finset (Fin 256)).fold max b (fun l => x (ix2 r l))) bot_eq

/-- A row's least word over the lanes. -/
theorem rowMin (x : IVec S32x256 32) :
    multiReductionI .minsi [1] S32 x 2147483647#32 reduces_S32x256_S32 rfl (ix1 r)
      = (Finset.univ : Finset (Fin 256)).fold IntOp.minsi 2147483647#32 (fun l => x (ix2 r l)) := by
  refine (multiReductionI_eq_fold .minsi x _ reduces_S32x256_S32 rfl (ix1 r)).trans ?_
  have e : (x ∘ reduces_S32x256_S32.lift (ix1 r)) = fun l : Fin 256 => x (ix2 r l) := by
    funext l
    refine congrArg x (funext fun a => ?_)
    match a with
    | ⟨0, _⟩ => rfl
    | ⟨1, _⟩ => rfl
  exact (reduces_S32x256_S32.fold_filter_drop_single IntOp.minsi _ x (ix1 r)).trans
    (congrArg (fun f : Fin 256 → BitVec 32 => (Finset.univ : Finset (Fin 256)).fold IntOp.minsi 2147483647#32 f) e)

/-- A column spread over the lanes. -/
theorem spread {α : Type} (v : S32x1.Idx → α) (l : Fin 256) :
    broadcastTo S32x256 v broadcasts_S32x1_S32x256 (ix2 r l) = v (ix2 r 0) := by
  refine congrArg v (funext fun a => ?_)
  match a with
  | ⟨0, _⟩ => rfl
  | ⟨1, _⟩ => rfl

theorem oeq_apply (x y : FVec Ideal S32x256 .f32) (j : S32x256.Idx) :
    cmpf .oeq x y j = BitVec.ofBool (decide (x j = y j)) := rfl

theorem pay50_apply (m : FVec Ideal S32x256 .f32) :
    k0_pay50 (F := Ideal) m (ix2 r 0) = (Finset.univ : Finset (Fin 256)).fold max ⊥ (fun l => m (ix2 r l)) := by
  unfold k0_pay50
  exact (shapeCast_a_a1_apply _ _ r 0).trans (rowMax r m)

theorem pay51_apply (m : FVec Ideal S32x256 .f32) (i : IVec S32x256 32) :
    k0_pay51 (F := Ideal) m i (ix2 r 0) = (Finset.univ : Finset (Fin 256)).fold IntOp.minsi 2147483647#32
      (fun l => if m (ix2 r l) = k0_pay50 (F := Ideal) m (ix2 r 0) then i (ix2 r l) else 1073741824#32) := by
  unfold k0_pay51
  refine (shapeCast_a_a1_apply _ _ r 0).trans ((rowMin r _).trans ?_)
  congr 1
  funext l
  show Scalar.select (BitVec.ofBool (decide (m (ix2 r l) = broadcastTo S32x256 (k0_pay50 (F := Ideal) m) broadcasts_S32x1_S32x256 (ix2 r l)))) _ _ = _
  rw [select_ofBool, spread]
  rfl

/-- Where the chosen lane stands. -/
def chosen (m : FVec Ideal S32x256 .f32) (i : IVec S32x256 32) : IVec S32x256 1 :=
  andi (cmpf .oeq m (broadcastTo S32x256 (k0_pay50 (F := Ideal) m) broadcasts_S32x1_S32x256))
    (cmpi .eq i (broadcastTo S32x256 (k0_pay51 (F := Ideal) m i) broadcasts_S32x1_S32x256))

/-- The candidates for the second position: the lanes' firsts, the chosen lane's replaced by its second. -/
def candV (m : FVec Ideal S32x256 .f32) (i : IVec S32x256 32) (m2 : FVec Ideal S32x256 .f32) : FVec Ideal S32x256 .f32 :=
  select (chosen m i) m2 m

/-- Their positions. -/
def candI (m : FVec Ideal S32x256 .f32) (i i2 : IVec S32x256 32) : IVec S32x256 32 :=
  select (chosen m i) i2 i

theorem select_and {α : Type} (p : Prop) [Decidable p] (a b : BitVec 32) (x y : α) :
    Scalar.select (IntOp.andi (BitVec.ofBool (decide p)) (IntOp.cmpi .eq a b)) x y = if p ∧ a = b then x else y := by
  have e : IntOp.andi (BitVec.ofBool (decide p)) (IntOp.cmpi .eq a b) = BitVec.ofBool (decide (p ∧ a = b)) := by
    have e' : IntOp.cmpi .eq a b = BitVec.ofBool (decide (a = b)) := by
      show BitVec.ofBool (a == b) = _
      congr 1
    rw [e']
    by_cases hp : p <;> by_cases h : a = b <;> simp [IntOp.andi, hp, h]
  rw [e, select_ofBool]

theorem candV_apply (m : FVec Ideal S32x256 .f32) (i : IVec S32x256 32) (m2 : FVec Ideal S32x256 .f32) (l : Fin 256) :
    candV m i m2 (ix2 r l) = if m (ix2 r l) = k0_pay50 (F := Ideal) m (ix2 r 0) ∧ i (ix2 r l) = k0_pay51 (F := Ideal) m i (ix2 r 0)
      then m2 (ix2 r l) else m (ix2 r l) := by
  show Scalar.select (IntOp.andi (BitVec.ofBool (decide (m (ix2 r l) = broadcastTo S32x256 (k0_pay50 (F := Ideal) m) broadcasts_S32x1_S32x256 (ix2 r l))))
    (IntOp.cmpi .eq (i (ix2 r l)) (broadcastTo S32x256 (k0_pay51 (F := Ideal) m i) broadcasts_S32x1_S32x256 (ix2 r l)))) _ _ = _
  rw [spread, spread, select_and]

theorem candI_apply (m : FVec Ideal S32x256 .f32) (i i2 : IVec S32x256 32) (l : Fin 256) :
    candI m i i2 (ix2 r l) = if m (ix2 r l) = k0_pay50 (F := Ideal) m (ix2 r 0) ∧ i (ix2 r l) = k0_pay51 (F := Ideal) m i (ix2 r 0)
      then i2 (ix2 r l) else i (ix2 r l) := by
  show Scalar.select (IntOp.andi (BitVec.ofBool (decide (m (ix2 r l) = broadcastTo S32x256 (k0_pay50 (F := Ideal) m) broadcasts_S32x1_S32x256 (ix2 r l))))
    (IntOp.cmpi .eq (i (ix2 r l)) (broadcastTo S32x256 (k0_pay51 (F := Ideal) m i) broadcasts_S32x1_S32x256 (ix2 r l)))) _ _ = _
  rw [spread, spread, select_and]

theorem pay52_apply (m : FVec Ideal S32x256 .f32) (i : IVec S32x256 32) (m2 : FVec Ideal S32x256 .f32) (i2 : IVec S32x256 32) :
    k0_pay52 (F := Ideal) m i m2 i2 (ix2 r 0) = (Finset.univ : Finset (Fin 256)).fold IntOp.minsi 2147483647#32
      (fun l => if candV m i m2 (ix2 r l) = (Finset.univ : Finset (Fin 256)).fold max ⊥ (fun l => candV m i m2 (ix2 r l))
        then candI m i i2 (ix2 r l) else 1073741824#32) := by
  have h : k0_pay52 (F := Ideal) m i m2 i2 = shapeCast S32x1 (multiReductionI .minsi [1] S32
      (select (cmpf .oeq (candV m i m2) (broadcastTo S32x256 (shapeCast S32x1
        (multiReduction .maximumf [1] S32 (candV m i m2) 0xFF800000#32 reduces_S32x256_S32 (.inl rfl) rfl) shapeCasts_S32_S32x1)
          broadcasts_S32x1_S32x256)) (candI m i i2) (broadcast S32x256 1073741824#32)) 2147483647#32 reduces_S32x256_S32 rfl) shapeCasts_S32_S32x1 := by
    unfold k0_pay52 candV candI chosen
    with_reducible rfl
  rw [h]
  generalize candV m i m2 = v
  generalize candI m i i2 = w
  refine (shapeCast_a_a1_apply _ _ r 0).trans ((rowMin r _).trans ?_)
  have e := (shapeCast_a_a1_apply (multiReduction .maximumf [1] S32 v 0xFF800000#32 reduces_S32x256_S32 (.inl rfl) rfl)
    shapeCasts_S32_S32x1 r 0).trans (rowMax r _)
  congr 1
  funext l
  show Scalar.select (BitVec.ofBool (decide (v (ix2 r l) = broadcastTo S32x256 (shapeCast S32x1 _ _) broadcasts_S32x1_S32x256 (ix2 r l)))) _ _ = _
  rw [select_ofBool, spread, e]
  rfl

/-- Where each lane holds its two best positions, the block's two words are the row's two best. -/
theorem merged (S : FVec Ideal S32x256 .f32 × IVec S32x256 32 × FVec Ideal S32x256 .f32 × IVec S32x256 32) (s : ℕ → EReal)
    (hL : ∀ l : Fin 256, (laneOf S (ix2 r l)).Holds s (laneSet 391 l.val)) :
    IsTop2 s (· < 100000) (k0_pay51 (F := Ideal) S.1 S.2.1 (ix2 r 0)).toNat
      (k0_pay52 (F := Ideal) S.1 S.2.1 S.2.2.1 S.2.2.2 (ix2 r 0)).toNat := by
  obtain ⟨m, i, m2, i2⟩ := S
  dsimp only
  have b1 : ∀ l : Fin 256, (i (ix2 r l)).toNat < 2 ^ 30 := fun l => by
    have h : laneSet 391 l.val (i (ix2 r l)).toNat := (hL l).top.mem_fst
    exact lt_trans h.1 (by norm_num)
  have b2 : ∀ l : Fin 256, (i2 (ix2 r l)).toNat < 2 ^ 30 := fun l => by
    have h : laneSet 391 l.val (i2 (ix2 r l)).toNat := (hL l).top.mem_snd
    exact lt_trans h.1 (by norm_num)
  obtain ⟨l1, best1, v1, e1⟩ := best_of (by norm_num) (fun l : Fin 256 => m (ix2 r l)) (fun l => i (ix2 r l)) b1
  have p50 : k0_pay50 (F := Ideal) m (ix2 r 0) = m (ix2 r l1) := (pay50_apply r m).trans v1
  have p51 : k0_pay51 (F := Ideal) m i (ix2 r 0) = i (ix2 r l1) :=
    (pay51_apply r m i).trans (e1 _ fun l' => by rw [p50])
  have b3 : ∀ l : Fin 256, (candI m i i2 (ix2 r l)).toNat < 2 ^ 30 := fun l => by
    rw [candI_apply]; split
    · exact b2 l
    · exact b1 l
  obtain ⟨l2, best2, v2, e2⟩ := best_of (by norm_num) (fun l : Fin 256 => candV m i m2 (ix2 r l)) (fun l => candI m i i2 (ix2 r l)) b3
  have p52 : k0_pay52 (F := Ideal) m i m2 i2 (ix2 r 0) = candI m i i2 (ix2 r l2) :=
    (pay52_apply r m i m2 i2).trans (e2 _ fun l' => by rw [v2])
  rw [p51, p52]
  refine merge (fun l : Fin 256 => laneOf (m, i, m2, i2) (ix2 r l)) (V := fun l => laneSet 391 l.val) (fun c => ?_) (fun c l l' h h' => ?_) hL
    (fun l => candV m i m2 (ix2 r l)) (fun l => candI m i i2 (ix2 r l)) l1 l2 (fun l => ?_) (fun l => ?_) best1 best2
  · constructor
    · intro hc
      exact ⟨⟨c % 256, Nat.mod_lt _ (by norm_num)⟩, hc, rfl, by omega⟩
    · rintro ⟨l, h⟩; exact h.1
  · exact Fin.ext (h.2.1.symm.trans h'.2.1)
  · rw [candV_apply, p50, p51]; rfl
  · rw [candI_apply, p50, p51]; rfl

end Cert.KernelIdeal.Hand

end
-- ==== Proof.KBlock.lean ====
/- What one block leaves in its output window: 1 at each row's two best positions, 0 elsewhere. -/
module

public import proofs.«01_k».proof.Proof.KMerge

@[expose] public section

set_option maxRecDepth 65536

noncomputable section

namespace Cert.KernelIdeal.Hand

open Cert.KernelIdeal Cert.KernelIdeal.Gen Cert.Top2
open Idealize.ShloMosaic Idealize.ShloMosaic.TcCoe Idealize.ShloMosaic.ValueIdx
open Idealize.SL Idealize.SL.Sem

theorem off1_eq (k : Fin k0_t1_loop.trips) : k0_off1 k = ![0, 256 * k.val] := by
  have hk : k.val < 391 := trips1 ▸ k.isLt
  have h : ((0#32 + BitVec.ofNat 32 k.val * 1#32) * 256#32).toNat = 256 * k.val := by
    simp [BitVec.toNat_mul]; omega
  exact congrArg (fun n => (![0, n] : Fin 2 → ℕ)) h

theorem off2_eq (k : Fin k0_t2_loop.trips) : k0_off2 k = ![0, 256 * k.val] := by
  have hk : k.val < 391 := trips2 ▸ k.isLt
  have h : ((0#32 + BitVec.ofNat 32 k.val * 1#32) * 256#32).toNat = 256 * k.val := by
    simp [BitVec.toNat_mul]; omega
  exact congrArg (fun n => (![0, n] : Fin 2 → ℕ)) h

/-- A marked chunk at a position. -/
theorem pay1_apply (v w : IVec S32x1 32) (k : Fin k0_t2_loop.trips) (r : Fin 32) (l : Fin 256) :
    k0_pay1 (F := Ideal) (iota .tc S32x256 32 [1] iota_S32x256_d1_w32) v w (FloatOps.ofBits .f32 1065353216#32)
        (FloatOps.ofBits .f32 0#32) 0#32 1#32 k (ix2 r l)
      = if 256 * k.val + l.val = (v (ix2 r 0)).toNat ∨ 256 * k.val + l.val = (w (ix2 r 0)).toNat then 1 else 0 := by
  have hk : k.val < 391 := trips2 ▸ k.isLt
  have hl : l.val < 256 := l.isLt
  set b : BitVec 32 := BitVec.ofNat 32 (0 * 256 + l.val) + (0#32 + BitVec.ofNat 32 k.val * 1#32) * 256#32 with hb
  have hbn : b.toNat = 256 * k.val + l.val := by
    rw [hb]; simp [BitVec.toNat_add, BitVec.toNat_mul]; omega
  have h : k0_pay1 (F := Ideal) (iota .tc S32x256 32 [1] iota_S32x256_d1_w32) v w (FloatOps.ofBits .f32 1065353216#32)
        (FloatOps.ofBits .f32 0#32) 0#32 1#32 k (ix2 r l)
      = Scalar.select (IntOp.ori (IntOp.cmpi .eq b (broadcastTo S32x256 v broadcasts_S32x1_S32x256 (ix2 r l)))
          (IntOp.cmpi .eq b (broadcastTo S32x256 w broadcasts_S32x1_S32x256 (ix2 r l))))
          (Ideal.ofBits .f32 0x3F800000#32) (Ideal.ofBits .f32 0x00000000#32) := rfl
  rw [h, spread, spread, one_eq, zero_eq]
  have e : ∀ x y : BitVec 32, IntOp.ori (IntOp.cmpi .eq b x) (IntOp.cmpi .eq b y)
      = BitVec.ofBool (decide (b.toNat = x.toNat ∨ b.toNat = y.toNat)) := fun x y => by
    have e' : ∀ z : BitVec 32, IntOp.cmpi .eq b z = BitVec.ofBool (decide (b.toNat = z.toNat)) := fun z => by
      show BitVec.ofBool (b == z) = _
      congr 1
      rw [beq_eq_decide]
      exact decide_eq_decide.2 BitVec.toNat_inj.symm
    rw [e', e']
    rw [Bool.decide_or]
    have e2 : ∀ p q : Bool, IntOp.ori (BitVec.ofBool p) (BitVec.ofBool q) = BitVec.ofBool (p || q) := by decide
    exact e2 _ _
  rw [e, select_ofBool, hbn]

variable (c : Dev nD) (i : grid0.Coords) (arg1 : Memref sig .tc .vmem S32x100096 .f32)
  (harg1 : arg1.IsWhole) (arg2 : Memref sig .tc .vmem S32x100096 .f32) (harg2 : arg2.IsWhole)

/-- The window after `n` trips of the second loop, at the positions those trips cover. -/
theorem pb_read (v w : IVec S32x1 32) (f2 : BufTy.Contents (Elt Ideal) arg2.view.ty) (n : ℕ) (hn : n ≤ 391)
    (r : Fin 32) (l : Fin 100096) (hl : l.val < 256 * n) :
    arg2.view.read (Elt Ideal) (arg2.view.writes (Elt Ideal) f2
        (pb_k0_t2 𝒱₀ c none i arg1 harg1 arg2 harg2 (iota .tc S32x256 32 [1] iota_S32x256_d1_w32) v w
          (FloatOps.ofBits .f32 1065353216#32) (FloatOps.ofBits .f32 0#32) 0#32 1#32 n)) (ix2 r l)
      = (if l.val = (v (ix2 r 0)).toNat ∨ l.val = (w (ix2 r 0)).toNat then 1 else 0 : EReal) := by
  induction n with
  | zero => omega
  | succ n ih =>
    have hk : n < k0_t2_loop.trips := trips2 ▸ (by omega : n < 391)
    have e := pb_k0_t2_succ (F := Ideal) 𝒱₀ c none i arg1 harg1 arg2 harg2 (iota .tc S32x256 32 [1] iota_S32x256_d1_w32) v w
          (FloatOps.ofBits .f32 1065353216#32) (FloatOps.ofBits .f32 0#32) 0#32 1#32 ⟨n, hk⟩
    dsimp only at e
    rw [e, tripL_eq, List.singleton_append]
    by_cases h : l.val < 256 * n
    · exact (View.read_writes_cons_unit_of_not_mem arg2.view f2 _ _ _ (ix2 r l) (off2_eq ⟨n, hk⟩) (1 : Fin 2) (.inl h)).trans
        (ih (by omega) h)
    · refine (View.read_writes_cons_unit_of_mem arg2.view f2 _ _ _ (ix2 r l) (ix2 r ⟨l.val - 256 * n, by omega⟩) (off2_eq ⟨n, hk⟩) (fun a => ?_)).trans ?_
      · match a with
        | ⟨0, _⟩ => show r.val = 0 + r.val; omega
        | ⟨1, _⟩ => show l.val = 256 * n + (l.val - 256 * n); omega
      · rw [pay1_apply]
        have hh : 256 * n + (l.val - 256 * n) = l.val := by omega
        dsimp only
        rw [hh]

/-- A row's values in a block: each score with the noise of its position. -/
def rowVal (i : grid0.Coords) (X : S32x100096.Idx → EReal) (r : Fin 32) (n : ℕ) : EReal :=
  if h : n < 100096 then X (ix2 r ⟨n, h⟩) + gum (word (BitVec.ofNat 32 ((32 * (i 0).val + r.val) * 100000 + n))) else 0

/-- A block's output: its rows' marks. -/
theorem block_out (f1 : BufTy.Contents (Elt Ideal) arg1.view.ty) (X : S32x100096.Idx → EReal)
    (hX : arg1.view.read (Elt Ideal) f1 = X) (hreal : ∀ r n, n < 100000 → ⊥ < rowVal i X r n)
    (f2 : BufTy.Contents (Elt Ideal) arg2.view.ty) :
    arg2.view.read (Elt Ideal) (arg2.view.writes (Elt Ideal) f2 (bodyRun c i arg1 harg1 arg2 harg2 f1).1)
      = fun j => mark (rowVal i X (j 0)) 100000 (j 1).val := by
  funext j
  obtain ⟨r, l, rfl⟩ : ∃ (r : Fin 32) (l : Fin 100096), j = ix2 r l := ⟨j 0, j 1, eq_ix2 j⟩
  rw [bodyRun_eq]
  dsimp only
  rw [show Scf.trips k0_t2_loop.lb k0_t2_loop.ub k0_t2_loop.st = 391 from trips2]
  refine (pb_read c i arg1 harg1 arg2 harg2 _ _ f2 391 le_rfl r l (by have := l.isLt; omega)).trans ?_
  have ht := merged r (scanAt c i arg1 harg1 arg2 harg2 f1 391) (rowVal i X r) (fun l => by
    refine lane_scan i
      (fun k => if h : k < k0_t1_loop.trips then
        arg1.view.readAt (Elt Ideal) (Rect.unit (s := S32x100096) (k0_off1 ⟨k, h⟩) S32x256.size (k0_off1_inb ⟨k, h⟩)).toLoadRect f1 else fun _ => ⊥)
      (scanAt c i arg1 harg1 arg2 harg2 f1) rfl (fun k => ?_) (ix2 r l) (rowVal i X r) (fun k hk => ?_) (fun n hn => hreal r n hn) 389 (by norm_num)
    · rw [dif_pos k.isLt]
      exact (st_k0_t1_succ (F := Ideal) 𝒱₀ c none i arg1 harg1 arg2 harg2 _ f1 _ k).trans (tripR_eq c none i arg1 harg1 arg2 harg2 f1 k _)
    · have hk' : k < k0_t1_loop.trips := by rw [trips1]; omega
      have hk2 : 256 * k + l.val < 100000 := hk
      show rowVal i X r (256 * k + l.val) = _
      unfold rowVal
      rw [dif_pos (by omega), dif_pos hk', View.readAt_apply, ← hX]
      refine congrArg₂ (· + ·) (congrArg (arg1.view.read (Elt Ideal) f1) (funext fun a => Fin.ext ?_)) rfl
      have ho := off1_eq ⟨k, hk'⟩
      match a with
      | ⟨0, _⟩ =>
        show r.val = k0_off1 ⟨k, hk'⟩ 0 + 1 * r.val
        rw [ho]; show r.val = 0 + 1 * r.val; omega
      | ⟨1, _⟩ =>
        show 256 * k + l.val = k0_off1 ⟨k, hk'⟩ 1 + 1 * l.val
        rw [ho]; show 256 * k + l.val = 256 * k + 1 * l.val; omega)
  exact (mark_eq ht l.val).symm

end Cert.KernelIdeal.Hand

end
-- ==== Proof.Total.lean ====
/- The value every position of the array competes with: its score and the noise of its place. -/
module

public import proofs.«01_k».proof.Proof.Top2
public import proofs.«01_k».proof.Proof.Words
public import Idealize.ShloMosaic.Lib.Pipeline.ValueKit

@[expose] public section

noncomputable section

namespace Cert.Top2

open Idealize.ShloMosaic

/-- The array's shape. -/
abbrev Grid : Shape := ⟨2, ![128, 100000]⟩

/-- A row's values: each score with the noise of its place. -/
def total (x : Grid.Idx → EReal) (R : Fin 128) (n : ℕ) : EReal :=
  if h : n < 100000 then x (ValueIdx.ix2 R ⟨n, h⟩) + gum (word (BitVec.ofNat 32 (R.val * 100000 + n))) else 0

/-- What both programs end with. -/
def marks (x : Grid.Idx → EReal) : Grid.Idx → EReal := fun j => mark (total x (j 0)) 100000 (j 1).val

/-- The values are real when the scores are. -/
theorem total_real (x : Grid.Idx → EReal) (hx : ∀ j, ∃ a : ℝ, x j = a) (R : Fin 128) (n : ℕ) :
    ∃ a : ℝ, total x R n = a := by
  unfold total
  split
  · next h =>
    obtain ⟨a, ha⟩ := hx (ValueIdx.ix2 R ⟨n, h⟩)
    obtain ⟨g, hg⟩ := gum_real (word (BitVec.ofNat 32 (R.val * 100000 + n)))
    exact ⟨a + g, by rw [ha, hg]; rfl⟩
  · exact ⟨0, rfl⟩

/-- The mark reads the values of the row only. -/
theorem mark_congr {s s' : ℕ → EReal} {n : ℕ} (h : ∀ k, k < n → s k = s' k) (c : ℕ) : mark s n c = mark s' n c := by
  have key : ∀ a b, IsTop2 s (· < n) a b ↔ IsTop2 s' (· < n) a b := fun a b =>
    ⟨IsTop2.congr fun c d hc hd => by rw [h c hc, h d hd], IsTop2.congr fun c d hc hd => by rw [h c hc, h d hd]⟩
  unfold mark
  rw [show (∃ a b, IsTop2 s (· < n) a b ∧ (c = a ∨ c = b)) = ∃ a b, IsTop2 s' (· < n) a b ∧ (c = a ∨ c = b) from
    propext ⟨fun ⟨a, b, h, h'⟩ => ⟨a, b, (key a b).1 h, h'⟩, fun ⟨a, b, h, h'⟩ => ⟨a, b, (key a b).2 h, h'⟩⟩]

end Cert.Top2
-- ==== Proof.KValue.lean ====
/- The kernel's run with its result: the marks of the scores it was launched with. -/
module

public import proofs.«01_k».proof.Proof.KFrame
public import proofs.«01_k».proof.Proof.KBlock
public import proofs.«01_k».proof.Proof.Total

@[expose] public section

set_option maxRecDepth 16384

noncomputable section

namespace Cert.KernelIdeal.Hand

open Cert.KernelIdeal Cert.KernelIdeal.Gen Cert.Top2
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose)
open Idealize.ShloMosaic.Rounds

local notation "𝕄" => MT nD τ sig Unit (Elt Ideal) ℕ (UR sig nD τ) ℕ

variable (m : (ℓ : Loc nD τ sig) → Buf (Elt Ideal) ℓ) (ρ : Dev nD → PrngReg)

/-- The scores at launch. -/
def scores (c : Dev nD) : Grid.Idx → EReal := m ((c : Thread nD τ).loc main_arg0)

/-- The scores' block at a point, on the part inside the array. -/
def xblk (c : Dev nD) (t : Fin cfg0.N) : (win0_0.xblock (grid0.coords t)).Idx → Elt Ideal .f32 :=
  (win0_0.blk t).view.read (Elt Ideal) (m ((c : Thread nD τ).loc main_arg0))

/-- The row of the array at a row of a block. -/
def rowAt (t : Fin cfg0.N) (r : Fin 32) : Fin 128 :=
  ⟨32 * t.val + r.val, by have := t.isLt; have h : cfg0.N = 4 := N_0; have := r.isLt; omega⟩

/-- What the result's buffer holds after a point. -/
def oblk (c : Dev nD) (t : Fin cfg0.N) : S32x100096.Idx → EReal :=
  fun j => mark (total (scores m c) (rowAt t (j 0))) 100000 (j 1).val

/-- The proof data: the arrays as launched; the score block read; the marks written. -/
def dats (_ : Fin 1) (c : Dev nD) : Dat τ (Elt Ideal) Unit ℕ (UR sig nD τ) ℕ cfg0 c where
  A w := V m c (Pipeline.arrRef spec0 w)
  after w t := match w with
    | ⟨0, _⟩ => win0_0.fill (grid0.coords t) (fun _ => (0 : EReal)) (xblk m c t)
    | ⟨1, _⟩ => oblk m c t
  Φ _ := Pipeline.ΦA spec0 c
  q _ := fullShare
  owed _ := 0

theorem coords_val (t : Fin cfg0.N) : (grid0.coords t 0).val = t.val := by
  rcases fin_N0 t with rfl | rfl | rfl | rfl <;> decide

theorem before_0 (c : Dev nD) (t : Fin cfg0.N) (d) :
    (dats m 0 c).before (0 : Fin 2) t d = win0_0.fill (grid0.coords t) d (xblk m c t) := by
  unfold Dat.before; rw [if_pos (fetch0_0 t)]; rfl

/-- A position inside the array is one the fetch brings. -/
theorem moved_in (t : Fin cfg0.N) (r : Fin 32) (n : ℕ) (h : n < 100096) (hn : n < 100000) :
    win0_0.moved (grid0.coords t) (ValueIdx.ix2 r ⟨n, h⟩) = true := by
  refine (win0_0.moved_iff _ _).mpr fun a => ?_
  have hx : win0_0.xsize (grid0.coords t) 0 = 32 ∧ win0_0.xsize (grid0.coords t) 1 = 100000 := by
    rcases fin_N0 t with rfl | rfl | rfl | rfl <;> decide
  match a with
  | ⟨0, _⟩ => exact lt_of_lt_of_eq r.isLt hx.1.symm
  | ⟨1, _⟩ => exact lt_of_lt_of_eq hn hx.2.symm

theorem index_0 (t : Fin cfg0.N) : win0_0.index t = ![t.val, 0] := by
  rcases fin_N0 t with rfl | rfl | rfl | rfl <;> decide
theorem index_1 (t : Fin cfg0.N) : win0_1.index t = ![t.val, 0] := by
  rcases fin_N0 t with rfl | rfl | rfl | rfl <;> decide

/-- What the body finds at a position inside the array. -/
theorem found (c : Dev nD) (t : Fin cfg0.N) (d) (r : Fin 32) (n : ℕ) (h : n < 100096) (hn : n < 100000) :
    win0_0.fill (grid0.coords t) d (xblk m c t) (ValueIdx.ix2 r ⟨n, h⟩) = scores m c (ValueIdx.ix2 (rowAt t r) ⟨n, hn⟩) := by
  unfold Pipeline.Window.fill
  rw [dif_pos (moved_in t r n h hn)]
  unfold xblk scores
  show m ((c : Thread nD τ).loc main_arg0) ((win0_0.blk t).view.emb _) = _
  refine congrArg _ (funext fun a => Fin.ext ?_)
  have hi := index_0 t
  match a with
  | ⟨0, _⟩ =>
    show win0_0.index t 0 * 32 + 1 * r.val = 32 * t.val + r.val
    rw [hi]; show t.val * 32 + 1 * r.val = _; omega
  | ⟨1, _⟩ =>
    show win0_0.index t 1 * 100096 + 1 * n = n
    rw [hi]; show 0 * 100096 + 1 * n = n; omega

/-- The rows the body works on are the array's. -/
theorem rowVal_eq (c : Dev nD) (t : Fin cfg0.N) (d) (r : Fin 32) (n : ℕ) (hn : n < 100000) :
    rowVal (grid0.coords t) (win0_0.fill (grid0.coords t) d (xblk m c t)) r n = total (scores m c) (rowAt t r) n := by
  have hc := coords_val t
  unfold rowVal total
  rw [dif_pos (show n < 100096 by omega), dif_pos hn, found m c t d r n _ hn, hc]
  rfl

theorem obligation (hx : ∀ c j, ∃ a : ℝ, scores m c j = a) (c : Dev nD) :
    BodyObligationLoose (dats m 0 c) (defs₀ (F := Ideal)) 𝒱₀ () Set.univ := fun t => by
  simp only [bigSep_W0]
  rw [show (dats m 0 c).Φ t.succ = (dats m 0 c).Φ t.castSucc from rfl,
    show (dats m 0 c).owesAt () t.succ = (dats m 0 c).owesAt () t.castSucc from rfl, defs₀_row]
  iintro ⟨HΦ, Ho, ⟨%d0, H0⟩, ⟨%d1, H1⟩⟩
  rw [before_0 m c t d0]
  obtain ⟨f1, hf1⟩ := ((hstage0_0 ((cfg0.slots t 0).cast nbuf0_0)).read_bijective (Val := Elt Ideal)).2
    (win0_0.fill (grid0.coords t) d0 (xblk m c t))
  have hb := body_owns (F := Ideal) c Set.univ (grid0.coords t) (win0_0.stage (cfg0.slots t 0)) (hstage0_0 ((cfg0.slots t 0).cast nbuf0_0))
    (win0_1.stage (cfg0.slots t 1)) (hstage0_1 ((cfg0.slots t 1).cast nbuf0_1)) f1
    (win0_0.fill (grid0.coords t) d0 (xblk m c t)) ((dats m 0 c).before (1 : Fin 2) t d1) hf1 (oblk m c t) (fun f2 => by
      refine (block_out c (grid0.coords t) _ _ _ _ f1 _ hf1 (fun r n hn => ?_) f2).trans (funext fun j => ?_)
      · rw [rowVal_eq m c t d0 r n hn]
        obtain ⟨a, ha⟩ := total_real (scores m c) (hx c) (rowAt t r) n
        rw [ha]; exact EReal.bot_lt_coe a
      · exact mark_congr (fun k hk => rowVal_eq m c t d0 (j 0) k hk) _)
  ihave Hw := hb $$ [H0 H1]
  · isplitl [H0]
    · iexact H0
    · iexact H1
  iapply wp_wand $$ Hw
  iintro %_ ⟨H0, H1⟩
  isplitl [HΦ]; · iexact HΦ
  isplitl [Ho]; · iexact Ho
  isplitl [H0]
  · iexists d0
    change _ ⊢ owns (c : Thread nD τ) (win0_0.stage (cfg0.slots t 0)) fullShare (win0_0.fill (grid0.coords t) d0
      (win0_0.cut (grid0.coords t) (win0_0.fill (grid0.coords t) (fun _ => (0 : EReal)) (xblk m c t))))
    rw [win0_0.cut_fill]; try iexact H0
  · iexists (oblk m c t)
    change _ ⊢ owns (Val := Elt Ideal) (c : Thread nD τ) (win0_1.stage (cfg0.slots t 1)) fullShare (win0_1.fill (α := Elt Ideal win0_1.elt) (grid0.coords t) (oblk m c t)
      (win0_1.cut (α := Elt Ideal win0_1.elt) (grid0.coords t) (oblk m c t)))
    rw [win0_1.fill_cut]; try iexact H1

theorem covers : win0_1.Covers := by decide +kernel

/-- The result array after the run. -/
theorem final (c : Dev nD) : (dats m 0 c).arrAt (1 : Fin 2) cfg0.N = marks (scores m c) :=
  (dats m 0 c).arrAt_eq_of_emb 1 (marks (scores m c)) (fun t _ y => by
    have hi := index_1 t
    have hr : (win0_1.blk t).view.emb y 0 = rowAt t ⟨(y 0).val, lt_of_lt_of_le (y 0).isLt (win0_1.xsize_le _ 0)⟩ := Fin.ext (by
      show win0_1.index t 0 * 32 + 1 * (y 0).val = 32 * t.val + (y 0).val
      rw [hi]; show t.val * 32 + 1 * (y 0).val = _; omega)
    have hc : ((win0_1.blk t).view.emb y 1).val = (y 1).val := by
      show win0_1.index t 1 * 100096 + 1 * (y 1).val = (y 1).val
      rw [hi]; show 0 * 100096 + 1 * (y 1).val = _; omega
    show oblk m c t (win0_1.xinj (grid0.coords t) y) = mark (total (scores m c) ((win0_1.blk t).view.emb y 0)) 100000 ((win0_1.blk t).view.emb y 1).val
    rw [hr, hc]
    rfl) (fun i => Pipeline.Window.Covers.cover win0_1 covers (Memref.isWhole_whole _) i)

/-- Every run ends with the marks in the result array, the scores as launched and every counter at zero. -/
theorem run (hx : ∀ c j, ∃ a : ℝ, scores m c j = a) :
    θ_run defs (onTc (τ := τ) (main (F := Ideal))) ⟨m, fun _ => 0, ρ⟩ (fun r => ∀ c : Dev nD,
      r.2.mem ((c.tc : Thread nD τ).loc main_v0) = marks (scores m c)
      ∧ r.2.mem ((c.tc : Thread nD τ).loc main_arg0) = m ((c.tc : Thread nD τ).loc main_arg0)) :=
  Pipeline.θ_run_frame cfgs (dats m) 0 launch0 defs₀ 𝒱₀ m ρ main
    (obligation m hx) (fun c => (dats m 0 c).share_full fun _ => rfl) (fun _ _ => rfl)
    (V m) (Gen.hmain m 𝒱₀) (fun _ _ => rfl) (fun _ _ => rfl)
    (Q' := _) (hQ' := fun r h c => by
      have h1 := (h.1 c).1 1
      have h0 := (h.1 c).1 0
      rw [(dats m 0 c).arrAt_in 0 rfl] at h0
      exact ⟨h1.trans (final m c), h0⟩)

end Cert.KernelIdeal.Hand
-- ==== Proof.RefOps.lean ====
/- The reference's main function as one list of its host operations. -/
module

public import proofs.«01_k».proof.Proof.Gen.ReferenceIdeal
public import Idealize.ShloMosaic.Lib.StableHlo.Run
public import Idealize.ShloMosaic.Lib.Pipeline.Frame

@[expose] public section

set_option Elab.async false

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The function of the operation that writes `main_v6`, named. It packs its operands into a list of dependent pairs
    whose shapes a later argument's type mentions, so `simp` cannot rewrite an operand where it stands; applied by
    name, the operands are plain arguments, which the window lemmas below rewrite before the name unfolds. -/
def fn_main_v6 : (⟨S1, .i32⟩ : BufTy).Contents (Elt F) → (⟨S1, .i32⟩ : BufTy).Contents (Elt F) → (⟨S2, .i32⟩ : BufTy).Contents (Elt F) :=
  (fun a b => concatenate S2 0 [⟨S1, a⟩, ⟨S1, b⟩] concatenates_S1_S1_S2_d0)

/-- The function of the operation that writes `main_v73`, named. It packs its operands into a list of dependent pairs
    whose shapes a later argument's type mentions, so `simp` cannot rewrite an operand where it stands; applied by
    name, the operands are plain arguments, which the window lemmas below rewrite before the name unfolds. -/
def fn_main_v73 : (⟨S128x2x1, .i32⟩ : BufTy).Contents (Elt F) → (⟨S128x2x1, .i32⟩ : BufTy).Contents (Elt F) → (⟨S128x2x2, .i32⟩ : BufTy).Contents (Elt F) :=
  (fun a b => concatenate S128x2x2 2 [⟨S128x2x1, a⟩, ⟨S128x2x1, b⟩] concatenates_S128x2x1_S128x2x1_S128x2x2_d2)

/-- @main's operations 1 … 30 of 367 (window `main_part0`). -/
abbrev ops_part0_0 : List (HloOp τ sig (Elt F)) :=
  [ nullary main_c (constantI S_ 32 42#32),
    nullary main_c_0 (constantI S_ 32 32#32),
    binary main_c main_c_0 main_v0 (Host.shrui : (⟨S_, .i32⟩ : BufTy).Contents (Elt F) → (⟨S_, .i32⟩ : BufTy).Contents (Elt F) → (⟨S_, .i32⟩ : BufTy).Contents (Elt F)),
    unary main_v0 main_v1 (id : (⟨S_, .i32⟩ : BufTy).Contents (Elt F) → (⟨S_, .i32⟩ : BufTy).Contents (Elt F)),
    unary main_v1 main_v2 (broadcastInDim S1 ![] bcast_S_S1 : (⟨S_, .i32⟩ : BufTy).Contents (Elt F) → (⟨S1, .i32⟩ : BufTy).Contents (Elt F)),
    nullary main_c_1 (constantI S_ 32 4294967295#32),
    binary main_c main_c_1 main_v3 (andi : (⟨S_, .i32⟩ : BufTy).Contents (Elt F) → (⟨S_, .i32⟩ : BufTy).Contents (Elt F) → (⟨S_, .i32⟩ : BufTy).Contents (Elt F)),
    unary main_v3 main_v4 (id : (⟨S_, .i32⟩ : BufTy).Contents (Elt F) → (⟨S_, .i32⟩ : BufTy).Contents (Elt F)),
    unary main_v4 main_v5 (broadcastInDim S1 ![] bcast_S_S1 : (⟨S_, .i32⟩ : BufTy).Contents (Elt F) → (⟨S1, .i32⟩ : BufTy).Contents (Elt F)),
    binary main_v2 main_v5 main_v6 (fn_main_v6 (F := F)),
    nullary main_cst (constant S_ .f32 0x00000000#32),
    nullary main_cst_2 (constant S_ .f32 0x3F800000#32),
    TRef.unary (TRef.of (T := ⟨S_, .f32⟩) main_cst) (TRef.of (T := ⟨S_, .f32⟩) main_call0_v0) id,
    TRef.unary (TRef.of (T := ⟨S_, .f32⟩) main_cst_2) (TRef.of (T := ⟨S_, .f32⟩) main_call0_v1) id,
    TRef.unary (TRef.of (T := ⟨S_, .f32⟩) main_call0_v0) (TRef.of (T := ⟨S1x1, .f32⟩) main_call0_v2) (broadcastInDim S1x1 ![] bcast_S_S1x1),
    TRef.unary (TRef.of (T := ⟨S_, .f32⟩) main_call0_v1) (TRef.of (T := ⟨S1x1, .f32⟩) main_call0_v3) (broadcastInDim S1x1 ![] bcast_S_S1x1),
    TRef.unary (TRef.of (T := ⟨S2, .i32⟩) main_v6) (TRef.of (T := ⟨S1, .i32⟩) main_call0_v4) (extractStridedSlice S1 ![0] · slices_S2_S1_0),
    TRef.reshape (TRef.of (T := ⟨S1, .i32⟩) main_call0_v4) (TRef.of (T := ⟨S_, .i32⟩) main_call0_v5) (rfl : (.i32 : EltTy) = .i32) shapeCasts_S1_S_,
    TRef.unary (TRef.of (T := ⟨S2, .i32⟩) main_v6) (TRef.of (T := ⟨S1, .i32⟩) main_call0_v6) (extractStridedSlice S1 ![1] · slices_S2_S1_1),
    TRef.reshape (TRef.of (T := ⟨S1, .i32⟩) main_call0_v6) (TRef.of (T := ⟨S_, .i32⟩) main_call0_v7) (rfl : (.i32 : EltTy) = .i32) shapeCasts_S1_S_,
    TRef.nullary (TRef.of (T := ⟨S128x100000, .i64⟩) main_call0_v8) (iotaInDim S128x100000 64 0),
    TRef.nullary (TRef.of (T := ⟨S128x100000, .i64⟩) main_call0_v9) (iotaInDim S128x100000 64 1),
    TRef.nullary (TRef.of (T := ⟨S_, .i64⟩) main_call0_c) (constantI S_ 64 100000#64),
    TRef.unary (TRef.of (T := ⟨S_, .i64⟩) main_call0_c) (TRef.of (T := ⟨S128x100000, .i64⟩) main_call0_v10) (broadcastInDim S128x100000 ![] bcast_S_S128x100000),
    TRef.binary (TRef.of (T := ⟨S128x100000, .i64⟩) main_call0_v10) (TRef.of (T := ⟨S128x100000, .i64⟩) main_call0_v8) (TRef.of (T := ⟨S128x100000, .i64⟩) main_call0_v11) muli,
    TRef.nullary (TRef.of (T := ⟨S_, .i64⟩) main_call0_c_0) (constantI S_ 64 1#64),
    TRef.unary (TRef.of (T := ⟨S_, .i64⟩) main_call0_c_0) (TRef.of (T := ⟨S128x100000, .i64⟩) main_call0_v12) (broadcastInDim S128x100000 ![] bcast_S_S128x100000),
    TRef.binary (TRef.of (T := ⟨S128x100000, .i64⟩) main_call0_v12) (TRef.of (T := ⟨S128x100000, .i64⟩) main_call0_v9) (TRef.of (T := ⟨S128x100000, .i64⟩) main_call0_v13) muli,
    TRef.binary (TRef.of (T := ⟨S128x100000, .i64⟩) main_call0_v11) (TRef.of (T := ⟨S128x100000, .i64⟩) main_call0_v13) (TRef.of (T := ⟨S128x100000, .i64⟩) main_call0_v14) addi,
    TRef.nullary (TRef.of (T := ⟨S_, .i64⟩) main_call0_c_1) (constantI S_ 64 32#64) ]

/-- @main's operations 31 … 60 of 367 (window `main_part0`). -/
abbrev ops_part0_1 : List (HloOp τ sig (Elt F)) :=
  [ TRef.unary (TRef.of (T := ⟨S_, .i64⟩) main_call0_c_1) (TRef.of (T := ⟨S128x100000, .i64⟩) main_call0_v15) (broadcastInDim S128x100000 ![] bcast_S_S128x100000),
    TRef.binary (TRef.of (T := ⟨S128x100000, .i64⟩) main_call0_v14) (TRef.of (T := ⟨S128x100000, .i64⟩) main_call0_v15) (TRef.of (T := ⟨S128x100000, .i64⟩) main_call0_v16) Host.shrui,
    TRef.unary (TRef.of (T := ⟨S128x100000, .i64⟩) main_call0_v14) (TRef.of (T := ⟨S128x100000, .i32⟩) main_call0_v17) (trunci 32 · natLt_32_64),
    TRef.unary (TRef.of (T := ⟨S128x100000, .i64⟩) main_call0_v16) (TRef.of (T := ⟨S128x100000, .i32⟩) main_call0_v18) (trunci 32 · natLt_32_64),
    TRef.binary (TRef.of (T := ⟨S_, .i32⟩) main_call0_v5) (TRef.of (T := ⟨S_, .i32⟩) main_call0_v7) (TRef.of (T := ⟨S_, .i32⟩) main_call0_call0_v0) xori,
    TRef.nullary (TRef.of (T := ⟨S_, .i32⟩) main_call0_call0_c) (constantI S_ 32 466688986#32),
    TRef.binary (TRef.of (T := ⟨S_, .i32⟩) main_call0_call0_v0) (TRef.of (T := ⟨S_, .i32⟩) main_call0_call0_c) (TRef.of (T := ⟨S_, .i32⟩) main_call0_call0_v1) xori,
    TRef.unary (TRef.of (T := ⟨S_, .i32⟩) main_call0_v5) (TRef.of (T := ⟨S128x100000, .i32⟩) main_call0_call0_v2) (broadcastInDim S128x100000 ![] bcast_S_S128x100000),
    TRef.binary (TRef.of (T := ⟨S128x100000, .i32⟩) main_call0_v18) (TRef.of (T := ⟨S128x100000, .i32⟩) main_call0_call0_v2) (TRef.of (T := ⟨S128x100000, .i32⟩) main_call0_call0_v3) addi,
    TRef.unary (TRef.of (T := ⟨S_, .i32⟩) main_call0_v7) (TRef.of (T := ⟨S128x100000, .i32⟩) main_call0_call0_v4) (broadcastInDim S128x100000 ![] bcast_S_S128x100000),
    TRef.binary (TRef.of (T := ⟨S128x100000, .i32⟩) main_call0_v17) (TRef.of (T := ⟨S128x100000, .i32⟩) main_call0_call0_v4) (TRef.of (T := ⟨S128x100000, .i32⟩) main_call0_call0_v5) addi,
    TRef.binary (TRef.of (T := ⟨S128x100000, .i32⟩) main_call0_call0_v3) (TRef.of (T := ⟨S128x100000, .i32⟩) main_call0_call0_v5) (TRef.of (T := ⟨S128x100000, .i32⟩) main_call0_call0_v6) addi,
    TRef.nullary (TRef.of (T := ⟨S_, .i32⟩) main_call0_call0_c_0) (constantI S_ 32 13#32),
    TRef.unary (TRef.of (T := ⟨S_, .i32⟩) main_call0_call0_c_0) (TRef.of (T := ⟨S128x100000, .i32⟩) main_call0_call0_v7) (broadcastInDim S128x100000 ![] bcast_S_S128x100000),
    TRef.binary (TRef.of (T := ⟨S128x100000, .i32⟩) main_call0_call0_v5) (TRef.of (T := ⟨S128x100000, .i32⟩) main_call0_call0_v7) (TRef.of (T := ⟨S128x100000, .i32⟩) main_call0_call0_v8) Host.shli,
    TRef.nullary (TRef.of (T := ⟨S_, .i32⟩) main_call0_call0_c_1) (constantI S_ 32 19#32),
    TRef.unary (TRef.of (T := ⟨S_, .i32⟩) main_call0_call0_c_1) (TRef.of (T := ⟨S128x100000, .i32⟩) main_call0_call0_v9) (broadcastInDim S128x100000 ![] bcast_S_S128x100000),
    TRef.binary (TRef.of (T := ⟨S128x100000, .i32⟩) main_call0_call0_v5) (TRef.of (T := ⟨S128x100000, .i32⟩) main_call0_call0_v9) (TRef.of (T := ⟨S128x100000, .i32⟩) main_call0_call0_v10) Host.shrui,
    TRef.binary (TRef.of (T := ⟨S128x100000, .i32⟩) main_call0_call0_v8) (TRef.of (T := ⟨S128x100000, .i32⟩) main_call0_call0_v10) (TRef.of (T := ⟨S128x100000, .i32⟩) main_call0_call0_v11) ori,
    TRef.binary (TRef.of (T := ⟨S128x100000, .i32⟩) main_call0_call0_v6) (TRef.of (T := ⟨S128x100000, .i32⟩) main_call0_call0_v11) (TRef.of (T := ⟨S128x100000, .i32⟩) main_call0_call0_v12) xori,
    TRef.binary (TRef.of (T := ⟨S128x100000, .i32⟩) main_call0_call0_v6) (TRef.of (T := ⟨S128x100000, .i32⟩) main_call0_call0_v12) (TRef.of (T := ⟨S128x100000, .i32⟩) main_call0_call0_v13) addi,
    TRef.nullary (TRef.of (T := ⟨S_, .i32⟩) main_call0_call0_c_2) (constantI S_ 32 15#32),
    TRef.unary (TRef.of (T := ⟨S_, .i32⟩) main_call0_call0_c_2) (TRef.of (T := ⟨S128x100000, .i32⟩) main_call0_call0_v14) (broadcastInDim S128x100000 ![] bcast_S_S128x100000),
    TRef.binary (TRef.of (T := ⟨S128x100000, .i32⟩) main_call0_call0_v12) (TRef.of (T := ⟨S128x100000, .i32⟩) main_call0_call0_v14) (TRef.of (T := ⟨S128x100000, .i32⟩) main_call0_call0_v15) Host.shli,
    TRef.nullary (TRef.of (T := ⟨S_, .i32⟩) main_call0_call0_c_3) (constantI S_ 32 17#32),
    TRef.unary (TRef.of (T := ⟨S_, .i32⟩) main_call0_call0_c_3) (TRef.of (T := ⟨S128x100000, .i32⟩) main_call0_call0_v16) (broadcastInDim S128x100000 ![] bcast_S_S128x100000),
    TRef.binary (TRef.of (T := ⟨S128x100000, .i32⟩) main_call0_call0_v12) (TRef.of (T := ⟨S128x100000, .i32⟩) main_call0_call0_v16) (TRef.of (T := ⟨S128x100000, .i32⟩) main_call0_call0_v17) Host.shrui,
    TRef.binary (TRef.of (T := ⟨S128x100000, .i32⟩) main_call0_call0_v15) (TRef.of (T := ⟨S128x100000, .i32⟩) main_call0_call0_v17) (TRef.of (T := ⟨S128x100000, .i32⟩) main_call0_call0_v18) ori,
    TRef.binary (TRef.of (T := ⟨S128x100000, .i32⟩) main_call0_call0_v13) (TRef.of (T := ⟨S128x100000, .i32⟩) main_call0_call0_v18) (TRef.of (T := ⟨S128x100000, .i32⟩) main_call0_call0_v19) xori,
    TRef.binary (TRef.of (T := ⟨S128x100000, .i32⟩) main_call0_call0_v13) (TRef.of (T := ⟨S128x100000, .i32⟩) main_call0_call0_v19) (TRef.of (T := ⟨S128x100000, .i32⟩) main_call0_call0_v20) addi ]

/-- @main's operations 61 … 90 of 367 (window `main_part0`). -/
abbrev ops_part0_2 : List (HloOp τ sig (Elt F)) :=
  [ TRef.nullary (TRef.of (T := ⟨S_, .i32⟩) main_call0_call0_c_4) (constantI S_ 32 26#32),
    TRef.unary (TRef.of (T := ⟨S_, .i32⟩) main_call0_call0_c_4) (TRef.of (T := ⟨S128x100000, .i32⟩) main_call0_call0_v21) (broadcastInDim S128x100000 ![] bcast_S_S128x100000),
    TRef.binary (TRef.of (T := ⟨S128x100000, .i32⟩) main_call0_call0_v19) (TRef.of (T := ⟨S128x100000, .i32⟩) main_call0_call0_v21) (TRef.of (T := ⟨S128x100000, .i32⟩) main_call0_call0_v22) Host.shli,
    TRef.nullary (TRef.of (T := ⟨S_, .i32⟩) main_call0_call0_c_5) (constantI S_ 32 6#32),
    TRef.unary (TRef.of (T := ⟨S_, .i32⟩) main_call0_call0_c_5) (TRef.of (T := ⟨S128x100000, .i32⟩) main_call0_call0_v23) (broadcastInDim S128x100000 ![] bcast_S_S128x100000),
    TRef.binary (TRef.of (T := ⟨S128x100000, .i32⟩) main_call0_call0_v19) (TRef.of (T := ⟨S128x100000, .i32⟩) main_call0_call0_v23) (TRef.of (T := ⟨S128x100000, .i32⟩) main_call0_call0_v24) Host.shrui,
    TRef.binary (TRef.of (T := ⟨S128x100000, .i32⟩) main_call0_call0_v22) (TRef.of (T := ⟨S128x100000, .i32⟩) main_call0_call0_v24) (TRef.of (T := ⟨S128x100000, .i32⟩) main_call0_call0_v25) ori,
    TRef.binary (TRef.of (T := ⟨S128x100000, .i32⟩) main_call0_call0_v20) (TRef.of (T := ⟨S128x100000, .i32⟩) main_call0_call0_v25) (TRef.of (T := ⟨S128x100000, .i32⟩) main_call0_call0_v26) xori,
    TRef.binary (TRef.of (T := ⟨S128x100000, .i32⟩) main_call0_call0_v20) (TRef.of (T := ⟨S128x100000, .i32⟩) main_call0_call0_v26) (TRef.of (T := ⟨S128x100000, .i32⟩) main_call0_call0_v27) addi,
    TRef.nullary (TRef.of (T := ⟨S_, .i32⟩) main_call0_call0_c_6) (constantI S_ 32 6#32),
    TRef.unary (TRef.of (T := ⟨S_, .i32⟩) main_call0_call0_c_6) (TRef.of (T := ⟨S128x100000, .i32⟩) main_call0_call0_v28) (broadcastInDim S128x100000 ![] bcast_S_S128x100000),
    TRef.binary (TRef.of (T := ⟨S128x100000, .i32⟩) main_call0_call0_v26) (TRef.of (T := ⟨S128x100000, .i32⟩) main_call0_call0_v28) (TRef.of (T := ⟨S128x100000, .i32⟩) main_call0_call0_v29) Host.shli,
    TRef.nullary (TRef.of (T := ⟨S_, .i32⟩) main_call0_call0_c_7) (constantI S_ 32 26#32),
    TRef.unary (TRef.of (T := ⟨S_, .i32⟩) main_call0_call0_c_7) (TRef.of (T := ⟨S128x100000, .i32⟩) main_call0_call0_v30) (broadcastInDim S128x100000 ![] bcast_S_S128x100000),
    TRef.binary (TRef.of (T := ⟨S128x100000, .i32⟩) main_call0_call0_v26) (TRef.of (T := ⟨S128x100000, .i32⟩) main_call0_call0_v30) (TRef.of (T := ⟨S128x100000, .i32⟩) main_call0_call0_v31) Host.shrui,
    TRef.binary (TRef.of (T := ⟨S128x100000, .i32⟩) main_call0_call0_v29) (TRef.of (T := ⟨S128x100000, .i32⟩) main_call0_call0_v31) (TRef.of (T := ⟨S128x100000, .i32⟩) main_call0_call0_v32) ori,
    TRef.binary (TRef.of (T := ⟨S128x100000, .i32⟩) main_call0_call0_v27) (TRef.of (T := ⟨S128x100000, .i32⟩) main_call0_call0_v32) (TRef.of (T := ⟨S128x100000, .i32⟩) main_call0_call0_v33) xori,
    TRef.unary (TRef.of (T := ⟨S_, .i32⟩) main_call0_v7) (TRef.of (T := ⟨S128x100000, .i32⟩) main_call0_call0_v34) (broadcastInDim S128x100000 ![] bcast_S_S128x100000),
    TRef.binary (TRef.of (T := ⟨S128x100000, .i32⟩) main_call0_call0_v27) (TRef.of (T := ⟨S128x100000, .i32⟩) main_call0_call0_v34) (TRef.of (T := ⟨S128x100000, .i32⟩) main_call0_call0_v35) addi,
    TRef.unary (TRef.of (T := ⟨S_, .i32⟩) main_call0_call0_v1) (TRef.of (T := ⟨S128x100000, .i32⟩) main_call0_call0_v36) (broadcastInDim S128x100000 ![] bcast_S_S128x100000),
    TRef.binary (TRef.of (T := ⟨S128x100000, .i32⟩) main_call0_call0_v33) (TRef.of (T := ⟨S128x100000, .i32⟩) main_call0_call0_v36) (TRef.of (T := ⟨S128x100000, .i32⟩) main_call0_call0_v37) addi,
    TRef.nullary (TRef.of (T := ⟨S_, .i32⟩) main_call0_call0_c_8) (constantI S_ 32 1#32),
    TRef.unary (TRef.of (T := ⟨S_, .i32⟩) main_call0_call0_c_8) (TRef.of (T := ⟨S128x100000, .i32⟩) main_call0_call0_v38) (broadcastInDim S128x100000 ![] bcast_S_S128x100000),
    TRef.binary (TRef.of (T := ⟨S128x100000, .i32⟩) main_call0_call0_v37) (TRef.of (T := ⟨S128x100000, .i32⟩) main_call0_call0_v38) (TRef.of (T := ⟨S128x100000, .i32⟩) main_call0_call0_v39) addi,
    TRef.binary (TRef.of (T := ⟨S128x100000, .i32⟩) main_call0_call0_v35) (TRef.of (T := ⟨S128x100000, .i32⟩) main_call0_call0_v39) (TRef.of (T := ⟨S128x100000, .i32⟩) main_call0_call0_v40) addi,
    TRef.nullary (TRef.of (T := ⟨S_, .i32⟩) main_call0_call0_c_9) (constantI S_ 32 17#32),
    TRef.unary (TRef.of (T := ⟨S_, .i32⟩) main_call0_call0_c_9) (TRef.of (T := ⟨S128x100000, .i32⟩) main_call0_call0_v41) (broadcastInDim S128x100000 ![] bcast_S_S128x100000),
    TRef.binary (TRef.of (T := ⟨S128x100000, .i32⟩) main_call0_call0_v39) (TRef.of (T := ⟨S128x100000, .i32⟩) main_call0_call0_v41) (TRef.of (T := ⟨S128x100000, .i32⟩) main_call0_call0_v42) Host.shli,
    TRef.nullary (TRef.of (T := ⟨S_, .i32⟩) main_call0_call0_c_10) (constantI S_ 32 15#32),
    TRef.unary (TRef.of (T := ⟨S_, .i32⟩) main_call0_call0_c_10) (TRef.of (T := ⟨S128x100000, .i32⟩) main_call0_call0_v43) (broadcastInDim S128x100000 ![] bcast_S_S128x100000) ]

/-- @main's operations 91 … 120 of 367 (window `main_part0`). -/
abbrev ops_part0_3 : List (HloOp τ sig (Elt F)) :=
  [ TRef.binary (TRef.of (T := ⟨S128x100000, .i32⟩) main_call0_call0_v39) (TRef.of (T := ⟨S128x100000, .i32⟩) main_call0_call0_v43) (TRef.of (T := ⟨S128x100000, .i32⟩) main_call0_call0_v44) Host.shrui,
    TRef.binary (TRef.of (T := ⟨S128x100000, .i32⟩) main_call0_call0_v42) (TRef.of (T := ⟨S128x100000, .i32⟩) main_call0_call0_v44) (TRef.of (T := ⟨S128x100000, .i32⟩) main_call0_call0_v45) ori,
    TRef.binary (TRef.of (T := ⟨S128x100000, .i32⟩) main_call0_call0_v40) (TRef.of (T := ⟨S128x100000, .i32⟩) main_call0_call0_v45) (TRef.of (T := ⟨S128x100000, .i32⟩) main_call0_call0_v46) xori,
    TRef.binary (TRef.of (T := ⟨S128x100000, .i32⟩) main_call0_call0_v40) (TRef.of (T := ⟨S128x100000, .i32⟩) main_call0_call0_v46) (TRef.of (T := ⟨S128x100000, .i32⟩) main_call0_call0_v47) addi,
    TRef.nullary (TRef.of (T := ⟨S_, .i32⟩) main_call0_call0_c_11) (constantI S_ 32 29#32),
    TRef.unary (TRef.of (T := ⟨S_, .i32⟩) main_call0_call0_c_11) (TRef.of (T := ⟨S128x100000, .i32⟩) main_call0_call0_v48) (broadcastInDim S128x100000 ![] bcast_S_S128x100000),
    TRef.binary (TRef.of (T := ⟨S128x100000, .i32⟩) main_call0_call0_v46) (TRef.of (T := ⟨S128x100000, .i32⟩) main_call0_call0_v48) (TRef.of (T := ⟨S128x100000, .i32⟩) main_call0_call0_v49) Host.shli,
    TRef.nullary (TRef.of (T := ⟨S_, .i32⟩) main_call0_call0_c_12) (constantI S_ 32 3#32),
    TRef.unary (TRef.of (T := ⟨S_, .i32⟩) main_call0_call0_c_12) (TRef.of (T := ⟨S128x100000, .i32⟩) main_call0_call0_v50) (broadcastInDim S128x100000 ![] bcast_S_S128x100000),
    TRef.binary (TRef.of (T := ⟨S128x100000, .i32⟩) main_call0_call0_v46) (TRef.of (T := ⟨S128x100000, .i32⟩) main_call0_call0_v50) (TRef.of (T := ⟨S128x100000, .i32⟩) main_call0_call0_v51) Host.shrui,
    TRef.binary (TRef.of (T := ⟨S128x100000, .i32⟩) main_call0_call0_v49) (TRef.of (T := ⟨S128x100000, .i32⟩) main_call0_call0_v51) (TRef.of (T := ⟨S128x100000, .i32⟩) main_call0_call0_v52) ori,
    TRef.binary (TRef.of (T := ⟨S128x100000, .i32⟩) main_call0_call0_v47) (TRef.of (T := ⟨S128x100000, .i32⟩) main_call0_call0_v52) (TRef.of (T := ⟨S128x100000, .i32⟩) main_call0_call0_v53) xori,
    TRef.binary (TRef.of (T := ⟨S128x100000, .i32⟩) main_call0_call0_v47) (TRef.of (T := ⟨S128x100000, .i32⟩) main_call0_call0_v53) (TRef.of (T := ⟨S128x100000, .i32⟩) main_call0_call0_v54) addi,
    TRef.nullary (TRef.of (T := ⟨S_, .i32⟩) main_call0_call0_c_13) (constantI S_ 32 16#32),
    TRef.unary (TRef.of (T := ⟨S_, .i32⟩) main_call0_call0_c_13) (TRef.of (T := ⟨S128x100000, .i32⟩) main_call0_call0_v55) (broadcastInDim S128x100000 ![] bcast_S_S128x100000),
    TRef.binary (TRef.of (T := ⟨S128x100000, .i32⟩) main_call0_call0_v53) (TRef.of (T := ⟨S128x100000, .i32⟩) main_call0_call0_v55) (TRef.of (T := ⟨S128x100000, .i32⟩) main_call0_call0_v56) Host.shli,
    TRef.nullary (TRef.of (T := ⟨S_, .i32⟩) main_call0_call0_c_14) (constantI S_ 32 16#32),
    TRef.unary (TRef.of (T := ⟨S_, .i32⟩) main_call0_call0_c_14) (TRef.of (T := ⟨S128x100000, .i32⟩) main_call0_call0_v57) (broadcastInDim S128x100000 ![] bcast_S_S128x100000),
    TRef.binary (TRef.of (T := ⟨S128x100000, .i32⟩) main_call0_call0_v53) (TRef.of (T := ⟨S128x100000, .i32⟩) main_call0_call0_v57) (TRef.of (T := ⟨S128x100000, .i32⟩) main_call0_call0_v58) Host.shrui,
    TRef.binary (TRef.of (T := ⟨S128x100000, .i32⟩) main_call0_call0_v56) (TRef.of (T := ⟨S128x100000, .i32⟩) main_call0_call0_v58) (TRef.of (T := ⟨S128x100000, .i32⟩) main_call0_call0_v59) ori,
    TRef.binary (TRef.of (T := ⟨S128x100000, .i32⟩) main_call0_call0_v54) (TRef.of (T := ⟨S128x100000, .i32⟩) main_call0_call0_v59) (TRef.of (T := ⟨S128x100000, .i32⟩) main_call0_call0_v60) xori,
    TRef.binary (TRef.of (T := ⟨S128x100000, .i32⟩) main_call0_call0_v54) (TRef.of (T := ⟨S128x100000, .i32⟩) main_call0_call0_v60) (TRef.of (T := ⟨S128x100000, .i32⟩) main_call0_call0_v61) addi,
    TRef.nullary (TRef.of (T := ⟨S_, .i32⟩) main_call0_call0_c_15) (constantI S_ 32 24#32),
    TRef.unary (TRef.of (T := ⟨S_, .i32⟩) main_call0_call0_c_15) (TRef.of (T := ⟨S128x100000, .i32⟩) main_call0_call0_v62) (broadcastInDim S128x100000 ![] bcast_S_S128x100000),
    TRef.binary (TRef.of (T := ⟨S128x100000, .i32⟩) main_call0_call0_v60) (TRef.of (T := ⟨S128x100000, .i32⟩) main_call0_call0_v62) (TRef.of (T := ⟨S128x100000, .i32⟩) main_call0_call0_v63) Host.shli,
    TRef.nullary (TRef.of (T := ⟨S_, .i32⟩) main_call0_call0_c_16) (constantI S_ 32 8#32),
    TRef.unary (TRef.of (T := ⟨S_, .i32⟩) main_call0_call0_c_16) (TRef.of (T := ⟨S128x100000, .i32⟩) main_call0_call0_v64) (broadcastInDim S128x100000 ![] bcast_S_S128x100000),
    TRef.binary (TRef.of (T := ⟨S128x100000, .i32⟩) main_call0_call0_v60) (TRef.of (T := ⟨S128x100000, .i32⟩) main_call0_call0_v64) (TRef.of (T := ⟨S128x100000, .i32⟩) main_call0_call0_v65) Host.shrui,
    TRef.binary (TRef.of (T := ⟨S128x100000, .i32⟩) main_call0_call0_v63) (TRef.of (T := ⟨S128x100000, .i32⟩) main_call0_call0_v65) (TRef.of (T := ⟨S128x100000, .i32⟩) main_call0_call0_v66) ori,
    TRef.binary (TRef.of (T := ⟨S128x100000, .i32⟩) main_call0_call0_v61) (TRef.of (T := ⟨S128x100000, .i32⟩) main_call0_call0_v66) (TRef.of (T := ⟨S128x100000, .i32⟩) main_call0_call0_v67) xori ]

/-- @main's operations 121 … 150 of 367 (window `main_part0`). -/
abbrev ops_part0_4 : List (HloOp τ sig (Elt F)) :=
  [ TRef.unary (TRef.of (T := ⟨S_, .i32⟩) main_call0_call0_v1) (TRef.of (T := ⟨S128x100000, .i32⟩) main_call0_call0_v68) (broadcastInDim S128x100000 ![] bcast_S_S128x100000),
    TRef.binary (TRef.of (T := ⟨S128x100000, .i32⟩) main_call0_call0_v61) (TRef.of (T := ⟨S128x100000, .i32⟩) main_call0_call0_v68) (TRef.of (T := ⟨S128x100000, .i32⟩) main_call0_call0_v69) addi,
    TRef.unary (TRef.of (T := ⟨S_, .i32⟩) main_call0_v5) (TRef.of (T := ⟨S128x100000, .i32⟩) main_call0_call0_v70) (broadcastInDim S128x100000 ![] bcast_S_S128x100000),
    TRef.binary (TRef.of (T := ⟨S128x100000, .i32⟩) main_call0_call0_v67) (TRef.of (T := ⟨S128x100000, .i32⟩) main_call0_call0_v70) (TRef.of (T := ⟨S128x100000, .i32⟩) main_call0_call0_v71) addi,
    TRef.nullary (TRef.of (T := ⟨S_, .i32⟩) main_call0_call0_c_17) (constantI S_ 32 2#32),
    TRef.unary (TRef.of (T := ⟨S_, .i32⟩) main_call0_call0_c_17) (TRef.of (T := ⟨S128x100000, .i32⟩) main_call0_call0_v72) (broadcastInDim S128x100000 ![] bcast_S_S128x100000),
    TRef.binary (TRef.of (T := ⟨S128x100000, .i32⟩) main_call0_call0_v71) (TRef.of (T := ⟨S128x100000, .i32⟩) main_call0_call0_v72) (TRef.of (T := ⟨S128x100000, .i32⟩) main_call0_call0_v73) addi,
    TRef.binary (TRef.of (T := ⟨S128x100000, .i32⟩) main_call0_call0_v69) (TRef.of (T := ⟨S128x100000, .i32⟩) main_call0_call0_v73) (TRef.of (T := ⟨S128x100000, .i32⟩) main_call0_call0_v74) addi,
    TRef.nullary (TRef.of (T := ⟨S_, .i32⟩) main_call0_call0_c_18) (constantI S_ 32 13#32),
    TRef.unary (TRef.of (T := ⟨S_, .i32⟩) main_call0_call0_c_18) (TRef.of (T := ⟨S128x100000, .i32⟩) main_call0_call0_v75) (broadcastInDim S128x100000 ![] bcast_S_S128x100000),
    TRef.binary (TRef.of (T := ⟨S128x100000, .i32⟩) main_call0_call0_v73) (TRef.of (T := ⟨S128x100000, .i32⟩) main_call0_call0_v75) (TRef.of (T := ⟨S128x100000, .i32⟩) main_call0_call0_v76) Host.shli,
    TRef.nullary (TRef.of (T := ⟨S_, .i32⟩) main_call0_call0_c_19) (constantI S_ 32 19#32),
    TRef.unary (TRef.of (T := ⟨S_, .i32⟩) main_call0_call0_c_19) (TRef.of (T := ⟨S128x100000, .i32⟩) main_call0_call0_v77) (broadcastInDim S128x100000 ![] bcast_S_S128x100000),
    TRef.binary (TRef.of (T := ⟨S128x100000, .i32⟩) main_call0_call0_v73) (TRef.of (T := ⟨S128x100000, .i32⟩) main_call0_call0_v77) (TRef.of (T := ⟨S128x100000, .i32⟩) main_call0_call0_v78) Host.shrui,
    TRef.binary (TRef.of (T := ⟨S128x100000, .i32⟩) main_call0_call0_v76) (TRef.of (T := ⟨S128x100000, .i32⟩) main_call0_call0_v78) (TRef.of (T := ⟨S128x100000, .i32⟩) main_call0_call0_v79) ori,
    TRef.binary (TRef.of (T := ⟨S128x100000, .i32⟩) main_call0_call0_v74) (TRef.of (T := ⟨S128x100000, .i32⟩) main_call0_call0_v79) (TRef.of (T := ⟨S128x100000, .i32⟩) main_call0_call0_v80) xori,
    TRef.binary (TRef.of (T := ⟨S128x100000, .i32⟩) main_call0_call0_v74) (TRef.of (T := ⟨S128x100000, .i32⟩) main_call0_call0_v80) (TRef.of (T := ⟨S128x100000, .i32⟩) main_call0_call0_v81) addi,
    TRef.nullary (TRef.of (T := ⟨S_, .i32⟩) main_call0_call0_c_20) (constantI S_ 32 15#32),
    TRef.unary (TRef.of (T := ⟨S_, .i32⟩) main_call0_call0_c_20) (TRef.of (T := ⟨S128x100000, .i32⟩) main_call0_call0_v82) (broadcastInDim S128x100000 ![] bcast_S_S128x100000),
    TRef.binary (TRef.of (T := ⟨S128x100000, .i32⟩) main_call0_call0_v80) (TRef.of (T := ⟨S128x100000, .i32⟩) main_call0_call0_v82) (TRef.of (T := ⟨S128x100000, .i32⟩) main_call0_call0_v83) Host.shli,
    TRef.nullary (TRef.of (T := ⟨S_, .i32⟩) main_call0_call0_c_21) (constantI S_ 32 17#32),
    TRef.unary (TRef.of (T := ⟨S_, .i32⟩) main_call0_call0_c_21) (TRef.of (T := ⟨S128x100000, .i32⟩) main_call0_call0_v84) (broadcastInDim S128x100000 ![] bcast_S_S128x100000),
    TRef.binary (TRef.of (T := ⟨S128x100000, .i32⟩) main_call0_call0_v80) (TRef.of (T := ⟨S128x100000, .i32⟩) main_call0_call0_v84) (TRef.of (T := ⟨S128x100000, .i32⟩) main_call0_call0_v85) Host.shrui,
    TRef.binary (TRef.of (T := ⟨S128x100000, .i32⟩) main_call0_call0_v83) (TRef.of (T := ⟨S128x100000, .i32⟩) main_call0_call0_v85) (TRef.of (T := ⟨S128x100000, .i32⟩) main_call0_call0_v86) ori,
    TRef.binary (TRef.of (T := ⟨S128x100000, .i32⟩) main_call0_call0_v81) (TRef.of (T := ⟨S128x100000, .i32⟩) main_call0_call0_v86) (TRef.of (T := ⟨S128x100000, .i32⟩) main_call0_call0_v87) xori,
    TRef.binary (TRef.of (T := ⟨S128x100000, .i32⟩) main_call0_call0_v81) (TRef.of (T := ⟨S128x100000, .i32⟩) main_call0_call0_v87) (TRef.of (T := ⟨S128x100000, .i32⟩) main_call0_call0_v88) addi,
    TRef.nullary (TRef.of (T := ⟨S_, .i32⟩) main_call0_call0_c_22) (constantI S_ 32 26#32),
    TRef.unary (TRef.of (T := ⟨S_, .i32⟩) main_call0_call0_c_22) (TRef.of (T := ⟨S128x100000, .i32⟩) main_call0_call0_v89) (broadcastInDim S128x100000 ![] bcast_S_S128x100000),
    TRef.binary (TRef.of (T := ⟨S128x100000, .i32⟩) main_call0_call0_v87) (TRef.of (T := ⟨S128x100000, .i32⟩) main_call0_call0_v89) (TRef.of (T := ⟨S128x100000, .i32⟩) main_call0_call0_v90) Host.shli,
    TRef.nullary (TRef.of (T := ⟨S_, .i32⟩) main_call0_call0_c_23) (constantI S_ 32 6#32) ]

/-- @main's operations 151 … 180 of 367 (window `main_part0`). -/
abbrev ops_part0_5 : List (HloOp τ sig (Elt F)) :=
  [ TRef.unary (TRef.of (T := ⟨S_, .i32⟩) main_call0_call0_c_23) (TRef.of (T := ⟨S128x100000, .i32⟩) main_call0_call0_v91) (broadcastInDim S128x100000 ![] bcast_S_S128x100000),
    TRef.binary (TRef.of (T := ⟨S128x100000, .i32⟩) main_call0_call0_v87) (TRef.of (T := ⟨S128x100000, .i32⟩) main_call0_call0_v91) (TRef.of (T := ⟨S128x100000, .i32⟩) main_call0_call0_v92) Host.shrui,
    TRef.binary (TRef.of (T := ⟨S128x100000, .i32⟩) main_call0_call0_v90) (TRef.of (T := ⟨S128x100000, .i32⟩) main_call0_call0_v92) (TRef.of (T := ⟨S128x100000, .i32⟩) main_call0_call0_v93) ori,
    TRef.binary (TRef.of (T := ⟨S128x100000, .i32⟩) main_call0_call0_v88) (TRef.of (T := ⟨S128x100000, .i32⟩) main_call0_call0_v93) (TRef.of (T := ⟨S128x100000, .i32⟩) main_call0_call0_v94) xori,
    TRef.binary (TRef.of (T := ⟨S128x100000, .i32⟩) main_call0_call0_v88) (TRef.of (T := ⟨S128x100000, .i32⟩) main_call0_call0_v94) (TRef.of (T := ⟨S128x100000, .i32⟩) main_call0_call0_v95) addi,
    TRef.nullary (TRef.of (T := ⟨S_, .i32⟩) main_call0_call0_c_24) (constantI S_ 32 6#32),
    TRef.unary (TRef.of (T := ⟨S_, .i32⟩) main_call0_call0_c_24) (TRef.of (T := ⟨S128x100000, .i32⟩) main_call0_call0_v96) (broadcastInDim S128x100000 ![] bcast_S_S128x100000),
    TRef.binary (TRef.of (T := ⟨S128x100000, .i32⟩) main_call0_call0_v94) (TRef.of (T := ⟨S128x100000, .i32⟩) main_call0_call0_v96) (TRef.of (T := ⟨S128x100000, .i32⟩) main_call0_call0_v97) Host.shli,
    TRef.nullary (TRef.of (T := ⟨S_, .i32⟩) main_call0_call0_c_25) (constantI S_ 32 26#32),
    TRef.unary (TRef.of (T := ⟨S_, .i32⟩) main_call0_call0_c_25) (TRef.of (T := ⟨S128x100000, .i32⟩) main_call0_call0_v98) (broadcastInDim S128x100000 ![] bcast_S_S128x100000),
    TRef.binary (TRef.of (T := ⟨S128x100000, .i32⟩) main_call0_call0_v94) (TRef.of (T := ⟨S128x100000, .i32⟩) main_call0_call0_v98) (TRef.of (T := ⟨S128x100000, .i32⟩) main_call0_call0_v99) Host.shrui,
    TRef.binary (TRef.of (T := ⟨S128x100000, .i32⟩) main_call0_call0_v97) (TRef.of (T := ⟨S128x100000, .i32⟩) main_call0_call0_v99) (TRef.of (T := ⟨S128x100000, .i32⟩) main_call0_call0_v100) ori,
    TRef.binary (TRef.of (T := ⟨S128x100000, .i32⟩) main_call0_call0_v95) (TRef.of (T := ⟨S128x100000, .i32⟩) main_call0_call0_v100) (TRef.of (T := ⟨S128x100000, .i32⟩) main_call0_call0_v101) xori,
    TRef.unary (TRef.of (T := ⟨S_, .i32⟩) main_call0_v5) (TRef.of (T := ⟨S128x100000, .i32⟩) main_call0_call0_v102) (broadcastInDim S128x100000 ![] bcast_S_S128x100000),
    TRef.binary (TRef.of (T := ⟨S128x100000, .i32⟩) main_call0_call0_v95) (TRef.of (T := ⟨S128x100000, .i32⟩) main_call0_call0_v102) (TRef.of (T := ⟨S128x100000, .i32⟩) main_call0_call0_v103) addi,
    TRef.unary (TRef.of (T := ⟨S_, .i32⟩) main_call0_v7) (TRef.of (T := ⟨S128x100000, .i32⟩) main_call0_call0_v104) (broadcastInDim S128x100000 ![] bcast_S_S128x100000),
    TRef.binary (TRef.of (T := ⟨S128x100000, .i32⟩) main_call0_call0_v101) (TRef.of (T := ⟨S128x100000, .i32⟩) main_call0_call0_v104) (TRef.of (T := ⟨S128x100000, .i32⟩) main_call0_call0_v105) addi,
    TRef.nullary (TRef.of (T := ⟨S_, .i32⟩) main_call0_call0_c_26) (constantI S_ 32 3#32),
    TRef.unary (TRef.of (T := ⟨S_, .i32⟩) main_call0_call0_c_26) (TRef.of (T := ⟨S128x100000, .i32⟩) main_call0_call0_v106) (broadcastInDim S128x100000 ![] bcast_S_S128x100000),
    TRef.binary (TRef.of (T := ⟨S128x100000, .i32⟩) main_call0_call0_v105) (TRef.of (T := ⟨S128x100000, .i32⟩) main_call0_call0_v106) (TRef.of (T := ⟨S128x100000, .i32⟩) main_call0_call0_v107) addi,
    TRef.binary (TRef.of (T := ⟨S128x100000, .i32⟩) main_call0_call0_v103) (TRef.of (T := ⟨S128x100000, .i32⟩) main_call0_call0_v107) (TRef.of (T := ⟨S128x100000, .i32⟩) main_call0_call0_v108) addi,
    TRef.nullary (TRef.of (T := ⟨S_, .i32⟩) main_call0_call0_c_27) (constantI S_ 32 17#32),
    TRef.unary (TRef.of (T := ⟨S_, .i32⟩) main_call0_call0_c_27) (TRef.of (T := ⟨S128x100000, .i32⟩) main_call0_call0_v109) (broadcastInDim S128x100000 ![] bcast_S_S128x100000),
    TRef.binary (TRef.of (T := ⟨S128x100000, .i32⟩) main_call0_call0_v107) (TRef.of (T := ⟨S128x100000, .i32⟩) main_call0_call0_v109) (TRef.of (T := ⟨S128x100000, .i32⟩) main_call0_call0_v110) Host.shli,
    TRef.nullary (TRef.of (T := ⟨S_, .i32⟩) main_call0_call0_c_28) (constantI S_ 32 15#32),
    TRef.unary (TRef.of (T := ⟨S_, .i32⟩) main_call0_call0_c_28) (TRef.of (T := ⟨S128x100000, .i32⟩) main_call0_call0_v111) (broadcastInDim S128x100000 ![] bcast_S_S128x100000),
    TRef.binary (TRef.of (T := ⟨S128x100000, .i32⟩) main_call0_call0_v107) (TRef.of (T := ⟨S128x100000, .i32⟩) main_call0_call0_v111) (TRef.of (T := ⟨S128x100000, .i32⟩) main_call0_call0_v112) Host.shrui,
    TRef.binary (TRef.of (T := ⟨S128x100000, .i32⟩) main_call0_call0_v110) (TRef.of (T := ⟨S128x100000, .i32⟩) main_call0_call0_v112) (TRef.of (T := ⟨S128x100000, .i32⟩) main_call0_call0_v113) ori,
    TRef.binary (TRef.of (T := ⟨S128x100000, .i32⟩) main_call0_call0_v108) (TRef.of (T := ⟨S128x100000, .i32⟩) main_call0_call0_v113) (TRef.of (T := ⟨S128x100000, .i32⟩) main_call0_call0_v114) xori,
    TRef.binary (TRef.of (T := ⟨S128x100000, .i32⟩) main_call0_call0_v108) (TRef.of (T := ⟨S128x100000, .i32⟩) main_call0_call0_v114) (TRef.of (T := ⟨S128x100000, .i32⟩) main_call0_call0_v115) addi ]

/-- @main's operations 181 … 210 of 367 (window `main_part0`). -/
abbrev ops_part0_6 : List (HloOp τ sig (Elt F)) :=
  [ TRef.nullary (TRef.of (T := ⟨S_, .i32⟩) main_call0_call0_c_29) (constantI S_ 32 29#32),
    TRef.unary (TRef.of (T := ⟨S_, .i32⟩) main_call0_call0_c_29) (TRef.of (T := ⟨S128x100000, .i32⟩) main_call0_call0_v116) (broadcastInDim S128x100000 ![] bcast_S_S128x100000),
    TRef.binary (TRef.of (T := ⟨S128x100000, .i32⟩) main_call0_call0_v114) (TRef.of (T := ⟨S128x100000, .i32⟩) main_call0_call0_v116) (TRef.of (T := ⟨S128x100000, .i32⟩) main_call0_call0_v117) Host.shli,
    TRef.nullary (TRef.of (T := ⟨S_, .i32⟩) main_call0_call0_c_30) (constantI S_ 32 3#32),
    TRef.unary (TRef.of (T := ⟨S_, .i32⟩) main_call0_call0_c_30) (TRef.of (T := ⟨S128x100000, .i32⟩) main_call0_call0_v118) (broadcastInDim S128x100000 ![] bcast_S_S128x100000),
    TRef.binary (TRef.of (T := ⟨S128x100000, .i32⟩) main_call0_call0_v114) (TRef.of (T := ⟨S128x100000, .i32⟩) main_call0_call0_v118) (TRef.of (T := ⟨S128x100000, .i32⟩) main_call0_call0_v119) Host.shrui,
    TRef.binary (TRef.of (T := ⟨S128x100000, .i32⟩) main_call0_call0_v117) (TRef.of (T := ⟨S128x100000, .i32⟩) main_call0_call0_v119) (TRef.of (T := ⟨S128x100000, .i32⟩) main_call0_call0_v120) ori,
    TRef.binary (TRef.of (T := ⟨S128x100000, .i32⟩) main_call0_call0_v115) (TRef.of (T := ⟨S128x100000, .i32⟩) main_call0_call0_v120) (TRef.of (T := ⟨S128x100000, .i32⟩) main_call0_call0_v121) xori,
    TRef.binary (TRef.of (T := ⟨S128x100000, .i32⟩) main_call0_call0_v115) (TRef.of (T := ⟨S128x100000, .i32⟩) main_call0_call0_v121) (TRef.of (T := ⟨S128x100000, .i32⟩) main_call0_call0_v122) addi,
    TRef.nullary (TRef.of (T := ⟨S_, .i32⟩) main_call0_call0_c_31) (constantI S_ 32 16#32),
    TRef.unary (TRef.of (T := ⟨S_, .i32⟩) main_call0_call0_c_31) (TRef.of (T := ⟨S128x100000, .i32⟩) main_call0_call0_v123) (broadcastInDim S128x100000 ![] bcast_S_S128x100000),
    TRef.binary (TRef.of (T := ⟨S128x100000, .i32⟩) main_call0_call0_v121) (TRef.of (T := ⟨S128x100000, .i32⟩) main_call0_call0_v123) (TRef.of (T := ⟨S128x100000, .i32⟩) main_call0_call0_v124) Host.shli,
    TRef.nullary (TRef.of (T := ⟨S_, .i32⟩) main_call0_call0_c_32) (constantI S_ 32 16#32),
    TRef.unary (TRef.of (T := ⟨S_, .i32⟩) main_call0_call0_c_32) (TRef.of (T := ⟨S128x100000, .i32⟩) main_call0_call0_v125) (broadcastInDim S128x100000 ![] bcast_S_S128x100000),
    TRef.binary (TRef.of (T := ⟨S128x100000, .i32⟩) main_call0_call0_v121) (TRef.of (T := ⟨S128x100000, .i32⟩) main_call0_call0_v125) (TRef.of (T := ⟨S128x100000, .i32⟩) main_call0_call0_v126) Host.shrui,
    TRef.binary (TRef.of (T := ⟨S128x100000, .i32⟩) main_call0_call0_v124) (TRef.of (T := ⟨S128x100000, .i32⟩) main_call0_call0_v126) (TRef.of (T := ⟨S128x100000, .i32⟩) main_call0_call0_v127) ori,
    TRef.binary (TRef.of (T := ⟨S128x100000, .i32⟩) main_call0_call0_v122) (TRef.of (T := ⟨S128x100000, .i32⟩) main_call0_call0_v127) (TRef.of (T := ⟨S128x100000, .i32⟩) main_call0_call0_v128) xori,
    TRef.binary (TRef.of (T := ⟨S128x100000, .i32⟩) main_call0_call0_v122) (TRef.of (T := ⟨S128x100000, .i32⟩) main_call0_call0_v128) (TRef.of (T := ⟨S128x100000, .i32⟩) main_call0_call0_v129) addi,
    TRef.nullary (TRef.of (T := ⟨S_, .i32⟩) main_call0_call0_c_33) (constantI S_ 32 24#32),
    TRef.unary (TRef.of (T := ⟨S_, .i32⟩) main_call0_call0_c_33) (TRef.of (T := ⟨S128x100000, .i32⟩) main_call0_call0_v130) (broadcastInDim S128x100000 ![] bcast_S_S128x100000),
    TRef.binary (TRef.of (T := ⟨S128x100000, .i32⟩) main_call0_call0_v128) (TRef.of (T := ⟨S128x100000, .i32⟩) main_call0_call0_v130) (TRef.of (T := ⟨S128x100000, .i32⟩) main_call0_call0_v131) Host.shli,
    TRef.nullary (TRef.of (T := ⟨S_, .i32⟩) main_call0_call0_c_34) (constantI S_ 32 8#32),
    TRef.unary (TRef.of (T := ⟨S_, .i32⟩) main_call0_call0_c_34) (TRef.of (T := ⟨S128x100000, .i32⟩) main_call0_call0_v132) (broadcastInDim S128x100000 ![] bcast_S_S128x100000),
    TRef.binary (TRef.of (T := ⟨S128x100000, .i32⟩) main_call0_call0_v128) (TRef.of (T := ⟨S128x100000, .i32⟩) main_call0_call0_v132) (TRef.of (T := ⟨S128x100000, .i32⟩) main_call0_call0_v133) Host.shrui,
    TRef.binary (TRef.of (T := ⟨S128x100000, .i32⟩) main_call0_call0_v131) (TRef.of (T := ⟨S128x100000, .i32⟩) main_call0_call0_v133) (TRef.of (T := ⟨S128x100000, .i32⟩) main_call0_call0_v134) ori,
    TRef.binary (TRef.of (T := ⟨S128x100000, .i32⟩) main_call0_call0_v129) (TRef.of (T := ⟨S128x100000, .i32⟩) main_call0_call0_v134) (TRef.of (T := ⟨S128x100000, .i32⟩) main_call0_call0_v135) xori,
    TRef.unary (TRef.of (T := ⟨S_, .i32⟩) main_call0_v7) (TRef.of (T := ⟨S128x100000, .i32⟩) main_call0_call0_v136) (broadcastInDim S128x100000 ![] bcast_S_S128x100000),
    TRef.binary (TRef.of (T := ⟨S128x100000, .i32⟩) main_call0_call0_v129) (TRef.of (T := ⟨S128x100000, .i32⟩) main_call0_call0_v136) (TRef.of (T := ⟨S128x100000, .i32⟩) main_call0_call0_v137) addi,
    TRef.unary (TRef.of (T := ⟨S_, .i32⟩) main_call0_call0_v1) (TRef.of (T := ⟨S128x100000, .i32⟩) main_call0_call0_v138) (broadcastInDim S128x100000 ![] bcast_S_S128x100000),
    TRef.binary (TRef.of (T := ⟨S128x100000, .i32⟩) main_call0_call0_v135) (TRef.of (T := ⟨S128x100000, .i32⟩) main_call0_call0_v138) (TRef.of (T := ⟨S128x100000, .i32⟩) main_call0_call0_v139) addi ]

/-- @main's operations 211 … 240 of 367 (window `main_part0`). -/
abbrev ops_part0_7 : List (HloOp τ sig (Elt F)) :=
  [ TRef.nullary (TRef.of (T := ⟨S_, .i32⟩) main_call0_call0_c_35) (constantI S_ 32 4#32),
    TRef.unary (TRef.of (T := ⟨S_, .i32⟩) main_call0_call0_c_35) (TRef.of (T := ⟨S128x100000, .i32⟩) main_call0_call0_v140) (broadcastInDim S128x100000 ![] bcast_S_S128x100000),
    TRef.binary (TRef.of (T := ⟨S128x100000, .i32⟩) main_call0_call0_v139) (TRef.of (T := ⟨S128x100000, .i32⟩) main_call0_call0_v140) (TRef.of (T := ⟨S128x100000, .i32⟩) main_call0_call0_v141) addi,
    TRef.binary (TRef.of (T := ⟨S128x100000, .i32⟩) main_call0_call0_v137) (TRef.of (T := ⟨S128x100000, .i32⟩) main_call0_call0_v141) (TRef.of (T := ⟨S128x100000, .i32⟩) main_call0_call0_v142) addi,
    TRef.nullary (TRef.of (T := ⟨S_, .i32⟩) main_call0_call0_c_36) (constantI S_ 32 13#32),
    TRef.unary (TRef.of (T := ⟨S_, .i32⟩) main_call0_call0_c_36) (TRef.of (T := ⟨S128x100000, .i32⟩) main_call0_call0_v143) (broadcastInDim S128x100000 ![] bcast_S_S128x100000),
    TRef.binary (TRef.of (T := ⟨S128x100000, .i32⟩) main_call0_call0_v141) (TRef.of (T := ⟨S128x100000, .i32⟩) main_call0_call0_v143) (TRef.of (T := ⟨S128x100000, .i32⟩) main_call0_call0_v144) Host.shli,
    TRef.nullary (TRef.of (T := ⟨S_, .i32⟩) main_call0_call0_c_37) (constantI S_ 32 19#32),
    TRef.unary (TRef.of (T := ⟨S_, .i32⟩) main_call0_call0_c_37) (TRef.of (T := ⟨S128x100000, .i32⟩) main_call0_call0_v145) (broadcastInDim S128x100000 ![] bcast_S_S128x100000),
    TRef.binary (TRef.of (T := ⟨S128x100000, .i32⟩) main_call0_call0_v141) (TRef.of (T := ⟨S128x100000, .i32⟩) main_call0_call0_v145) (TRef.of (T := ⟨S128x100000, .i32⟩) main_call0_call0_v146) Host.shrui,
    TRef.binary (TRef.of (T := ⟨S128x100000, .i32⟩) main_call0_call0_v144) (TRef.of (T := ⟨S128x100000, .i32⟩) main_call0_call0_v146) (TRef.of (T := ⟨S128x100000, .i32⟩) main_call0_call0_v147) ori,
    TRef.binary (TRef.of (T := ⟨S128x100000, .i32⟩) main_call0_call0_v142) (TRef.of (T := ⟨S128x100000, .i32⟩) main_call0_call0_v147) (TRef.of (T := ⟨S128x100000, .i32⟩) main_call0_call0_v148) xori,
    TRef.binary (TRef.of (T := ⟨S128x100000, .i32⟩) main_call0_call0_v142) (TRef.of (T := ⟨S128x100000, .i32⟩) main_call0_call0_v148) (TRef.of (T := ⟨S128x100000, .i32⟩) main_call0_call0_v149) addi,
    TRef.nullary (TRef.of (T := ⟨S_, .i32⟩) main_call0_call0_c_38) (constantI S_ 32 15#32),
    TRef.unary (TRef.of (T := ⟨S_, .i32⟩) main_call0_call0_c_38) (TRef.of (T := ⟨S128x100000, .i32⟩) main_call0_call0_v150) (broadcastInDim S128x100000 ![] bcast_S_S128x100000),
    TRef.binary (TRef.of (T := ⟨S128x100000, .i32⟩) main_call0_call0_v148) (TRef.of (T := ⟨S128x100000, .i32⟩) main_call0_call0_v150) (TRef.of (T := ⟨S128x100000, .i32⟩) main_call0_call0_v151) Host.shli,
    TRef.nullary (TRef.of (T := ⟨S_, .i32⟩) main_call0_call0_c_39) (constantI S_ 32 17#32),
    TRef.unary (TRef.of (T := ⟨S_, .i32⟩) main_call0_call0_c_39) (TRef.of (T := ⟨S128x100000, .i32⟩) main_call0_call0_v152) (broadcastInDim S128x100000 ![] bcast_S_S128x100000),
    TRef.binary (TRef.of (T := ⟨S128x100000, .i32⟩) main_call0_call0_v148) (TRef.of (T := ⟨S128x100000, .i32⟩) main_call0_call0_v152) (TRef.of (T := ⟨S128x100000, .i32⟩) main_call0_call0_v153) Host.shrui,
    TRef.binary (TRef.of (T := ⟨S128x100000, .i32⟩) main_call0_call0_v151) (TRef.of (T := ⟨S128x100000, .i32⟩) main_call0_call0_v153) (TRef.of (T := ⟨S128x100000, .i32⟩) main_call0_call0_v154) ori,
    TRef.binary (TRef.of (T := ⟨S128x100000, .i32⟩) main_call0_call0_v149) (TRef.of (T := ⟨S128x100000, .i32⟩) main_call0_call0_v154) (TRef.of (T := ⟨S128x100000, .i32⟩) main_call0_call0_v155) xori,
    TRef.binary (TRef.of (T := ⟨S128x100000, .i32⟩) main_call0_call0_v149) (TRef.of (T := ⟨S128x100000, .i32⟩) main_call0_call0_v155) (TRef.of (T := ⟨S128x100000, .i32⟩) main_call0_call0_v156) addi,
    TRef.nullary (TRef.of (T := ⟨S_, .i32⟩) main_call0_call0_c_40) (constantI S_ 32 26#32),
    TRef.unary (TRef.of (T := ⟨S_, .i32⟩) main_call0_call0_c_40) (TRef.of (T := ⟨S128x100000, .i32⟩) main_call0_call0_v157) (broadcastInDim S128x100000 ![] bcast_S_S128x100000),
    TRef.binary (TRef.of (T := ⟨S128x100000, .i32⟩) main_call0_call0_v155) (TRef.of (T := ⟨S128x100000, .i32⟩) main_call0_call0_v157) (TRef.of (T := ⟨S128x100000, .i32⟩) main_call0_call0_v158) Host.shli,
    TRef.nullary (TRef.of (T := ⟨S_, .i32⟩) main_call0_call0_c_41) (constantI S_ 32 6#32),
    TRef.unary (TRef.of (T := ⟨S_, .i32⟩) main_call0_call0_c_41) (TRef.of (T := ⟨S128x100000, .i32⟩) main_call0_call0_v159) (broadcastInDim S128x100000 ![] bcast_S_S128x100000),
    TRef.binary (TRef.of (T := ⟨S128x100000, .i32⟩) main_call0_call0_v155) (TRef.of (T := ⟨S128x100000, .i32⟩) main_call0_call0_v159) (TRef.of (T := ⟨S128x100000, .i32⟩) main_call0_call0_v160) Host.shrui,
    TRef.binary (TRef.of (T := ⟨S128x100000, .i32⟩) main_call0_call0_v158) (TRef.of (T := ⟨S128x100000, .i32⟩) main_call0_call0_v160) (TRef.of (T := ⟨S128x100000, .i32⟩) main_call0_call0_v161) ori,
    TRef.binary (TRef.of (T := ⟨S128x100000, .i32⟩) main_call0_call0_v156) (TRef.of (T := ⟨S128x100000, .i32⟩) main_call0_call0_v161) (TRef.of (T := ⟨S128x100000, .i32⟩) main_call0_call0_v162) xori ]

/-- @main's operations 241 … 270 of 367 (window `main_part0`). -/
abbrev ops_part0_8 : List (HloOp τ sig (Elt F)) :=
  [ TRef.binary (TRef.of (T := ⟨S128x100000, .i32⟩) main_call0_call0_v156) (TRef.of (T := ⟨S128x100000, .i32⟩) main_call0_call0_v162) (TRef.of (T := ⟨S128x100000, .i32⟩) main_call0_call0_v163) addi,
    TRef.nullary (TRef.of (T := ⟨S_, .i32⟩) main_call0_call0_c_42) (constantI S_ 32 6#32),
    TRef.unary (TRef.of (T := ⟨S_, .i32⟩) main_call0_call0_c_42) (TRef.of (T := ⟨S128x100000, .i32⟩) main_call0_call0_v164) (broadcastInDim S128x100000 ![] bcast_S_S128x100000),
    TRef.binary (TRef.of (T := ⟨S128x100000, .i32⟩) main_call0_call0_v162) (TRef.of (T := ⟨S128x100000, .i32⟩) main_call0_call0_v164) (TRef.of (T := ⟨S128x100000, .i32⟩) main_call0_call0_v165) Host.shli,
    TRef.nullary (TRef.of (T := ⟨S_, .i32⟩) main_call0_call0_c_43) (constantI S_ 32 26#32),
    TRef.unary (TRef.of (T := ⟨S_, .i32⟩) main_call0_call0_c_43) (TRef.of (T := ⟨S128x100000, .i32⟩) main_call0_call0_v166) (broadcastInDim S128x100000 ![] bcast_S_S128x100000),
    TRef.binary (TRef.of (T := ⟨S128x100000, .i32⟩) main_call0_call0_v162) (TRef.of (T := ⟨S128x100000, .i32⟩) main_call0_call0_v166) (TRef.of (T := ⟨S128x100000, .i32⟩) main_call0_call0_v167) Host.shrui,
    TRef.binary (TRef.of (T := ⟨S128x100000, .i32⟩) main_call0_call0_v165) (TRef.of (T := ⟨S128x100000, .i32⟩) main_call0_call0_v167) (TRef.of (T := ⟨S128x100000, .i32⟩) main_call0_call0_v168) ori,
    TRef.binary (TRef.of (T := ⟨S128x100000, .i32⟩) main_call0_call0_v163) (TRef.of (T := ⟨S128x100000, .i32⟩) main_call0_call0_v168) (TRef.of (T := ⟨S128x100000, .i32⟩) main_call0_call0_v169) xori,
    TRef.unary (TRef.of (T := ⟨S_, .i32⟩) main_call0_call0_v1) (TRef.of (T := ⟨S128x100000, .i32⟩) main_call0_call0_v170) (broadcastInDim S128x100000 ![] bcast_S_S128x100000),
    TRef.binary (TRef.of (T := ⟨S128x100000, .i32⟩) main_call0_call0_v163) (TRef.of (T := ⟨S128x100000, .i32⟩) main_call0_call0_v170) (TRef.of (T := ⟨S128x100000, .i32⟩) main_call0_v19_0) addi,
    TRef.unary (TRef.of (T := ⟨S_, .i32⟩) main_call0_v5) (TRef.of (T := ⟨S128x100000, .i32⟩) main_call0_call0_v172) (broadcastInDim S128x100000 ![] bcast_S_S128x100000),
    TRef.binary (TRef.of (T := ⟨S128x100000, .i32⟩) main_call0_call0_v169) (TRef.of (T := ⟨S128x100000, .i32⟩) main_call0_call0_v172) (TRef.of (T := ⟨S128x100000, .i32⟩) main_call0_call0_v173) addi,
    TRef.nullary (TRef.of (T := ⟨S_, .i32⟩) main_call0_call0_c_44) (constantI S_ 32 5#32),
    TRef.unary (TRef.of (T := ⟨S_, .i32⟩) main_call0_call0_c_44) (TRef.of (T := ⟨S128x100000, .i32⟩) main_call0_call0_v174) (broadcastInDim S128x100000 ![] bcast_S_S128x100000),
    TRef.binary (TRef.of (T := ⟨S128x100000, .i32⟩) main_call0_call0_v173) (TRef.of (T := ⟨S128x100000, .i32⟩) main_call0_call0_v174) (TRef.of (T := ⟨S128x100000, .i32⟩) main_call0_v19_1) addi,
    TRef.binary (TRef.of (T := ⟨S128x100000, .i32⟩) main_call0_v19_0) (TRef.of (T := ⟨S128x100000, .i32⟩) main_call0_v19_1) (TRef.of (T := ⟨S128x100000, .i32⟩) main_call0_v20) xori,
    TRef.nullary (TRef.of (T := ⟨S_, .i32⟩) main_call0_c_2) (constantI S_ 32 9#32),
    TRef.unary (TRef.of (T := ⟨S_, .i32⟩) main_call0_c_2) (TRef.of (T := ⟨S128x100000, .i32⟩) main_call0_v21) (broadcastInDim S128x100000 ![] bcast_S_S128x100000),
    TRef.binary (TRef.of (T := ⟨S128x100000, .i32⟩) main_call0_v20) (TRef.of (T := ⟨S128x100000, .i32⟩) main_call0_v21) (TRef.of (T := ⟨S128x100000, .i32⟩) main_call0_v22) Host.shrui,
    TRef.nullary (TRef.of (T := ⟨S_, .i32⟩) main_call0_c_3) (constantI S_ 32 1065353216#32),
    TRef.unary (TRef.of (T := ⟨S_, .i32⟩) main_call0_c_3) (TRef.of (T := ⟨S128x100000, .i32⟩) main_call0_v23) (broadcastInDim S128x100000 ![] bcast_S_S128x100000),
    TRef.binary (TRef.of (T := ⟨S128x100000, .i32⟩) main_call0_v22) (TRef.of (T := ⟨S128x100000, .i32⟩) main_call0_v23) (TRef.of (T := ⟨S128x100000, .i32⟩) main_call0_v24) ori,
    TRef.unary (TRef.of (T := ⟨S128x100000, .i32⟩) main_call0_v24) (TRef.of (T := ⟨S128x100000, .f32⟩) main_call0_v25) (bitcastToFloat (F := F) .f32),
    TRef.nullary (TRef.of (T := ⟨S_, .f32⟩) main_call0_cst) (constant S_ .f32 0x3F800000#32),
    TRef.unary (TRef.of (T := ⟨S_, .f32⟩) main_call0_cst) (TRef.of (T := ⟨S128x100000, .f32⟩) main_call0_v26) (broadcastInDim S128x100000 ![] bcast_S_S128x100000),
    TRef.binary (TRef.of (T := ⟨S128x100000, .f32⟩) main_call0_v25) (TRef.of (T := ⟨S128x100000, .f32⟩) main_call0_v26) (TRef.of (T := ⟨S128x100000, .f32⟩) main_call0_v27) subf,
    TRef.binary (TRef.of (T := ⟨S1x1, .f32⟩) main_call0_v3) (TRef.of (T := ⟨S1x1, .f32⟩) main_call0_v2) (TRef.of (T := ⟨S1x1, .f32⟩) main_call0_v28) subf,
    TRef.unary (TRef.of (T := ⟨S1x1, .f32⟩) main_call0_v28) (TRef.of (T := ⟨S128x100000, .f32⟩) main_call0_v29) (broadcastInDim S128x100000 ![0, 1] bcast_S1x1_S128x100000_0_1),
    TRef.binary (TRef.of (T := ⟨S128x100000, .f32⟩) main_call0_v27) (TRef.of (T := ⟨S128x100000, .f32⟩) main_call0_v29) (TRef.of (T := ⟨S128x100000, .f32⟩) main_call0_v30) mulf ]

/-- @main's operations 271 … 300 of 367 (window `main_part0`). -/
abbrev ops_part0_9 : List (HloOp τ sig (Elt F)) :=
  [ TRef.unary (TRef.of (T := ⟨S1x1, .f32⟩) main_call0_v2) (TRef.of (T := ⟨S128x100000, .f32⟩) main_call0_v31) (broadcastInDim S128x100000 ![0, 1] bcast_S1x1_S128x100000_0_1),
    TRef.binary (TRef.of (T := ⟨S128x100000, .f32⟩) main_call0_v30) (TRef.of (T := ⟨S128x100000, .f32⟩) main_call0_v31) (TRef.of (T := ⟨S128x100000, .f32⟩) main_call0_v32) addf,
    TRef.unary (TRef.of (T := ⟨S1x1, .f32⟩) main_call0_v2) (TRef.of (T := ⟨S128x100000, .f32⟩) main_call0_v33) (broadcastInDim S128x100000 ![0, 1] bcast_S1x1_S128x100000_0_1),
    TRef.binary (TRef.of (T := ⟨S128x100000, .f32⟩) main_call0_v33) (TRef.of (T := ⟨S128x100000, .f32⟩) main_call0_v32) (TRef.of (T := ⟨S128x100000, .f32⟩) main_v7) maximumf,
    nullary main_cst_3 (constant S_ .f32 0x00800000#32),
    unary main_cst_3 main_v8 (broadcastInDim S128x100000 ![] bcast_S_S128x100000 : (⟨S_, .f32⟩ : BufTy).Contents (Elt F) → (⟨S128x100000, .f32⟩ : BufTy).Contents (Elt F)),
    binary main_v7 main_v8 main_v9 (maximumf : (⟨S128x100000, .f32⟩ : BufTy).Contents (Elt F) → (⟨S128x100000, .f32⟩ : BufTy).Contents (Elt F) → (⟨S128x100000, .f32⟩ : BufTy).Contents (Elt F)),
    unary main_v9 main_v10 (Host.log : (⟨S128x100000, .f32⟩ : BufTy).Contents (Elt F) → (⟨S128x100000, .f32⟩ : BufTy).Contents (Elt F)),
    unary main_v10 main_v11 (Host.negf : (⟨S128x100000, .f32⟩ : BufTy).Contents (Elt F) → (⟨S128x100000, .f32⟩ : BufTy).Contents (Elt F)),
    unary main_v11 main_v12 (Host.log : (⟨S128x100000, .f32⟩ : BufTy).Contents (Elt F) → (⟨S128x100000, .f32⟩ : BufTy).Contents (Elt F)),
    unary main_v12 main_v13 (Host.negf : (⟨S128x100000, .f32⟩ : BufTy).Contents (Elt F) → (⟨S128x100000, .f32⟩ : BufTy).Contents (Elt F)),
    binary main_arg0 main_v13 main_v14 (addf : (⟨S128x100000, .f32⟩ : BufTy).Contents (Elt F) → (⟨S128x100000, .f32⟩ : BufTy).Contents (Elt F) → (⟨S128x100000, .f32⟩ : BufTy).Contents (Elt F)),
    nullary main_cst_4 (constant S_ .f32 0x00000000#32),
    unary main_cst_4 main_v15 (broadcastInDim S128x100000 ![] bcast_S_S128x100000 : (⟨S_, .f32⟩ : BufTy).Contents (Elt F) → (⟨S128x100000, .f32⟩ : BufTy).Contents (Elt F)),
    nullary main_cst_5 (constant S_ .f32 0x00000000#32),
    unary main_cst_5 main_v16 (broadcastInDim S128x100000 ![] bcast_S_S128x100000 : (⟨S_, .f32⟩ : BufTy).Contents (Elt F) → (⟨S128x100000, .f32⟩ : BufTy).Contents (Elt F)),
    nullary main_cst_6 (constant S_ .f32 0x3F800000#32),
    unary main_cst_6 main_v17 (broadcastInDim S128x100000 ![] bcast_S_S128x100000 : (⟨S_, .f32⟩ : BufTy).Contents (Elt F) → (⟨S128x100000, .f32⟩ : BufTy).Contents (Elt F)),
    binary main_v17 main_v16 main_v18 (subf : (⟨S128x100000, .f32⟩ : BufTy).Contents (Elt F) → (⟨S128x100000, .f32⟩ : BufTy).Contents (Elt F) → (⟨S128x100000, .f32⟩ : BufTy).Contents (Elt F)),
    nullary main_cst_7 (constant S_ .f32 0x00800000#32),
    unary main_cst_7 main_v19 (broadcastInDim S128x100000 ![] bcast_S_S128x100000 : (⟨S_, .f32⟩ : BufTy).Contents (Elt F) → (⟨S128x100000, .f32⟩ : BufTy).Contents (Elt F)),
    binary main_v18 main_v19 main_v20 (maximumf : (⟨S128x100000, .f32⟩ : BufTy).Contents (Elt F) → (⟨S128x100000, .f32⟩ : BufTy).Contents (Elt F) → (⟨S128x100000, .f32⟩ : BufTy).Contents (Elt F)),
    unary main_v20 main_v21 (Host.log : (⟨S128x100000, .f32⟩ : BufTy).Contents (Elt F) → (⟨S128x100000, .f32⟩ : BufTy).Contents (Elt F)),
    binary main_v14 main_v21 main_v22 (addf : (⟨S128x100000, .f32⟩ : BufTy).Contents (Elt F) → (⟨S128x100000, .f32⟩ : BufTy).Contents (Elt F) → (⟨S128x100000, .f32⟩ : BufTy).Contents (Elt F)),
    nullary main_cst_8 (constant S_ .f32 0x3F800000#32),
    unary main_cst_8 main_v23 (broadcastInDim S128x100000 ![] bcast_S_S128x100000 : (⟨S_, .f32⟩ : BufTy).Contents (Elt F) → (⟨S128x100000, .f32⟩ : BufTy).Contents (Elt F)),
    binary main_v22 main_v23 main_v24 (Host.divf : (⟨S128x100000, .f32⟩ : BufTy).Contents (Elt F) → (⟨S128x100000, .f32⟩ : BufTy).Contents (Elt F) → (⟨S128x100000, .f32⟩ : BufTy).Contents (Elt F)),
    nullary main_cst_9 (constant S_ .f32 0xFF800000#32),
    binary main_v24 main_cst_9 main_v25 ((fun x v => Host.reduce FloatOps.maximumf x v reducesTo_S128x100000_S128_d1 h_S_) : (⟨S128x100000, .f32⟩ : BufTy).Contents (Elt F) → (⟨S_, .f32⟩ : BufTy).Contents (Elt F) → (⟨S128, .f32⟩ : BufTy).Contents (Elt F)),
    nullary main_cst_10 (constant S_ .f32 0xFF800000#32) ]

/-- @main's operations 301 … 321 of 367 (window `main_part0`). -/
abbrev ops_part0_10 : List (HloOp τ sig (Elt F)) :=
  [ unary main_cst_10 main_v26 (broadcastInDim S128 ![] bcast_S_S128 : (⟨S_, .f32⟩ : BufTy).Contents (Elt F) → (⟨S128, .f32⟩ : BufTy).Contents (Elt F)),
    binary main_v26 main_v25 main_v27 (maximumf : (⟨S128, .f32⟩ : BufTy).Contents (Elt F) → (⟨S128, .f32⟩ : BufTy).Contents (Elt F) → (⟨S128, .f32⟩ : BufTy).Contents (Elt F)),
    unary main_v27 main_v28 (broadcastInDim S128x1 ![0] bcast_S128_S128x1_0 : (⟨S128, .f32⟩ : BufTy).Contents (Elt F) → (⟨S128x1, .f32⟩ : BufTy).Contents (Elt F)),
    unary main_v28 main_v29 (broadcastInDim S128x100000 ![0, 1] bcast_S128x1_S128x100000_0_1 : (⟨S128x1, .f32⟩ : BufTy).Contents (Elt F) → (⟨S128x100000, .f32⟩ : BufTy).Contents (Elt F)),
    binary main_v24 main_v29 main_v30 (subf : (⟨S128x100000, .f32⟩ : BufTy).Contents (Elt F) → (⟨S128x100000, .f32⟩ : BufTy).Contents (Elt F) → (⟨S128x100000, .f32⟩ : BufTy).Contents (Elt F)),
    unary main_v30 main_v31 (Host.exp : (⟨S128x100000, .f32⟩ : BufTy).Contents (Elt F) → (⟨S128x100000, .f32⟩ : BufTy).Contents (Elt F)),
    nullary main_cst_11 (constant S_ .f32 0x00000000#32),
    binary main_v31 main_cst_11 main_v32 ((fun x v => Host.reduceAdd x v reducesTo_S128x100000_S128_d1 h_S_) : (⟨S128x100000, .f32⟩ : BufTy).Contents (Elt F) → (⟨S_, .f32⟩ : BufTy).Contents (Elt F) → (⟨S128, .f32⟩ : BufTy).Contents (Elt F)),
    unary main_v32 main_v33 (broadcastInDim S128x1 ![0] bcast_S128_S128x1_0 : (⟨S128, .f32⟩ : BufTy).Contents (Elt F) → (⟨S128x1, .f32⟩ : BufTy).Contents (Elt F)),
    unary main_v33 main_v34 (broadcastInDim S128x100000 ![0, 1] bcast_S128x1_S128x100000_0_1 : (⟨S128x1, .f32⟩ : BufTy).Contents (Elt F) → (⟨S128x100000, .f32⟩ : BufTy).Contents (Elt F)),
    binary main_v31 main_v34 main_v35 (Host.divf : (⟨S128x100000, .f32⟩ : BufTy).Contents (Elt F) → (⟨S128x100000, .f32⟩ : BufTy).Contents (Elt F) → (⟨S128x100000, .f32⟩ : BufTy).Contents (Elt F)),
    binary main_v15 main_v35 main_v36 (addf : (⟨S128x100000, .f32⟩ : BufTy).Contents (Elt F) → (⟨S128x100000, .f32⟩ : BufTy).Contents (Elt F) → (⟨S128x100000, .f32⟩ : BufTy).Contents (Elt F)),
    nullary main_cst_12 (constant S_ .f32 0x3F800000#32),
    unary main_cst_12 main_v37 (broadcastInDim S128x100000 ![] bcast_S_S128x100000 : (⟨S_, .f32⟩ : BufTy).Contents (Elt F) → (⟨S128x100000, .f32⟩ : BufTy).Contents (Elt F)),
    binary main_v37 main_v35 main_v38 (subf : (⟨S128x100000, .f32⟩ : BufTy).Contents (Elt F) → (⟨S128x100000, .f32⟩ : BufTy).Contents (Elt F) → (⟨S128x100000, .f32⟩ : BufTy).Contents (Elt F)),
    nullary main_cst_13 (constant S_ .f32 0x00800000#32),
    unary main_cst_13 main_v39 (broadcastInDim S128x100000 ![] bcast_S_S128x100000 : (⟨S_, .f32⟩ : BufTy).Contents (Elt F) → (⟨S128x100000, .f32⟩ : BufTy).Contents (Elt F)),
    binary main_v38 main_v39 main_v40 (maximumf : (⟨S128x100000, .f32⟩ : BufTy).Contents (Elt F) → (⟨S128x100000, .f32⟩ : BufTy).Contents (Elt F) → (⟨S128x100000, .f32⟩ : BufTy).Contents (Elt F)),
    unary main_v40 main_v41 (Host.log : (⟨S128x100000, .f32⟩ : BufTy).Contents (Elt F) → (⟨S128x100000, .f32⟩ : BufTy).Contents (Elt F)),
    binary main_v22 main_v41 main_v42 (addf : (⟨S128x100000, .f32⟩ : BufTy).Contents (Elt F) → (⟨S128x100000, .f32⟩ : BufTy).Contents (Elt F) → (⟨S128x100000, .f32⟩ : BufTy).Contents (Elt F)),
    nullary main_cst_14 (constant S_ .f32 0x3F800000#32) ]

/-- Window `main_part0`'s operations. Not an abbreviation: `main_eq` below splits `ops` into the windows and no further. -/
def ops_part0 : List (HloOp τ sig (Elt F)) :=
  ops_part0_0 ++ (ops_part0_1 ++ (ops_part0_2 ++ (ops_part0_3 ++ (ops_part0_4 ++ (ops_part0_5 ++ (ops_part0_6 ++ (ops_part0_7 ++ (ops_part0_8 ++ (ops_part0_9 ++ (ops_part0_10))))))))))

/-- @main's operations 322 … 367 of 367 (window `main_part1`). -/
abbrev ops_part1 : List (HloOp τ sig (Elt F)) :=
  [ unary main_cst_14 main_v43 (broadcastInDim S128x100000 ![] bcast_S_S128x100000 : (⟨S_, .f32⟩ : BufTy).Contents (Elt F) → (⟨S128x100000, .f32⟩ : BufTy).Contents (Elt F)),
    binary main_v42 main_v43 main_v44 (Host.divf : (⟨S128x100000, .f32⟩ : BufTy).Contents (Elt F) → (⟨S128x100000, .f32⟩ : BufTy).Contents (Elt F) → (⟨S128x100000, .f32⟩ : BufTy).Contents (Elt F)),
    nullary main_cst_15 (constant S_ .f32 0xFF800000#32),
    binary main_v44 main_cst_15 main_v45 ((fun x v => Host.reduce FloatOps.maximumf x v reducesTo_S128x100000_S128_d1 h_S_) : (⟨S128x100000, .f32⟩ : BufTy).Contents (Elt F) → (⟨S_, .f32⟩ : BufTy).Contents (Elt F) → (⟨S128, .f32⟩ : BufTy).Contents (Elt F)),
    nullary main_cst_16 (constant S_ .f32 0xFF800000#32),
    unary main_cst_16 main_v46 (broadcastInDim S128 ![] bcast_S_S128 : (⟨S_, .f32⟩ : BufTy).Contents (Elt F) → (⟨S128, .f32⟩ : BufTy).Contents (Elt F)),
    binary main_v46 main_v45 main_v47 (maximumf : (⟨S128, .f32⟩ : BufTy).Contents (Elt F) → (⟨S128, .f32⟩ : BufTy).Contents (Elt F) → (⟨S128, .f32⟩ : BufTy).Contents (Elt F)),
    unary main_v47 main_v48 (broadcastInDim S128x1 ![0] bcast_S128_S128x1_0 : (⟨S128, .f32⟩ : BufTy).Contents (Elt F) → (⟨S128x1, .f32⟩ : BufTy).Contents (Elt F)),
    unary main_v48 main_v49 (broadcastInDim S128x100000 ![0, 1] bcast_S128x1_S128x100000_0_1 : (⟨S128x1, .f32⟩ : BufTy).Contents (Elt F) → (⟨S128x100000, .f32⟩ : BufTy).Contents (Elt F)),
    binary main_v44 main_v49 main_v50 (subf : (⟨S128x100000, .f32⟩ : BufTy).Contents (Elt F) → (⟨S128x100000, .f32⟩ : BufTy).Contents (Elt F) → (⟨S128x100000, .f32⟩ : BufTy).Contents (Elt F)),
    unary main_v50 main_v51 (Host.exp : (⟨S128x100000, .f32⟩ : BufTy).Contents (Elt F) → (⟨S128x100000, .f32⟩ : BufTy).Contents (Elt F)),
    nullary main_cst_17 (constant S_ .f32 0x00000000#32),
    binary main_v51 main_cst_17 main_v52 ((fun x v => Host.reduceAdd x v reducesTo_S128x100000_S128_d1 h_S_) : (⟨S128x100000, .f32⟩ : BufTy).Contents (Elt F) → (⟨S_, .f32⟩ : BufTy).Contents (Elt F) → (⟨S128, .f32⟩ : BufTy).Contents (Elt F)),
    unary main_v52 main_v53 (broadcastInDim S128x1 ![0] bcast_S128_S128x1_0 : (⟨S128, .f32⟩ : BufTy).Contents (Elt F) → (⟨S128x1, .f32⟩ : BufTy).Contents (Elt F)),
    unary main_v53 main_v54 (broadcastInDim S128x100000 ![0, 1] bcast_S128x1_S128x100000_0_1 : (⟨S128x1, .f32⟩ : BufTy).Contents (Elt F) → (⟨S128x100000, .f32⟩ : BufTy).Contents (Elt F)),
    binary main_v51 main_v54 main_v55 (Host.divf : (⟨S128x100000, .f32⟩ : BufTy).Contents (Elt F) → (⟨S128x100000, .f32⟩ : BufTy).Contents (Elt F) → (⟨S128x100000, .f32⟩ : BufTy).Contents (Elt F)),
    binary main_v36 main_v55 main_v56 (addf : (⟨S128x100000, .f32⟩ : BufTy).Contents (Elt F) → (⟨S128x100000, .f32⟩ : BufTy).Contents (Elt F) → (⟨S128x100000, .f32⟩ : BufTy).Contents (Elt F)),
    unary main_v56 main_values ((fun x => (Host.topK S128x2 1 (FloatOps.cmpfTotal .gt) x sliceFits_S128x100000_S128x2).1) : (⟨S128x100000, .f32⟩ : BufTy).Contents (Elt F) → (⟨S128x2, .f32⟩ : BufTy).Contents (Elt F)),
    unary main_v56 main_indices ((fun x => (Host.topK S128x2 1 (FloatOps.cmpfTotal .gt) x sliceFits_S128x100000_S128x2).2) : (⟨S128x100000, .f32⟩ : BufTy).Contents (Elt F) → (⟨S128x2, .i32⟩ : BufTy).Contents (Elt F)),
    nullary main_v57 (iotaInDim S128 32 0),
    unary main_v57 main_v58 (broadcastInDim S128x1 ![0] bcast_S128_S128x1_0 : (⟨S128, .i32⟩ : BufTy).Contents (Elt F) → (⟨S128x1, .i32⟩ : BufTy).Contents (Elt F)),
    nullary main_cst_18 (constant S_ .f32 0x00000000#32),
    unary main_cst_18 main_v59 (broadcastInDim S128x100000 ![] bcast_S_S128x100000 : (⟨S_, .f32⟩ : BufTy).Contents (Elt F) → (⟨S128x100000, .f32⟩ : BufTy).Contents (Elt F)),
    nullary main_c_19 (constantI S_ 32 0#32),
    unary main_c_19 main_v60 (broadcastInDim S128x1 ![] bcast_S_S128x1 : (⟨S_, .i32⟩ : BufTy).Contents (Elt F) → (⟨S128x1, .i32⟩ : BufTy).Contents (Elt F)),
    binary main_v58 main_v60 main_v61 (cmpi .slt : (⟨S128x1, .i32⟩ : BufTy).Contents (Elt F) → (⟨S128x1, .i32⟩ : BufTy).Contents (Elt F) → (⟨S128x1, .i1⟩ : BufTy).Contents (Elt F)),
    nullary main_c_20 (constantI S_ 32 128#32),
    unary main_c_20 main_v62 (broadcastInDim S128x1 ![] bcast_S_S128x1 : (⟨S_, .i32⟩ : BufTy).Contents (Elt F) → (⟨S128x1, .i32⟩ : BufTy).Contents (Elt F)),
    binary main_v58 main_v62 main_v63 (addi : (⟨S128x1, .i32⟩ : BufTy).Contents (Elt F) → (⟨S128x1, .i32⟩ : BufTy).Contents (Elt F) → (⟨S128x1, .i32⟩ : BufTy).Contents (Elt F)),
    ternary main_v61 main_v63 main_v58 main_v64 (select : (⟨S128x1, .i1⟩ : BufTy).Contents (Elt F) → (⟨S128x1, .i32⟩ : BufTy).Contents (Elt F) → (⟨S128x1, .i32⟩ : BufTy).Contents (Elt F) → (⟨S128x1, .i32⟩ : BufTy).Contents (Elt F)),
    nullary main_c_21 (constantI S_ 32 0#32),
    unary main_c_21 main_v65 (broadcastInDim S128x2 ![] bcast_S_S128x2 : (⟨S_, .i32⟩ : BufTy).Contents (Elt F) → (⟨S128x2, .i32⟩ : BufTy).Contents (Elt F)),
    binary main_indices main_v65 main_v66 (cmpi .slt : (⟨S128x2, .i32⟩ : BufTy).Contents (Elt F) → (⟨S128x2, .i32⟩ : BufTy).Contents (Elt F) → (⟨S128x2, .i1⟩ : BufTy).Contents (Elt F)),
    nullary main_c_22 (constantI S_ 32 100000#32),
    unary main_c_22 main_v67 (broadcastInDim S128x2 ![] bcast_S_S128x2 : (⟨S_, .i32⟩ : BufTy).Contents (Elt F) → (⟨S128x2, .i32⟩ : BufTy).Contents (Elt F)),
    binary main_indices main_v67 main_v68 (addi : (⟨S128x2, .i32⟩ : BufTy).Contents (Elt F) → (⟨S128x2, .i32⟩ : BufTy).Contents (Elt F) → (⟨S128x2, .i32⟩ : BufTy).Contents (Elt F)),
    ternary main_v66 main_v68 main_indices main_v69 (select : (⟨S128x2, .i1⟩ : BufTy).Contents (Elt F) → (⟨S128x2, .i32⟩ : BufTy).Contents (Elt F) → (⟨S128x2, .i32⟩ : BufTy).Contents (Elt F) → (⟨S128x2, .i32⟩ : BufTy).Contents (Elt F)),
    unary main_v64 main_v70 (broadcastInDim S128x2 ![0, 1] bcast_S128x1_S128x2_0_1 : (⟨S128x1, .i32⟩ : BufTy).Contents (Elt F) → (⟨S128x2, .i32⟩ : BufTy).Contents (Elt F)),
    unary main_v70 main_v71 (broadcastInDim S128x2x1 ![0, 1] bcast_S128x2_S128x2x1_0_1 : (⟨S128x2, .i32⟩ : BufTy).Contents (Elt F) → (⟨S128x2x1, .i32⟩ : BufTy).Contents (Elt F)),
    unary main_v69 main_v72 (broadcastInDim S128x2x1 ![0, 1] bcast_S128x2_S128x2x1_0_1 : (⟨S128x2, .i32⟩ : BufTy).Contents (Elt F) → (⟨S128x2x1, .i32⟩ : BufTy).Contents (Elt F)),
    binary main_v71 main_v72 main_v73 (fn_main_v73 (F := F)),
    nullary main_cst_23 (constant S_ .f32 0x3F800000#32),
    unary main_cst_23 main_v74 (broadcastInDim S128x2 ![] bcast_S_S128x2 : (⟨S_, .f32⟩ : BufTy).Contents (Elt F) → (⟨S128x2, .f32⟩ : BufTy).Contents (Elt F)),
    ternary main_v59 main_v73 main_v74 main_v75 ((fun x i u => Host.scatter scatter_S128x100000_S128x2x2_S128x2_n_01_01_2 (fun _ b => b) x i u) : (⟨S128x100000, .f32⟩ : BufTy).Contents (Elt F) → (⟨S128x2x2, .i32⟩ : BufTy).Contents (Elt F) → (⟨S128x2, .f32⟩ : BufTy).Contents (Elt F) → (⟨S128x100000, .f32⟩ : BufTy).Contents (Elt F)),
    binary main_v75 main_v56 main_v76 (subf : (⟨S128x100000, .f32⟩ : BufTy).Contents (Elt F) → (⟨S128x100000, .f32⟩ : BufTy).Contents (Elt F) → (⟨S128x100000, .f32⟩ : BufTy).Contents (Elt F)),
    binary main_v76 main_v56 main_v77 (addf : (⟨S128x100000, .f32⟩ : BufTy).Contents (Elt F) → (⟨S128x100000, .f32⟩ : BufTy).Contents (Elt F) → (⟨S128x100000, .f32⟩ : BufTy).Contents (Elt F)) ]

/-- @main's 367 operations, in order (a called function's operations stand in its call's place, spelt `TRef.…`). -/
abbrev ops : List (HloOp τ sig (Elt F)) :=
  ops_part0 ++ (ops_part1)

set_option maxRecDepth 8192 in
set_option maxHeartbeats 4000000 in
theorem main_part0_eq (c : Dev nD) : main_part0 (F := F) c = seq ops_part0 := rfl
set_option maxRecDepth 8192 in
theorem main_part1_eq (c : Dev nD) : main_part1 (F := F) c = seq ops_part1 := rfl
set_option maxRecDepth 8192 in
theorem main_eq (c : Dev nD) : main (F := F) c = seq ops := by
  simp only [ops, seq_append, ← main_part0_eq c, ← main_part1_eq c]
  rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_part0_0_sub : (ops_part0_0 : List (HloOp τ sig (Elt F))).Forall fun op => op.bufs ⊆ tcRefs τ sig :=
  ⟨nullary_bufs_sub .., nullary_bufs_sub .., binary_bufs_sub .., unary_bufs_sub .., unary_bufs_sub .., nullary_bufs_sub .., binary_bufs_sub .., unary_bufs_sub .., unary_bufs_sub .., binary_bufs_sub .., nullary_bufs_sub .., nullary_bufs_sub .., unary_bufs_sub .., unary_bufs_sub .., unary_bufs_sub .., unary_bufs_sub .., unary_bufs_sub .., reshape_bufs_sub .., unary_bufs_sub .., reshape_bufs_sub .., nullary_bufs_sub .., nullary_bufs_sub .., nullary_bufs_sub .., unary_bufs_sub .., binary_bufs_sub .., nullary_bufs_sub .., unary_bufs_sub .., binary_bufs_sub .., binary_bufs_sub .., nullary_bufs_sub ..⟩
set_option maxRecDepth 8192 in
theorem ops_part0_0_fresh : (ops_part0_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part0_1_sub : (ops_part0_1 : List (HloOp τ sig (Elt F))).Forall fun op => op.bufs ⊆ tcRefs τ sig :=
  ⟨unary_bufs_sub .., binary_bufs_sub .., unary_bufs_sub .., unary_bufs_sub .., binary_bufs_sub .., nullary_bufs_sub .., binary_bufs_sub .., unary_bufs_sub .., binary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub ..⟩
set_option maxRecDepth 8192 in
theorem ops_part0_1_fresh : (ops_part0_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part0_2_sub : (ops_part0_2 : List (HloOp τ sig (Elt F))).Forall fun op => op.bufs ⊆ tcRefs τ sig :=
  ⟨nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub ..⟩
set_option maxRecDepth 8192 in
theorem ops_part0_2_fresh : (ops_part0_2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part0_3_sub : (ops_part0_3 : List (HloOp τ sig (Elt F))).Forall fun op => op.bufs ⊆ tcRefs τ sig :=
  ⟨binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub ..⟩
set_option maxRecDepth 8192 in
theorem ops_part0_3_fresh : (ops_part0_3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part0_4_sub : (ops_part0_4 : List (HloOp τ sig (Elt F))).Forall fun op => op.bufs ⊆ tcRefs τ sig :=
  ⟨unary_bufs_sub .., binary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub ..⟩
set_option maxRecDepth 8192 in
theorem ops_part0_4_fresh : (ops_part0_4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part0_5_sub : (ops_part0_5 : List (HloOp τ sig (Elt F))).Forall fun op => op.bufs ⊆ tcRefs τ sig :=
  ⟨unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub ..⟩
set_option maxRecDepth 8192 in
theorem ops_part0_5_fresh : (ops_part0_5 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part0_6_sub : (ops_part0_6 : List (HloOp τ sig (Elt F))).Forall fun op => op.bufs ⊆ tcRefs τ sig :=
  ⟨nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., unary_bufs_sub .., binary_bufs_sub .., unary_bufs_sub .., binary_bufs_sub ..⟩
set_option maxRecDepth 8192 in
theorem ops_part0_6_fresh : (ops_part0_6 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part0_7_sub : (ops_part0_7 : List (HloOp τ sig (Elt F))).Forall fun op => op.bufs ⊆ tcRefs τ sig :=
  ⟨nullary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub ..⟩
set_option maxRecDepth 8192 in
theorem ops_part0_7_fresh : (ops_part0_7 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part0_8_sub : (ops_part0_8 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., binary_bufs_sub .., binary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., unary_bufs_sub .., nullary_bufs_sub .., unary_bufs_sub .., binary_bufs_sub .., binary_bufs_sub .., unary_bufs_sub .., binary_bufs_sub ..⟩
set_option maxRecDepth 8192 in
theorem ops_part0_8_fresh : (ops_part0_8 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part0_9_sub : (ops_part0_9 : List (HloOp τ sig (Elt F))).Forall fun op => op.bufs ⊆ tcRefs τ sig :=
  ⟨unary_bufs_sub .., binary_bufs_sub .., unary_bufs_sub .., binary_bufs_sub .., nullary_bufs_sub .., unary_bufs_sub .., binary_bufs_sub .., unary_bufs_sub .., unary_bufs_sub .., unary_bufs_sub .., unary_bufs_sub .., binary_bufs_sub .., nullary_bufs_sub .., unary_bufs_sub .., nullary_bufs_sub .., unary_bufs_sub .., nullary_bufs_sub .., unary_bufs_sub .., binary_bufs_sub .., nullary_bufs_sub .., unary_bufs_sub .., binary_bufs_sub .., unary_bufs_sub .., binary_bufs_sub .., nullary_bufs_sub .., unary_bufs_sub .., binary_bufs_sub .., nullary_bufs_sub .., binary_bufs_sub .., nullary_bufs_sub ..⟩
set_option maxRecDepth 8192 in
theorem ops_part0_9_fresh : (ops_part0_9 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part0_10_sub : (ops_part0_10 : List (HloOp τ sig (Elt F))).Forall fun op => op.bufs ⊆ tcRefs τ sig :=
  ⟨unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., nullary_bufs_sub .., unary_bufs_sub .., binary_bufs_sub .., nullary_bufs_sub .., unary_bufs_sub .., binary_bufs_sub .., unary_bufs_sub .., binary_bufs_sub .., nullary_bufs_sub ..⟩
set_option maxRecDepth 8192 in
theorem ops_part0_10_fresh : (ops_part0_10 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl⟩
set_option maxRecDepth 8192 in
theorem ops_part1_sub : (ops_part1 : List (HloOp τ sig (Elt F))).Forall fun op => op.bufs ⊆ tcRefs τ sig :=
  ⟨unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., unary_bufs_sub .., unary_bufs_sub .., nullary_bufs_sub .., unary_bufs_sub .., nullary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., binary_bufs_sub .., nullary_bufs_sub .., unary_bufs_sub .., ternary_bufs_sub .., binary_bufs_sub .., binary_bufs_sub ..⟩
set_option maxRecDepth 8192 in
theorem ops_part1_fresh : (ops_part1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem ops_sub : (ops : List (HloOp τ sig (Elt F))).Forall fun op => op.bufs ⊆ tcRefs τ sig :=
  List.forall_iff_forall_mem.mpr fun op h => by
    simp only [ops, ops_part0, List.mem_append, or_assoc] at h
    rcases h with h | h | h | h | h | h | h | h | h | h | h | h
    exacts [List.forall_iff_forall_mem.mp ops_part0_0_sub op h, List.forall_iff_forall_mem.mp ops_part0_1_sub op h, List.forall_iff_forall_mem.mp ops_part0_2_sub op h, List.forall_iff_forall_mem.mp ops_part0_3_sub op h, List.forall_iff_forall_mem.mp ops_part0_4_sub op h, List.forall_iff_forall_mem.mp ops_part0_5_sub op h, List.forall_iff_forall_mem.mp ops_part0_6_sub op h, List.forall_iff_forall_mem.mp ops_part0_7_sub op h, List.forall_iff_forall_mem.mp ops_part0_8_sub op h, List.forall_iff_forall_mem.mp ops_part0_9_sub op h, List.forall_iff_forall_mem.mp ops_part0_10_sub op h, List.forall_iff_forall_mem.mp ops_part1_sub op h]
theorem ops_fresh : ∀ op ∈ (ops : List (HloOp τ sig (Elt F))), op.fresh = ∅ := fun op h => by
    simp only [ops, ops_part0, List.mem_append, or_assoc] at h
    rcases h with h | h | h | h | h | h | h | h | h | h | h | h
    exacts [List.forall_iff_forall_mem.mp ops_part0_0_fresh op h, List.forall_iff_forall_mem.mp ops_part0_1_fresh op h, List.forall_iff_forall_mem.mp ops_part0_2_fresh op h, List.forall_iff_forall_mem.mp ops_part0_3_fresh op h, List.forall_iff_forall_mem.mp ops_part0_4_fresh op h, List.forall_iff_forall_mem.mp ops_part0_5_fresh op h, List.forall_iff_forall_mem.mp ops_part0_6_fresh op h, List.forall_iff_forall_mem.mp ops_part0_7_fresh op h, List.forall_iff_forall_mem.mp ops_part0_8_fresh op h, List.forall_iff_forall_mem.mp ops_part0_9_fresh op h, List.forall_iff_forall_mem.mp ops_part0_10_fresh op h, List.forall_iff_forall_mem.mp ops_part1_fresh op h]

end Cert.ReferenceIdeal.RefRun

end
-- ==== Proof.RefRes.lean ====
/- The contents the reference's buffers take, named after the buffers. -/
module

public import proofs.«01_k».proof.Proof.RefOps

@[expose] public section

set_option Elab.async false

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
/-- `main_c`'s composed term of the arguments (named: it is used 2 times). -/
def res_main_c (V0 : Valuation τ sig (Elt F)) : (Proc.devRef .tc main_c : DevRef τ sig).ty.Contents (Elt F) :=
  constantI S_ 32 42#32

set_option maxRecDepth 8192 in
/-- `main_v6`'s composed term of the arguments (named: it is used 2 times). -/
def res_main_v6 (V0 : Valuation τ sig (Elt F)) : (Proc.devRef .tc main_v6 : DevRef τ sig).ty.Contents (Elt F) :=
  concatenate S2 0 [⟨S1, (broadcastInDim S1 ![] bcast_S_S1 (id (Host.shrui (res_main_c V0) (constantI S_ 32 32#32))))⟩, ⟨S1, (broadcastInDim S1 ![] bcast_S_S1 (id (andi (res_main_c V0) (constantI S_ 32 4294967295#32))))⟩] concatenates_S1_S1_S2_d0

set_option maxRecDepth 8192 in
/-- `main_call0_v2`'s composed term of the arguments (named: it is used 3 times). -/
def res_main_call0_v2 (V0 : Valuation τ sig (Elt F)) : (Proc.devRef .tc main_call0_v2 : DevRef τ sig).ty.Contents (Elt F) :=
  broadcastInDim S1x1 ![] bcast_S_S1x1 (id (constant S_ .f32 0x00000000#32))

set_option maxRecDepth 8192 in
/-- `main_call0_v5`'s composed term of the arguments (named: it is used 5 times). -/
def res_main_call0_v5 (V0 : Valuation τ sig (Elt F)) : (Proc.devRef .tc main_call0_v5 : DevRef τ sig).ty.Contents (Elt F) :=
  shapeCast _ (extractStridedSlice S1 ![0] (res_main_v6 V0) slices_S2_S1_0) shapeCasts_S1_S_

set_option maxRecDepth 8192 in
/-- `main_call0_v7`'s composed term of the arguments (named: it is used 5 times). -/
def res_main_call0_v7 (V0 : Valuation τ sig (Elt F)) : (Proc.devRef .tc main_call0_v7 : DevRef τ sig).ty.Contents (Elt F) :=
  shapeCast _ (extractStridedSlice S1 ![1] (res_main_v6 V0) slices_S2_S1_1) shapeCasts_S1_S_

set_option maxRecDepth 8192 in
/-- `main_call0_v14`'s composed term of the arguments (named: it is used 2 times). -/
def res_main_call0_v14 (V0 : Valuation τ sig (Elt F)) : (Proc.devRef .tc main_call0_v14 : DevRef τ sig).ty.Contents (Elt F) :=
  addi (muli (broadcastInDim S128x100000 ![] bcast_S_S128x100000 (constantI S_ 64 100000#64)) (iotaInDim S128x100000 64 0)) (muli (broadcastInDim S128x100000 ![] bcast_S_S128x100000 (constantI S_ 64 1#64)) (iotaInDim S128x100000 64 1))

set_option maxRecDepth 8192 in
/-- `main_call0_call0_v1`'s composed term of the arguments (named: it is used 4 times). -/
def res_main_call0_call0_v1 (V0 : Valuation τ sig (Elt F)) : (Proc.devRef .tc main_call0_call0_v1 : DevRef τ sig).ty.Contents (Elt F) :=
  xori (xori (res_main_call0_v5 V0) (res_main_call0_v7 V0)) (constantI S_ 32 466688986#32)

set_option maxRecDepth 8192 in
/-- `main_call0_call0_v5`'s composed term of the arguments (named: it is used 3 times). -/
def res_main_call0_call0_v5 (V0 : Valuation τ sig (Elt F)) : (Proc.devRef .tc main_call0_call0_v5 : DevRef τ sig).ty.Contents (Elt F) :=
  addi (trunci 32 (res_main_call0_v14 V0) natLt_32_64) (broadcastInDim S128x100000 ![] bcast_S_S128x100000 (res_main_call0_v7 V0))

set_option maxRecDepth 8192 in
/-- `main_call0_call0_v6`'s composed term of the arguments (named: it is used 2 times). -/
def res_main_call0_call0_v6 (V0 : Valuation τ sig (Elt F)) : (Proc.devRef .tc main_call0_call0_v6 : DevRef τ sig).ty.Contents (Elt F) :=
  addi (addi (trunci 32 (Host.shrui (res_main_call0_v14 V0) (broadcastInDim S128x100000 ![] bcast_S_S128x100000 (constantI S_ 64 32#64))) natLt_32_64) (broadcastInDim S128x100000 ![] bcast_S_S128x100000 (res_main_call0_v5 V0))) (res_main_call0_call0_v5 V0)

set_option maxRecDepth 8192 in
/-- `main_call0_call0_v12`'s composed term of the arguments (named: it is used 3 times). -/
def res_main_call0_call0_v12 (V0 : Valuation τ sig (Elt F)) : (Proc.devRef .tc main_call0_call0_v12 : DevRef τ sig).ty.Contents (Elt F) :=
  xori (res_main_call0_call0_v6 V0) (ori (Host.shli (res_main_call0_call0_v5 V0) (broadcastInDim S128x100000 ![] bcast_S_S128x100000 (constantI S_ 32 13#32))) (Host.shrui (res_main_call0_call0_v5 V0) (broadcastInDim S128x100000 ![] bcast_S_S128x100000 (constantI S_ 32 19#32))))

set_option maxRecDepth 8192 in
/-- `main_call0_call0_v13`'s composed term of the arguments (named: it is used 2 times). -/
def res_main_call0_call0_v13 (V0 : Valuation τ sig (Elt F)) : (Proc.devRef .tc main_call0_call0_v13 : DevRef τ sig).ty.Contents (Elt F) :=
  addi (res_main_call0_call0_v6 V0) (res_main_call0_call0_v12 V0)

set_option maxRecDepth 8192 in
/-- `main_call0_call0_v19`'s composed term of the arguments (named: it is used 3 times). -/
def res_main_call0_call0_v19 (V0 : Valuation τ sig (Elt F)) : (Proc.devRef .tc main_call0_call0_v19 : DevRef τ sig).ty.Contents (Elt F) :=
  xori (res_main_call0_call0_v13 V0) (ori (Host.shli (res_main_call0_call0_v12 V0) (broadcastInDim S128x100000 ![] bcast_S_S128x100000 (constantI S_ 32 15#32))) (Host.shrui (res_main_call0_call0_v12 V0) (broadcastInDim S128x100000 ![] bcast_S_S128x100000 (constantI S_ 32 17#32))))

set_option maxRecDepth 8192 in
/-- `main_call0_call0_v20`'s composed term of the arguments (named: it is used 2 times). -/
def res_main_call0_call0_v20 (V0 : Valuation τ sig (Elt F)) : (Proc.devRef .tc main_call0_call0_v20 : DevRef τ sig).ty.Contents (Elt F) :=
  addi (res_main_call0_call0_v13 V0) (res_main_call0_call0_v19 V0)

set_option maxRecDepth 8192 in
/-- `main_call0_call0_v26`'s composed term of the arguments (named: it is used 3 times). -/
def res_main_call0_call0_v26 (V0 : Valuation τ sig (Elt F)) : (Proc.devRef .tc main_call0_call0_v26 : DevRef τ sig).ty.Contents (Elt F) :=
  xori (res_main_call0_call0_v20 V0) (ori (Host.shli (res_main_call0_call0_v19 V0) (broadcastInDim S128x100000 ![] bcast_S_S128x100000 (constantI S_ 32 26#32))) (Host.shrui (res_main_call0_call0_v19 V0) (broadcastInDim S128x100000 ![] bcast_S_S128x100000 (constantI S_ 32 6#32))))

set_option maxRecDepth 8192 in
/-- `main_call0_call0_v27`'s composed term of the arguments (named: it is used 2 times). -/
def res_main_call0_call0_v27 (V0 : Valuation τ sig (Elt F)) : (Proc.devRef .tc main_call0_call0_v27 : DevRef τ sig).ty.Contents (Elt F) :=
  addi (res_main_call0_call0_v20 V0) (res_main_call0_call0_v26 V0)

set_option maxRecDepth 8192 in
/-- `main_call0_call0_v39`'s composed term of the arguments (named: it is used 3 times). -/
def res_main_call0_call0_v39 (V0 : Valuation τ sig (Elt F)) : (Proc.devRef .tc main_call0_call0_v39 : DevRef τ sig).ty.Contents (Elt F) :=
  addi (addi (xori (res_main_call0_call0_v27 V0) (ori (Host.shli (res_main_call0_call0_v26 V0) (broadcastInDim S128x100000 ![] bcast_S_S128x100000 (constantI S_ 32 6#32))) (Host.shrui (res_main_call0_call0_v26 V0) (broadcastInDim S128x100000 ![] bcast_S_S128x100000 (constantI S_ 32 26#32))))) (broadcastInDim S128x100000 ![] bcast_S_S128x100000 (res_main_call0_call0_v1 V0))) (broadcastInDim S128x100000 ![] bcast_S_S128x100000 (constantI S_ 32 1#32))

set_option maxRecDepth 8192 in
/-- `main_call0_call0_v40`'s composed term of the arguments (named: it is used 2 times). -/
def res_main_call0_call0_v40 (V0 : Valuation τ sig (Elt F)) : (Proc.devRef .tc main_call0_call0_v40 : DevRef τ sig).ty.Contents (Elt F) :=
  addi (addi (res_main_call0_call0_v27 V0) (broadcastInDim S128x100000 ![] bcast_S_S128x100000 (res_main_call0_v7 V0))) (res_main_call0_call0_v39 V0)

set_option maxRecDepth 8192 in
/-- `main_call0_call0_v46`'s composed term of the arguments (named: it is used 3 times). -/
def res_main_call0_call0_v46 (V0 : Valuation τ sig (Elt F)) : (Proc.devRef .tc main_call0_call0_v46 : DevRef τ sig).ty.Contents (Elt F) :=
  xori (res_main_call0_call0_v40 V0) (ori (Host.shli (res_main_call0_call0_v39 V0) (broadcastInDim S128x100000 ![] bcast_S_S128x100000 (constantI S_ 32 17#32))) (Host.shrui (res_main_call0_call0_v39 V0) (broadcastInDim S128x100000 ![] bcast_S_S128x100000 (constantI S_ 32 15#32))))

set_option maxRecDepth 8192 in
/-- `main_call0_call0_v47`'s composed term of the arguments (named: it is used 2 times). -/
def res_main_call0_call0_v47 (V0 : Valuation τ sig (Elt F)) : (Proc.devRef .tc main_call0_call0_v47 : DevRef τ sig).ty.Contents (Elt F) :=
  addi (res_main_call0_call0_v40 V0) (res_main_call0_call0_v46 V0)

set_option maxRecDepth 8192 in
/-- `main_call0_call0_v53`'s composed term of the arguments (named: it is used 3 times). -/
def res_main_call0_call0_v53 (V0 : Valuation τ sig (Elt F)) : (Proc.devRef .tc main_call0_call0_v53 : DevRef τ sig).ty.Contents (Elt F) :=
  xori (res_main_call0_call0_v47 V0) (ori (Host.shli (res_main_call0_call0_v46 V0) (broadcastInDim S128x100000 ![] bcast_S_S128x100000 (constantI S_ 32 29#32))) (Host.shrui (res_main_call0_call0_v46 V0) (broadcastInDim S128x100000 ![] bcast_S_S128x100000 (constantI S_ 32 3#32))))

set_option maxRecDepth 8192 in
/-- `main_call0_call0_v54`'s composed term of the arguments (named: it is used 2 times). -/
def res_main_call0_call0_v54 (V0 : Valuation τ sig (Elt F)) : (Proc.devRef .tc main_call0_call0_v54 : DevRef τ sig).ty.Contents (Elt F) :=
  addi (res_main_call0_call0_v47 V0) (res_main_call0_call0_v53 V0)

set_option maxRecDepth 8192 in
/-- `main_call0_call0_v60`'s composed term of the arguments (named: it is used 3 times). -/
def res_main_call0_call0_v60 (V0 : Valuation τ sig (Elt F)) : (Proc.devRef .tc main_call0_call0_v60 : DevRef τ sig).ty.Contents (Elt F) :=
  xori (res_main_call0_call0_v54 V0) (ori (Host.shli (res_main_call0_call0_v53 V0) (broadcastInDim S128x100000 ![] bcast_S_S128x100000 (constantI S_ 32 16#32))) (Host.shrui (res_main_call0_call0_v53 V0) (broadcastInDim S128x100000 ![] bcast_S_S128x100000 (constantI S_ 32 16#32))))

set_option maxRecDepth 8192 in
/-- `main_call0_call0_v61`'s composed term of the arguments (named: it is used 2 times). -/
def res_main_call0_call0_v61 (V0 : Valuation τ sig (Elt F)) : (Proc.devRef .tc main_call0_call0_v61 : DevRef τ sig).ty.Contents (Elt F) :=
  addi (res_main_call0_call0_v54 V0) (res_main_call0_call0_v60 V0)

set_option maxRecDepth 8192 in
/-- `main_call0_call0_v73`'s composed term of the arguments (named: it is used 3 times). -/
def res_main_call0_call0_v73 (V0 : Valuation τ sig (Elt F)) : (Proc.devRef .tc main_call0_call0_v73 : DevRef τ sig).ty.Contents (Elt F) :=
  addi (addi (xori (res_main_call0_call0_v61 V0) (ori (Host.shli (res_main_call0_call0_v60 V0) (broadcastInDim S128x100000 ![] bcast_S_S128x100000 (constantI S_ 32 24#32))) (Host.shrui (res_main_call0_call0_v60 V0) (broadcastInDim S128x100000 ![] bcast_S_S128x100000 (constantI S_ 32 8#32))))) (broadcastInDim S128x100000 ![] bcast_S_S128x100000 (res_main_call0_v5 V0))) (broadcastInDim S128x100000 ![] bcast_S_S128x100000 (constantI S_ 32 2#32))

set_option maxRecDepth 8192 in
/-- `main_call0_call0_v74`'s composed term of the arguments (named: it is used 2 times). -/
def res_main_call0_call0_v74 (V0 : Valuation τ sig (Elt F)) : (Proc.devRef .tc main_call0_call0_v74 : DevRef τ sig).ty.Contents (Elt F) :=
  addi (addi (res_main_call0_call0_v61 V0) (broadcastInDim S128x100000 ![] bcast_S_S128x100000 (res_main_call0_call0_v1 V0))) (res_main_call0_call0_v73 V0)

set_option maxRecDepth 8192 in
/-- `main_call0_call0_v80`'s composed term of the arguments (named: it is used 3 times). -/
def res_main_call0_call0_v80 (V0 : Valuation τ sig (Elt F)) : (Proc.devRef .tc main_call0_call0_v80 : DevRef τ sig).ty.Contents (Elt F) :=
  xori (res_main_call0_call0_v74 V0) (ori (Host.shli (res_main_call0_call0_v73 V0) (broadcastInDim S128x100000 ![] bcast_S_S128x100000 (constantI S_ 32 13#32))) (Host.shrui (res_main_call0_call0_v73 V0) (broadcastInDim S128x100000 ![] bcast_S_S128x100000 (constantI S_ 32 19#32))))

set_option maxRecDepth 8192 in
/-- `main_call0_call0_v81`'s composed term of the arguments (named: it is used 2 times). -/
def res_main_call0_call0_v81 (V0 : Valuation τ sig (Elt F)) : (Proc.devRef .tc main_call0_call0_v81 : DevRef τ sig).ty.Contents (Elt F) :=
  addi (res_main_call0_call0_v74 V0) (res_main_call0_call0_v80 V0)

set_option maxRecDepth 8192 in
/-- `main_call0_call0_v87`'s composed term of the arguments (named: it is used 3 times). -/
def res_main_call0_call0_v87 (V0 : Valuation τ sig (Elt F)) : (Proc.devRef .tc main_call0_call0_v87 : DevRef τ sig).ty.Contents (Elt F) :=
  xori (res_main_call0_call0_v81 V0) (ori (Host.shli (res_main_call0_call0_v80 V0) (broadcastInDim S128x100000 ![] bcast_S_S128x100000 (constantI S_ 32 15#32))) (Host.shrui (res_main_call0_call0_v80 V0) (broadcastInDim S128x100000 ![] bcast_S_S128x100000 (constantI S_ 32 17#32))))

set_option maxRecDepth 8192 in
/-- `main_call0_call0_v88`'s composed term of the arguments (named: it is used 2 times). -/
def res_main_call0_call0_v88 (V0 : Valuation τ sig (Elt F)) : (Proc.devRef .tc main_call0_call0_v88 : DevRef τ sig).ty.Contents (Elt F) :=
  addi (res_main_call0_call0_v81 V0) (res_main_call0_call0_v87 V0)

set_option maxRecDepth 8192 in
/-- `main_call0_call0_v94`'s composed term of the arguments (named: it is used 3 times). -/
def res_main_call0_call0_v94 (V0 : Valuation τ sig (Elt F)) : (Proc.devRef .tc main_call0_call0_v94 : DevRef τ sig).ty.Contents (Elt F) :=
  xori (res_main_call0_call0_v88 V0) (ori (Host.shli (res_main_call0_call0_v87 V0) (broadcastInDim S128x100000 ![] bcast_S_S128x100000 (constantI S_ 32 26#32))) (Host.shrui (res_main_call0_call0_v87 V0) (broadcastInDim S128x100000 ![] bcast_S_S128x100000 (constantI S_ 32 6#32))))

set_option maxRecDepth 8192 in
/-- `main_call0_call0_v95`'s composed term of the arguments (named: it is used 2 times). -/
def res_main_call0_call0_v95 (V0 : Valuation τ sig (Elt F)) : (Proc.devRef .tc main_call0_call0_v95 : DevRef τ sig).ty.Contents (Elt F) :=
  addi (res_main_call0_call0_v88 V0) (res_main_call0_call0_v94 V0)

set_option maxRecDepth 8192 in
/-- `main_call0_call0_v107`'s composed term of the arguments (named: it is used 3 times). -/
def res_main_call0_call0_v107 (V0 : Valuation τ sig (Elt F)) : (Proc.devRef .tc main_call0_call0_v107 : DevRef τ sig).ty.Contents (Elt F) :=
  addi (addi (xori (res_main_call0_call0_v95 V0) (ori (Host.shli (res_main_call0_call0_v94 V0) (broadcastInDim S128x100000 ![] bcast_S_S128x100000 (constantI S_ 32 6#32))) (Host.shrui (res_main_call0_call0_v94 V0) (broadcastInDim S128x100000 ![] bcast_S_S128x100000 (constantI S_ 32 26#32))))) (broadcastInDim S128x100000 ![] bcast_S_S128x100000 (res_main_call0_v7 V0))) (broadcastInDim S128x100000 ![] bcast_S_S128x100000 (constantI S_ 32 3#32))

set_option maxRecDepth 8192 in
/-- `main_call0_call0_v108`'s composed term of the arguments (named: it is used 2 times). -/
def res_main_call0_call0_v108 (V0 : Valuation τ sig (Elt F)) : (Proc.devRef .tc main_call0_call0_v108 : DevRef τ sig).ty.Contents (Elt F) :=
  addi (addi (res_main_call0_call0_v95 V0) (broadcastInDim S128x100000 ![] bcast_S_S128x100000 (res_main_call0_v5 V0))) (res_main_call0_call0_v107 V0)

set_option maxRecDepth 8192 in
/-- `main_call0_call0_v114`'s composed term of the arguments (named: it is used 3 times). -/
def res_main_call0_call0_v114 (V0 : Valuation τ sig (Elt F)) : (Proc.devRef .tc main_call0_call0_v114 : DevRef τ sig).ty.Contents (Elt F) :=
  xori (res_main_call0_call0_v108 V0) (ori (Host.shli (res_main_call0_call0_v107 V0) (broadcastInDim S128x100000 ![] bcast_S_S128x100000 (constantI S_ 32 17#32))) (Host.shrui (res_main_call0_call0_v107 V0) (broadcastInDim S128x100000 ![] bcast_S_S128x100000 (constantI S_ 32 15#32))))

set_option maxRecDepth 8192 in
/-- `main_call0_call0_v115`'s composed term of the arguments (named: it is used 2 times). -/
def res_main_call0_call0_v115 (V0 : Valuation τ sig (Elt F)) : (Proc.devRef .tc main_call0_call0_v115 : DevRef τ sig).ty.Contents (Elt F) :=
  addi (res_main_call0_call0_v108 V0) (res_main_call0_call0_v114 V0)

set_option maxRecDepth 8192 in
/-- `main_call0_call0_v121`'s composed term of the arguments (named: it is used 3 times). -/
def res_main_call0_call0_v121 (V0 : Valuation τ sig (Elt F)) : (Proc.devRef .tc main_call0_call0_v121 : DevRef τ sig).ty.Contents (Elt F) :=
  xori (res_main_call0_call0_v115 V0) (ori (Host.shli (res_main_call0_call0_v114 V0) (broadcastInDim S128x100000 ![] bcast_S_S128x100000 (constantI S_ 32 29#32))) (Host.shrui (res_main_call0_call0_v114 V0) (broadcastInDim S128x100000 ![] bcast_S_S128x100000 (constantI S_ 32 3#32))))

set_option maxRecDepth 8192 in
/-- `main_call0_call0_v122`'s composed term of the arguments (named: it is used 2 times). -/
def res_main_call0_call0_v122 (V0 : Valuation τ sig (Elt F)) : (Proc.devRef .tc main_call0_call0_v122 : DevRef τ sig).ty.Contents (Elt F) :=
  addi (res_main_call0_call0_v115 V0) (res_main_call0_call0_v121 V0)

set_option maxRecDepth 8192 in
/-- `main_call0_call0_v128`'s composed term of the arguments (named: it is used 3 times). -/
def res_main_call0_call0_v128 (V0 : Valuation τ sig (Elt F)) : (Proc.devRef .tc main_call0_call0_v128 : DevRef τ sig).ty.Contents (Elt F) :=
  xori (res_main_call0_call0_v122 V0) (ori (Host.shli (res_main_call0_call0_v121 V0) (broadcastInDim S128x100000 ![] bcast_S_S128x100000 (constantI S_ 32 16#32))) (Host.shrui (res_main_call0_call0_v121 V0) (broadcastInDim S128x100000 ![] bcast_S_S128x100000 (constantI S_ 32 16#32))))

set_option maxRecDepth 8192 in
/-- `main_call0_call0_v129`'s composed term of the arguments (named: it is used 2 times). -/
def res_main_call0_call0_v129 (V0 : Valuation τ sig (Elt F)) : (Proc.devRef .tc main_call0_call0_v129 : DevRef τ sig).ty.Contents (Elt F) :=
  addi (res_main_call0_call0_v122 V0) (res_main_call0_call0_v128 V0)

set_option maxRecDepth 8192 in
/-- `main_call0_call0_v141`'s composed term of the arguments (named: it is used 3 times). -/
def res_main_call0_call0_v141 (V0 : Valuation τ sig (Elt F)) : (Proc.devRef .tc main_call0_call0_v141 : DevRef τ sig).ty.Contents (Elt F) :=
  addi (addi (xori (res_main_call0_call0_v129 V0) (ori (Host.shli (res_main_call0_call0_v128 V0) (broadcastInDim S128x100000 ![] bcast_S_S128x100000 (constantI S_ 32 24#32))) (Host.shrui (res_main_call0_call0_v128 V0) (broadcastInDim S128x100000 ![] bcast_S_S128x100000 (constantI S_ 32 8#32))))) (broadcastInDim S128x100000 ![] bcast_S_S128x100000 (res_main_call0_call0_v1 V0))) (broadcastInDim S128x100000 ![] bcast_S_S128x100000 (constantI S_ 32 4#32))

set_option maxRecDepth 8192 in
/-- `main_call0_call0_v142`'s composed term of the arguments (named: it is used 2 times). -/
def res_main_call0_call0_v142 (V0 : Valuation τ sig (Elt F)) : (Proc.devRef .tc main_call0_call0_v142 : DevRef τ sig).ty.Contents (Elt F) :=
  addi (addi (res_main_call0_call0_v129 V0) (broadcastInDim S128x100000 ![] bcast_S_S128x100000 (res_main_call0_v7 V0))) (res_main_call0_call0_v141 V0)

set_option maxRecDepth 8192 in
/-- `main_call0_call0_v148`'s composed term of the arguments (named: it is used 3 times). -/
def res_main_call0_call0_v148 (V0 : Valuation τ sig (Elt F)) : (Proc.devRef .tc main_call0_call0_v148 : DevRef τ sig).ty.Contents (Elt F) :=
  xori (res_main_call0_call0_v142 V0) (ori (Host.shli (res_main_call0_call0_v141 V0) (broadcastInDim S128x100000 ![] bcast_S_S128x100000 (constantI S_ 32 13#32))) (Host.shrui (res_main_call0_call0_v141 V0) (broadcastInDim S128x100000 ![] bcast_S_S128x100000 (constantI S_ 32 19#32))))

set_option maxRecDepth 8192 in
/-- `main_call0_call0_v149`'s composed term of the arguments (named: it is used 2 times). -/
def res_main_call0_call0_v149 (V0 : Valuation τ sig (Elt F)) : (Proc.devRef .tc main_call0_call0_v149 : DevRef τ sig).ty.Contents (Elt F) :=
  addi (res_main_call0_call0_v142 V0) (res_main_call0_call0_v148 V0)

set_option maxRecDepth 8192 in
/-- `main_call0_call0_v155`'s composed term of the arguments (named: it is used 3 times). -/
def res_main_call0_call0_v155 (V0 : Valuation τ sig (Elt F)) : (Proc.devRef .tc main_call0_call0_v155 : DevRef τ sig).ty.Contents (Elt F) :=
  xori (res_main_call0_call0_v149 V0) (ori (Host.shli (res_main_call0_call0_v148 V0) (broadcastInDim S128x100000 ![] bcast_S_S128x100000 (constantI S_ 32 15#32))) (Host.shrui (res_main_call0_call0_v148 V0) (broadcastInDim S128x100000 ![] bcast_S_S128x100000 (constantI S_ 32 17#32))))

set_option maxRecDepth 8192 in
/-- `main_call0_call0_v156`'s composed term of the arguments (named: it is used 2 times). -/
def res_main_call0_call0_v156 (V0 : Valuation τ sig (Elt F)) : (Proc.devRef .tc main_call0_call0_v156 : DevRef τ sig).ty.Contents (Elt F) :=
  addi (res_main_call0_call0_v149 V0) (res_main_call0_call0_v155 V0)

set_option maxRecDepth 8192 in
/-- `main_call0_call0_v162`'s composed term of the arguments (named: it is used 3 times). -/
def res_main_call0_call0_v162 (V0 : Valuation τ sig (Elt F)) : (Proc.devRef .tc main_call0_call0_v162 : DevRef τ sig).ty.Contents (Elt F) :=
  xori (res_main_call0_call0_v156 V0) (ori (Host.shli (res_main_call0_call0_v155 V0) (broadcastInDim S128x100000 ![] bcast_S_S128x100000 (constantI S_ 32 26#32))) (Host.shrui (res_main_call0_call0_v155 V0) (broadcastInDim S128x100000 ![] bcast_S_S128x100000 (constantI S_ 32 6#32))))

set_option maxRecDepth 8192 in
/-- `main_call0_call0_v163`'s composed term of the arguments (named: it is used 2 times). -/
def res_main_call0_call0_v163 (V0 : Valuation τ sig (Elt F)) : (Proc.devRef .tc main_call0_call0_v163 : DevRef τ sig).ty.Contents (Elt F) :=
  addi (res_main_call0_call0_v156 V0) (res_main_call0_call0_v162 V0)

set_option maxRecDepth 8192 in
/-- `main_v22`'s composed term of the arguments (named: it is used 2 times). -/
def res_main_v22 (V0 : Valuation τ sig (Elt F)) : (Proc.devRef .tc main_v22 : DevRef τ sig).ty.Contents (Elt F) :=
  addf (addf (V0 (Proc.devRef .tc main_arg0)) (Host.negf (Host.log (Host.negf (Host.log (maximumf (maximumf (broadcastInDim S128x100000 ![0, 1] bcast_S1x1_S128x100000_0_1 (res_main_call0_v2 V0)) (addf (mulf (subf (bitcastToFloat (F := F) .f32 (ori (Host.shrui (xori (addi (res_main_call0_call0_v163 V0) (broadcastInDim S128x100000 ![] bcast_S_S128x100000 (res_main_call0_call0_v1 V0))) (addi (addi (xori (res_main_call0_call0_v163 V0) (ori (Host.shli (res_main_call0_call0_v162 V0) (broadcastInDim S128x100000 ![] bcast_S_S128x100000 (constantI S_ 32 6#32))) (Host.shrui (res_main_call0_call0_v162 V0) (broadcastInDim S128x100000 ![] bcast_S_S128x100000 (constantI S_ 32 26#32))))) (broadcastInDim S128x100000 ![] bcast_S_S128x100000 (res_main_call0_v5 V0))) (broadcastInDim S128x100000 ![] bcast_S_S128x100000 (constantI S_ 32 5#32)))) (broadcastInDim S128x100000 ![] bcast_S_S128x100000 (constantI S_ 32 9#32))) (broadcastInDim S128x100000 ![] bcast_S_S128x100000 (constantI S_ 32 1065353216#32)))) (broadcastInDim S128x100000 ![] bcast_S_S128x100000 (constant S_ .f32 0x3F800000#32))) (broadcastInDim S128x100000 ![0, 1] bcast_S1x1_S128x100000_0_1 (subf (broadcastInDim S1x1 ![] bcast_S_S1x1 (id (constant S_ .f32 0x3F800000#32))) (res_main_call0_v2 V0)))) (broadcastInDim S128x100000 ![0, 1] bcast_S1x1_S128x100000_0_1 (res_main_call0_v2 V0)))) (broadcastInDim S128x100000 ![] bcast_S_S128x100000 (constant S_ .f32 0x00800000#32)))))))) (Host.log (maximumf (subf (broadcastInDim S128x100000 ![] bcast_S_S128x100000 (constant S_ .f32 0x3F800000#32)) (broadcastInDim S128x100000 ![] bcast_S_S128x100000 (constant S_ .f32 0x00000000#32))) (broadcastInDim S128x100000 ![] bcast_S_S128x100000 (constant S_ .f32 0x00800000#32))))

set_option maxRecDepth 8192 in
/-- `main_v24`'s composed term of the arguments (named: it is used 2 times). -/
def res_main_v24 (V0 : Valuation τ sig (Elt F)) : (Proc.devRef .tc main_v24 : DevRef τ sig).ty.Contents (Elt F) :=
  Host.divf (res_main_v22 V0) (broadcastInDim S128x100000 ![] bcast_S_S128x100000 (constant S_ .f32 0x3F800000#32))

set_option maxRecDepth 8192 in
/-- `main_v31`'s composed term of the arguments (named: it is used 2 times). -/
def res_main_v31 (V0 : Valuation τ sig (Elt F)) : (Proc.devRef .tc main_v31 : DevRef τ sig).ty.Contents (Elt F) :=
  Host.exp (subf (res_main_v24 V0) (broadcastInDim S128x100000 ![0, 1] bcast_S128x1_S128x100000_0_1 (broadcastInDim S128x1 ![0] bcast_S128_S128x1_0 (maximumf (broadcastInDim S128 ![] bcast_S_S128 (constant S_ .f32 0xFF800000#32)) (Host.reduce FloatOps.maximumf (res_main_v24 V0) (constant S_ .f32 0xFF800000#32) reducesTo_S128x100000_S128_d1 h_S_)))))

set_option maxRecDepth 8192 in
/-- `main_v35`'s composed term of the arguments (named: it is used 2 times). -/
def res_main_v35 (V0 : Valuation τ sig (Elt F)) : (Proc.devRef .tc main_v35 : DevRef τ sig).ty.Contents (Elt F) :=
  Host.divf (res_main_v31 V0) (broadcastInDim S128x100000 ![0, 1] bcast_S128x1_S128x100000_0_1 (broadcastInDim S128x1 ![0] bcast_S128_S128x1_0 (Host.reduceAdd (res_main_v31 V0) (constant S_ .f32 0x00000000#32) reducesTo_S128x100000_S128_d1 h_S_)))

set_option maxRecDepth 8192 in
/-- `main_v44`'s composed term of the arguments (named: it is used 2 times). -/
def res_main_v44 (V0 : Valuation τ sig (Elt F)) : (Proc.devRef .tc main_v44 : DevRef τ sig).ty.Contents (Elt F) :=
  Host.divf (addf (res_main_v22 V0) (Host.log (maximumf (subf (broadcastInDim S128x100000 ![] bcast_S_S128x100000 (constant S_ .f32 0x3F800000#32)) (res_main_v35 V0)) (broadcastInDim S128x100000 ![] bcast_S_S128x100000 (constant S_ .f32 0x00800000#32))))) (broadcastInDim S128x100000 ![] bcast_S_S128x100000 (constant S_ .f32 0x3F800000#32))

set_option maxRecDepth 8192 in
/-- `main_v51`'s composed term of the arguments (named: it is used 2 times). -/
def res_main_v51 (V0 : Valuation τ sig (Elt F)) : (Proc.devRef .tc main_v51 : DevRef τ sig).ty.Contents (Elt F) :=
  Host.exp (subf (res_main_v44 V0) (broadcastInDim S128x100000 ![0, 1] bcast_S128x1_S128x100000_0_1 (broadcastInDim S128x1 ![0] bcast_S128_S128x1_0 (maximumf (broadcastInDim S128 ![] bcast_S_S128 (constant S_ .f32 0xFF800000#32)) (Host.reduce FloatOps.maximumf (res_main_v44 V0) (constant S_ .f32 0xFF800000#32) reducesTo_S128x100000_S128_d1 h_S_)))))

set_option maxRecDepth 8192 in
/-- `main_v56`'s composed term of the arguments (named: it is used 4 times). -/
def res_main_v56 (V0 : Valuation τ sig (Elt F)) : (Proc.devRef .tc main_v56 : DevRef τ sig).ty.Contents (Elt F) :=
  addf (addf (broadcastInDim S128x100000 ![] bcast_S_S128x100000 (constant S_ .f32 0x00000000#32)) (res_main_v35 V0)) (Host.divf (res_main_v51 V0) (broadcastInDim S128x100000 ![0, 1] bcast_S128x1_S128x100000_0_1 (broadcastInDim S128x1 ![0] bcast_S128_S128x1_0 (Host.reduceAdd (res_main_v51 V0) (constant S_ .f32 0x00000000#32) reducesTo_S128x100000_S128_d1 h_S_))))

set_option maxRecDepth 8192 in
/-- `main_indices`'s composed term of the arguments (named: it is used 3 times). -/
def res_main_indices (V0 : Valuation τ sig (Elt F)) : (Proc.devRef .tc main_indices : DevRef τ sig).ty.Contents (Elt F) :=
  (Host.topK S128x2 1 (FloatOps.cmpfTotal .gt) (res_main_v56 V0) sliceFits_S128x100000_S128x2).2

set_option maxRecDepth 8192 in
/-- `main_v58`'s composed term of the arguments (named: it is used 3 times). -/
def res_main_v58 (V0 : Valuation τ sig (Elt F)) : (Proc.devRef .tc main_v58 : DevRef τ sig).ty.Contents (Elt F) :=
  broadcastInDim S128x1 ![0] bcast_S128_S128x1_0 (iotaInDim S128 32 0)

end Cert.ReferenceIdeal.RefRun

end
-- ==== Proof.RefRun.lean ====
/- The reference's run read back, a stretch of operations at a time. -/
module

public import proofs.«01_k».proof.Proof.RefRes

@[expose] public section

set_option Elab.async false

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The device's buffer contents before @main's first window. -/
def val0 (V0 : Valuation τ sig (Elt F)) : Valuation τ sig (Elt F) := V0
theorem val0_main_arg0 (V0 : Valuation τ sig (Elt F)) : val0 V0 (no_index (Proc.devRef .tc main_arg0)) = V0 (Proc.devRef .tc main_arg0) := rfl

/-- The device's buffer contents after @main's first 30 operations. -/
def val0_1 (V0 : Valuation τ sig (Elt F)) : Valuation τ sig (Elt F) := after ops_part0_0 (val0 V0)
/-- The buffers that window `ops_part0_0`'s operations write. -/
abbrev ops_part0_0_W : List (Ref sig .tc) := [main_c, main_c_0, main_v0, main_v1, main_v2, main_c_1, main_v3, main_v4, main_v5, main_v6, main_cst, main_cst_2, main_call0_v0, main_call0_v1, main_call0_v2, main_call0_v3, main_call0_v4, main_call0_v5, main_call0_v6, main_call0_v7, main_call0_v8, main_call0_v9, main_call0_c, main_call0_v10, main_call0_v11, main_call0_c_0, main_call0_v12, main_call0_v13, main_call0_v14, main_call0_c_1]
set_option maxRecDepth 8192 in
theorem ops_part0_0_writes : (ops_part0_0 : List (HloOp τ sig (Elt F))).Forall fun op => op.writes ⊆ (ops_part0_0_W.map (Proc.devRef (τ := τ) .tc)).toFinset := by
  simp only [List.Forall]; repeat' apply And.intro
  all_goals (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `ops_part0_0` does not write keeps its contents through it. -/
theorem val0_1_keep (V0 : Valuation τ sig (Elt F)) (r : Ref sig .tc) (h : r ∉ ops_part0_0_W) :
    val0_1 V0 (Proc.devRef .tc r) = val0 V0 (Proc.devRef .tc r) :=
  after_of_writes_sub ops_part0_0 _ ops_part0_0_writes h
theorem val0_1_main_arg0 (V0 : Valuation τ sig (Elt F)) : val0_1 V0 (no_index (Proc.devRef .tc main_arg0)) = V0 (Proc.devRef .tc main_arg0) :=
  (val0_1_keep V0 main_arg0 (by decide)).trans (val0_main_arg0 V0)
set_option maxRecDepth 8192 in
set_option maxHeartbeats 2000000 in
theorem val0_1_main_call0_v2 (V0 : Valuation τ sig (Elt F)) : val0_1 V0 (no_index (Proc.devRef .tc main_call0_v2)) = res_main_call0_v2 V0 := by
  unfold val0_1
  simp only [ops_part0_0, TRef.binary, TRef.nullary, TRef.reshape, TRef.unary, TRef.toBuf, TRef.ofBuf, cast_eq]
  after_results_simp
  all_goals rfl
set_option maxRecDepth 8192 in
set_option maxHeartbeats 2000000 in
theorem val0_1_main_call0_v3 (V0 : Valuation τ sig (Elt F)) : val0_1 V0 (no_index (Proc.devRef .tc main_call0_v3)) = broadcastInDim S1x1 ![] bcast_S_S1x1 (id (constant S_ .f32 0x3F800000#32)) := by
  unfold val0_1
  simp only [ops_part0_0, TRef.binary, TRef.nullary, TRef.reshape, TRef.unary, TRef.toBuf, TRef.ofBuf, cast_eq]
  after_results_simp
  all_goals rfl
set_option maxRecDepth 8192 in
set_option maxHeartbeats 2000000 in
theorem val0_1_main_call0_v5 (V0 : Valuation τ sig (Elt F)) : val0_1 V0 (no_index (Proc.devRef .tc main_call0_v5)) = res_main_call0_v5 V0 := by
  unfold val0_1
  simp only [ops_part0_0, TRef.binary, TRef.nullary, TRef.reshape, TRef.unary, TRef.toBuf, TRef.ofBuf, cast_eq]
  after_results_simp
  all_goals rfl
set_option maxRecDepth 8192 in
set_option maxHeartbeats 2000000 in
theorem val0_1_main_call0_v7 (V0 : Valuation τ sig (Elt F)) : val0_1 V0 (no_index (Proc.devRef .tc main_call0_v7)) = res_main_call0_v7 V0 := by
  unfold val0_1
  simp only [ops_part0_0, TRef.binary, TRef.nullary, TRef.reshape, TRef.unary, TRef.toBuf, TRef.ofBuf, cast_eq]
  after_results_simp
  all_goals rfl
set_option maxRecDepth 8192 in
set_option maxHeartbeats 2000000 in
theorem val0_1_main_call0_v14 (V0 : Valuation τ sig (Elt F)) : val0_1 V0 (no_index (Proc.devRef .tc main_call0_v14)) = res_main_call0_v14 V0 := by
  unfold val0_1
  simp only [ops_part0_0, TRef.binary, TRef.nullary, TRef.reshape, TRef.unary, TRef.toBuf, TRef.ofBuf, cast_eq]
  after_results_simp
  all_goals rfl
set_option maxRecDepth 8192 in
set_option maxHeartbeats 2000000 in
theorem val0_1_main_call0_c_1 (V0 : Valuation τ sig (Elt F)) : val0_1 V0 (no_index (Proc.devRef .tc main_call0_c_1)) = constantI S_ 64 32#64 := by
  unfold val0_1
  simp only [ops_part0_0, TRef.binary, TRef.nullary, TRef.reshape, TRef.unary, TRef.toBuf, TRef.ofBuf, cast_eq]
  after_results_simp
  all_goals rfl

/-- The device's buffer contents after @main's first 60 operations. -/
def val0_2 (V0 : Valuation τ sig (Elt F)) : Valuation τ sig (Elt F) := after ops_part0_1 (val0_1 V0)
/-- The buffers that window `ops_part0_1`'s operations write. -/
abbrev ops_part0_1_W : List (Ref sig .tc) := [main_call0_v15, main_call0_v16, main_call0_v17, main_call0_v18, main_call0_call0_v0, main_call0_call0_c, main_call0_call0_v1, main_call0_call0_v2, main_call0_call0_v3, main_call0_call0_v4, main_call0_call0_v5, main_call0_call0_v6, main_call0_call0_c_0, main_call0_call0_v7, main_call0_call0_v8, main_call0_call0_c_1, main_call0_call0_v9, main_call0_call0_v10, main_call0_call0_v11, main_call0_call0_v12, main_call0_call0_v13, main_call0_call0_c_2, main_call0_call0_v14, main_call0_call0_v15, main_call0_call0_c_3, main_call0_call0_v16, main_call0_call0_v17, main_call0_call0_v18, main_call0_call0_v19, main_call0_call0_v20]
set_option maxRecDepth 8192 in
theorem ops_part0_1_writes : (ops_part0_1 : List (HloOp τ sig (Elt F))).Forall fun op => op.writes ⊆ (ops_part0_1_W.map (Proc.devRef (τ := τ) .tc)).toFinset := by
  simp only [List.Forall]; repeat' apply And.intro
  all_goals (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `ops_part0_1` does not write keeps its contents through it. -/
theorem val0_2_keep (V0 : Valuation τ sig (Elt F)) (r : Ref sig .tc) (h : r ∉ ops_part0_1_W) :
    val0_2 V0 (Proc.devRef .tc r) = val0_1 V0 (Proc.devRef .tc r) :=
  after_of_writes_sub ops_part0_1 _ ops_part0_1_writes h
theorem val0_2_main_arg0 (V0 : Valuation τ sig (Elt F)) : val0_2 V0 (no_index (Proc.devRef .tc main_arg0)) = V0 (Proc.devRef .tc main_arg0) :=
  (val0_2_keep V0 main_arg0 (by decide)).trans (val0_1_main_arg0 V0)
theorem val0_2_main_call0_v2 (V0 : Valuation τ sig (Elt F)) : val0_2 V0 (no_index (Proc.devRef .tc main_call0_v2)) = res_main_call0_v2 V0 :=
  (val0_2_keep V0 main_call0_v2 (by decide)).trans (val0_1_main_call0_v2 V0)
theorem val0_2_main_call0_v3 (V0 : Valuation τ sig (Elt F)) : val0_2 V0 (no_index (Proc.devRef .tc main_call0_v3)) = broadcastInDim S1x1 ![] bcast_S_S1x1 (id (constant S_ .f32 0x3F800000#32)) :=
  (val0_2_keep V0 main_call0_v3 (by decide)).trans (val0_1_main_call0_v3 V0)
theorem val0_2_main_call0_v5 (V0 : Valuation τ sig (Elt F)) : val0_2 V0 (no_index (Proc.devRef .tc main_call0_v5)) = res_main_call0_v5 V0 :=
  (val0_2_keep V0 main_call0_v5 (by decide)).trans (val0_1_main_call0_v5 V0)
theorem val0_2_main_call0_v7 (V0 : Valuation τ sig (Elt F)) : val0_2 V0 (no_index (Proc.devRef .tc main_call0_v7)) = res_main_call0_v7 V0 :=
  (val0_2_keep V0 main_call0_v7 (by decide)).trans (val0_1_main_call0_v7 V0)
set_option maxRecDepth 8192 in
set_option maxHeartbeats 2000000 in
theorem val0_2_main_call0_call0_v1 (V0 : Valuation τ sig (Elt F)) : val0_2 V0 (no_index (Proc.devRef .tc main_call0_call0_v1)) = res_main_call0_call0_v1 V0 := by
  unfold val0_2
  simp only [ops_part0_1, TRef.binary, TRef.nullary, TRef.unary, TRef.toBuf, TRef.ofBuf, cast_eq]
  after_results_simp
  simp only [val0_1_main_call0_v7, val0_1_main_call0_v5] <;> rfl
set_option maxRecDepth 8192 in
set_option maxHeartbeats 2000000 in
theorem val0_2_main_call0_call0_v19 (V0 : Valuation τ sig (Elt F)) : val0_2 V0 (no_index (Proc.devRef .tc main_call0_call0_v19)) = res_main_call0_call0_v19 V0 := by
  unfold val0_2
  simp only [ops_part0_1, TRef.binary, TRef.nullary, TRef.unary, TRef.toBuf, TRef.ofBuf, cast_eq]
  after_results_simp
  simp only [val0_1_main_call0_v7, val0_1_main_call0_v14, val0_1_main_call0_v5, val0_1_main_call0_c_1] <;> rfl
set_option maxRecDepth 8192 in
set_option maxHeartbeats 2000000 in
theorem val0_2_main_call0_call0_v20 (V0 : Valuation τ sig (Elt F)) : val0_2 V0 (no_index (Proc.devRef .tc main_call0_call0_v20)) = res_main_call0_call0_v20 V0 := by
  unfold val0_2
  simp only [ops_part0_1, TRef.binary, TRef.nullary, TRef.unary, TRef.toBuf, TRef.ofBuf, cast_eq]
  after_results_simp
  simp only [val0_1_main_call0_v7, val0_1_main_call0_v14, val0_1_main_call0_v5, val0_1_main_call0_c_1] <;> rfl

/-- The device's buffer contents after @main's first 90 operations. -/
def val0_3 (V0 : Valuation τ sig (Elt F)) : Valuation τ sig (Elt F) := after ops_part0_2 (val0_2 V0)
/-- The buffers that window `ops_part0_2`'s operations write. -/
abbrev ops_part0_2_W : List (Ref sig .tc) := [main_call0_call0_c_4, main_call0_call0_v21, main_call0_call0_v22, main_call0_call0_c_5, main_call0_call0_v23, main_call0_call0_v24, main_call0_call0_v25, main_call0_call0_v26, main_call0_call0_v27, main_call0_call0_c_6, main_call0_call0_v28, main_call0_call0_v29, main_call0_call0_c_7, main_call0_call0_v30, main_call0_call0_v31, main_call0_call0_v32, main_call0_call0_v33, main_call0_call0_v34, main_call0_call0_v35, main_call0_call0_v36, main_call0_call0_v37, main_call0_call0_c_8, main_call0_call0_v38, main_call0_call0_v39, main_call0_call0_v40, main_call0_call0_c_9, main_call0_call0_v41, main_call0_call0_v42, main_call0_call0_c_10, main_call0_call0_v43]
set_option maxRecDepth 8192 in
theorem ops_part0_2_writes : (ops_part0_2 : List (HloOp τ sig (Elt F))).Forall fun op => op.writes ⊆ (ops_part0_2_W.map (Proc.devRef (τ := τ) .tc)).toFinset := by
  simp only [List.Forall]; repeat' apply And.intro
  all_goals (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `ops_part0_2` does not write keeps its contents through it. -/
theorem val0_3_keep (V0 : Valuation τ sig (Elt F)) (r : Ref sig .tc) (h : r ∉ ops_part0_2_W) :
    val0_3 V0 (Proc.devRef .tc r) = val0_2 V0 (Proc.devRef .tc r) :=
  after_of_writes_sub ops_part0_2 _ ops_part0_2_writes h
theorem val0_3_main_arg0 (V0 : Valuation τ sig (Elt F)) : val0_3 V0 (no_index (Proc.devRef .tc main_arg0)) = V0 (Proc.devRef .tc main_arg0) :=
  (val0_3_keep V0 main_arg0 (by decide)).trans (val0_2_main_arg0 V0)
theorem val0_3_main_call0_v2 (V0 : Valuation τ sig (Elt F)) : val0_3 V0 (no_index (Proc.devRef .tc main_call0_v2)) = res_main_call0_v2 V0 :=
  (val0_3_keep V0 main_call0_v2 (by decide)).trans (val0_2_main_call0_v2 V0)
theorem val0_3_main_call0_v3 (V0 : Valuation τ sig (Elt F)) : val0_3 V0 (no_index (Proc.devRef .tc main_call0_v3)) = broadcastInDim S1x1 ![] bcast_S_S1x1 (id (constant S_ .f32 0x3F800000#32)) :=
  (val0_3_keep V0 main_call0_v3 (by decide)).trans (val0_2_main_call0_v3 V0)
theorem val0_3_main_call0_v5 (V0 : Valuation τ sig (Elt F)) : val0_3 V0 (no_index (Proc.devRef .tc main_call0_v5)) = res_main_call0_v5 V0 :=
  (val0_3_keep V0 main_call0_v5 (by decide)).trans (val0_2_main_call0_v5 V0)
theorem val0_3_main_call0_v7 (V0 : Valuation τ sig (Elt F)) : val0_3 V0 (no_index (Proc.devRef .tc main_call0_v7)) = res_main_call0_v7 V0 :=
  (val0_3_keep V0 main_call0_v7 (by decide)).trans (val0_2_main_call0_v7 V0)
theorem val0_3_main_call0_call0_v1 (V0 : Valuation τ sig (Elt F)) : val0_3 V0 (no_index (Proc.devRef .tc main_call0_call0_v1)) = res_main_call0_call0_v1 V0 :=
  (val0_3_keep V0 main_call0_call0_v1 (by decide)).trans (val0_2_main_call0_call0_v1 V0)
set_option maxRecDepth 8192 in
set_option maxHeartbeats 2000000 in
theorem val0_3_main_call0_call0_v39 (V0 : Valuation τ sig (Elt F)) : val0_3 V0 (no_index (Proc.devRef .tc main_call0_call0_v39)) = res_main_call0_call0_v39 V0 := by
  unfold val0_3
  simp only [ops_part0_2, TRef.binary, TRef.nullary, TRef.unary, TRef.toBuf, TRef.ofBuf, cast_eq]
  after_results_simp
  simp only [val0_2_main_call0_call0_v1, val0_2_main_call0_call0_v19, val0_2_main_call0_call0_v20] <;> rfl
set_option maxRecDepth 8192 in
set_option maxHeartbeats 2000000 in
theorem val0_3_main_call0_call0_v40 (V0 : Valuation τ sig (Elt F)) : val0_3 V0 (no_index (Proc.devRef .tc main_call0_call0_v40)) = res_main_call0_call0_v40 V0 := by
  unfold val0_3
  simp only [ops_part0_2, TRef.binary, TRef.nullary, TRef.unary, TRef.toBuf, TRef.ofBuf, cast_eq]
  after_results_simp
  simp only [val0_2_main_call0_call0_v1, val0_2_main_call0_call0_v19, val0_2_main_call0_call0_v20, val0_2_main_call0_v7] <;> rfl
set_option maxRecDepth 8192 in
set_option maxHeartbeats 2000000 in
theorem val0_3_main_call0_call0_v42 (V0 : Valuation τ sig (Elt F)) : val0_3 V0 (no_index (Proc.devRef .tc main_call0_call0_v42)) = Host.shli (res_main_call0_call0_v39 V0) (broadcastInDim S128x100000 ![] bcast_S_S128x100000 (constantI S_ 32 17#32)) := by
  unfold val0_3
  simp only [ops_part0_2, TRef.binary, TRef.nullary, TRef.unary, TRef.toBuf, TRef.ofBuf, cast_eq]
  after_results_simp
  simp only [val0_2_main_call0_call0_v1, val0_2_main_call0_call0_v19, val0_2_main_call0_call0_v20] <;> rfl
set_option maxRecDepth 8192 in
set_option maxHeartbeats 2000000 in
theorem val0_3_main_call0_call0_v43 (V0 : Valuation τ sig (Elt F)) : val0_3 V0 (no_index (Proc.devRef .tc main_call0_call0_v43)) = broadcastInDim S128x100000 ![] bcast_S_S128x100000 (constantI S_ 32 15#32) := by
  unfold val0_3
  simp only [ops_part0_2, TRef.binary, TRef.nullary, TRef.unary, TRef.toBuf, TRef.ofBuf, cast_eq]
  after_results_simp
  all_goals rfl

/-- The device's buffer contents after @main's first 120 operations. -/
def val0_4 (V0 : Valuation τ sig (Elt F)) : Valuation τ sig (Elt F) := after ops_part0_3 (val0_3 V0)
/-- The buffers that window `ops_part0_3`'s operations write. -/
abbrev ops_part0_3_W : List (Ref sig .tc) := [main_call0_call0_v44, main_call0_call0_v45, main_call0_call0_v46, main_call0_call0_v47, main_call0_call0_c_11, main_call0_call0_v48, main_call0_call0_v49, main_call0_call0_c_12, main_call0_call0_v50, main_call0_call0_v51, main_call0_call0_v52, main_call0_call0_v53, main_call0_call0_v54, main_call0_call0_c_13, main_call0_call0_v55, main_call0_call0_v56, main_call0_call0_c_14, main_call0_call0_v57, main_call0_call0_v58, main_call0_call0_v59, main_call0_call0_v60, main_call0_call0_v61, main_call0_call0_c_15, main_call0_call0_v62, main_call0_call0_v63, main_call0_call0_c_16, main_call0_call0_v64, main_call0_call0_v65, main_call0_call0_v66, main_call0_call0_v67]
set_option maxRecDepth 8192 in
theorem ops_part0_3_writes : (ops_part0_3 : List (HloOp τ sig (Elt F))).Forall fun op => op.writes ⊆ (ops_part0_3_W.map (Proc.devRef (τ := τ) .tc)).toFinset := by
  simp only [List.Forall]; repeat' apply And.intro
  all_goals (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `ops_part0_3` does not write keeps its contents through it. -/
theorem val0_4_keep (V0 : Valuation τ sig (Elt F)) (r : Ref sig .tc) (h : r ∉ ops_part0_3_W) :
    val0_4 V0 (Proc.devRef .tc r) = val0_3 V0 (Proc.devRef .tc r) :=
  after_of_writes_sub ops_part0_3 _ ops_part0_3_writes h
theorem val0_4_main_arg0 (V0 : Valuation τ sig (Elt F)) : val0_4 V0 (no_index (Proc.devRef .tc main_arg0)) = V0 (Proc.devRef .tc main_arg0) :=
  (val0_4_keep V0 main_arg0 (by decide)).trans (val0_3_main_arg0 V0)
theorem val0_4_main_call0_v2 (V0 : Valuation τ sig (Elt F)) : val0_4 V0 (no_index (Proc.devRef .tc main_call0_v2)) = res_main_call0_v2 V0 :=
  (val0_4_keep V0 main_call0_v2 (by decide)).trans (val0_3_main_call0_v2 V0)
theorem val0_4_main_call0_v3 (V0 : Valuation τ sig (Elt F)) : val0_4 V0 (no_index (Proc.devRef .tc main_call0_v3)) = broadcastInDim S1x1 ![] bcast_S_S1x1 (id (constant S_ .f32 0x3F800000#32)) :=
  (val0_4_keep V0 main_call0_v3 (by decide)).trans (val0_3_main_call0_v3 V0)
theorem val0_4_main_call0_v5 (V0 : Valuation τ sig (Elt F)) : val0_4 V0 (no_index (Proc.devRef .tc main_call0_v5)) = res_main_call0_v5 V0 :=
  (val0_4_keep V0 main_call0_v5 (by decide)).trans (val0_3_main_call0_v5 V0)
theorem val0_4_main_call0_v7 (V0 : Valuation τ sig (Elt F)) : val0_4 V0 (no_index (Proc.devRef .tc main_call0_v7)) = res_main_call0_v7 V0 :=
  (val0_4_keep V0 main_call0_v7 (by decide)).trans (val0_3_main_call0_v7 V0)
theorem val0_4_main_call0_call0_v1 (V0 : Valuation τ sig (Elt F)) : val0_4 V0 (no_index (Proc.devRef .tc main_call0_call0_v1)) = res_main_call0_call0_v1 V0 :=
  (val0_4_keep V0 main_call0_call0_v1 (by decide)).trans (val0_3_main_call0_call0_v1 V0)
set_option maxRecDepth 8192 in
set_option maxHeartbeats 2000000 in
theorem val0_4_main_call0_call0_v61 (V0 : Valuation τ sig (Elt F)) : val0_4 V0 (no_index (Proc.devRef .tc main_call0_call0_v61)) = res_main_call0_call0_v61 V0 := by
  unfold val0_4
  simp only [ops_part0_3, TRef.binary, TRef.nullary, TRef.unary, TRef.toBuf, TRef.ofBuf, cast_eq]
  after_results_simp
  simp only [val0_3_main_call0_call0_v43, val0_3_main_call0_call0_v39, val0_3_main_call0_call0_v42, val0_3_main_call0_call0_v40] <;> rfl
set_option maxRecDepth 8192 in
set_option maxHeartbeats 2000000 in
theorem val0_4_main_call0_call0_v67 (V0 : Valuation τ sig (Elt F)) : val0_4 V0 (no_index (Proc.devRef .tc main_call0_call0_v67)) = xori (res_main_call0_call0_v61 V0) (ori (Host.shli (res_main_call0_call0_v60 V0) (broadcastInDim S128x100000 ![] bcast_S_S128x100000 (constantI S_ 32 24#32))) (Host.shrui (res_main_call0_call0_v60 V0) (broadcastInDim S128x100000 ![] bcast_S_S128x100000 (constantI S_ 32 8#32)))) := by
  unfold val0_4
  simp only [ops_part0_3, TRef.binary, TRef.nullary, TRef.unary, TRef.toBuf, TRef.ofBuf, cast_eq]
  after_results_simp
  simp only [val0_3_main_call0_call0_v43, val0_3_main_call0_call0_v39, val0_3_main_call0_call0_v42, val0_3_main_call0_call0_v40] <;> rfl

/-- The device's buffer contents after @main's first 150 operations. -/
def val0_5 (V0 : Valuation τ sig (Elt F)) : Valuation τ sig (Elt F) := after ops_part0_4 (val0_4 V0)
/-- The buffers that window `ops_part0_4`'s operations write. -/
abbrev ops_part0_4_W : List (Ref sig .tc) := [main_call0_call0_v68, main_call0_call0_v69, main_call0_call0_v70, main_call0_call0_v71, main_call0_call0_c_17, main_call0_call0_v72, main_call0_call0_v73, main_call0_call0_v74, main_call0_call0_c_18, main_call0_call0_v75, main_call0_call0_v76, main_call0_call0_c_19, main_call0_call0_v77, main_call0_call0_v78, main_call0_call0_v79, main_call0_call0_v80, main_call0_call0_v81, main_call0_call0_c_20, main_call0_call0_v82, main_call0_call0_v83, main_call0_call0_c_21, main_call0_call0_v84, main_call0_call0_v85, main_call0_call0_v86, main_call0_call0_v87, main_call0_call0_v88, main_call0_call0_c_22, main_call0_call0_v89, main_call0_call0_v90, main_call0_call0_c_23]
set_option maxRecDepth 8192 in
theorem ops_part0_4_writes : (ops_part0_4 : List (HloOp τ sig (Elt F))).Forall fun op => op.writes ⊆ (ops_part0_4_W.map (Proc.devRef (τ := τ) .tc)).toFinset := by
  simp only [List.Forall]; repeat' apply And.intro
  all_goals (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `ops_part0_4` does not write keeps its contents through it. -/
theorem val0_5_keep (V0 : Valuation τ sig (Elt F)) (r : Ref sig .tc) (h : r ∉ ops_part0_4_W) :
    val0_5 V0 (Proc.devRef .tc r) = val0_4 V0 (Proc.devRef .tc r) :=
  after_of_writes_sub ops_part0_4 _ ops_part0_4_writes h
theorem val0_5_main_arg0 (V0 : Valuation τ sig (Elt F)) : val0_5 V0 (no_index (Proc.devRef .tc main_arg0)) = V0 (Proc.devRef .tc main_arg0) :=
  (val0_5_keep V0 main_arg0 (by decide)).trans (val0_4_main_arg0 V0)
theorem val0_5_main_call0_v2 (V0 : Valuation τ sig (Elt F)) : val0_5 V0 (no_index (Proc.devRef .tc main_call0_v2)) = res_main_call0_v2 V0 :=
  (val0_5_keep V0 main_call0_v2 (by decide)).trans (val0_4_main_call0_v2 V0)
theorem val0_5_main_call0_v3 (V0 : Valuation τ sig (Elt F)) : val0_5 V0 (no_index (Proc.devRef .tc main_call0_v3)) = broadcastInDim S1x1 ![] bcast_S_S1x1 (id (constant S_ .f32 0x3F800000#32)) :=
  (val0_5_keep V0 main_call0_v3 (by decide)).trans (val0_4_main_call0_v3 V0)
theorem val0_5_main_call0_v5 (V0 : Valuation τ sig (Elt F)) : val0_5 V0 (no_index (Proc.devRef .tc main_call0_v5)) = res_main_call0_v5 V0 :=
  (val0_5_keep V0 main_call0_v5 (by decide)).trans (val0_4_main_call0_v5 V0)
theorem val0_5_main_call0_v7 (V0 : Valuation τ sig (Elt F)) : val0_5 V0 (no_index (Proc.devRef .tc main_call0_v7)) = res_main_call0_v7 V0 :=
  (val0_5_keep V0 main_call0_v7 (by decide)).trans (val0_4_main_call0_v7 V0)
theorem val0_5_main_call0_call0_v1 (V0 : Valuation τ sig (Elt F)) : val0_5 V0 (no_index (Proc.devRef .tc main_call0_call0_v1)) = res_main_call0_call0_v1 V0 :=
  (val0_5_keep V0 main_call0_call0_v1 (by decide)).trans (val0_4_main_call0_call0_v1 V0)
set_option maxRecDepth 8192 in
set_option maxHeartbeats 2000000 in
theorem val0_5_main_call0_call0_v87 (V0 : Valuation τ sig (Elt F)) : val0_5 V0 (no_index (Proc.devRef .tc main_call0_call0_v87)) = res_main_call0_call0_v87 V0 := by
  unfold val0_5
  simp only [ops_part0_4, TRef.binary, TRef.nullary, TRef.unary, TRef.toBuf, TRef.ofBuf, cast_eq]
  after_results_simp
  simp only [val0_4_main_call0_v5, val0_4_main_call0_call0_v67, val0_4_main_call0_call0_v1, val0_4_main_call0_call0_v61] <;> rfl
set_option maxRecDepth 8192 in
set_option maxHeartbeats 2000000 in
theorem val0_5_main_call0_call0_v88 (V0 : Valuation τ sig (Elt F)) : val0_5 V0 (no_index (Proc.devRef .tc main_call0_call0_v88)) = res_main_call0_call0_v88 V0 := by
  unfold val0_5
  simp only [ops_part0_4, TRef.binary, TRef.nullary, TRef.unary, TRef.toBuf, TRef.ofBuf, cast_eq]
  after_results_simp
  simp only [val0_4_main_call0_v5, val0_4_main_call0_call0_v67, val0_4_main_call0_call0_v1, val0_4_main_call0_call0_v61] <;> rfl
set_option maxRecDepth 8192 in
set_option maxHeartbeats 2000000 in
theorem val0_5_main_call0_call0_v90 (V0 : Valuation τ sig (Elt F)) : val0_5 V0 (no_index (Proc.devRef .tc main_call0_call0_v90)) = Host.shli (res_main_call0_call0_v87 V0) (broadcastInDim S128x100000 ![] bcast_S_S128x100000 (constantI S_ 32 26#32)) := by
  unfold val0_5
  simp only [ops_part0_4, TRef.binary, TRef.nullary, TRef.unary, TRef.toBuf, TRef.ofBuf, cast_eq]
  after_results_simp
  simp only [val0_4_main_call0_v5, val0_4_main_call0_call0_v67, val0_4_main_call0_call0_v1, val0_4_main_call0_call0_v61] <;> rfl
set_option maxRecDepth 8192 in
set_option maxHeartbeats 2000000 in
theorem val0_5_main_call0_call0_c_23 (V0 : Valuation τ sig (Elt F)) : val0_5 V0 (no_index (Proc.devRef .tc main_call0_call0_c_23)) = constantI S_ 32 6#32 := by
  unfold val0_5
  simp only [ops_part0_4, TRef.binary, TRef.nullary, TRef.unary, TRef.toBuf, TRef.ofBuf, cast_eq]
  after_results_simp
  all_goals rfl

/-- The device's buffer contents after @main's first 180 operations. -/
def val0_6 (V0 : Valuation τ sig (Elt F)) : Valuation τ sig (Elt F) := after ops_part0_5 (val0_5 V0)
/-- The buffers that window `ops_part0_5`'s operations write. -/
abbrev ops_part0_5_W : List (Ref sig .tc) := [main_call0_call0_v91, main_call0_call0_v92, main_call0_call0_v93, main_call0_call0_v94, main_call0_call0_v95, main_call0_call0_c_24, main_call0_call0_v96, main_call0_call0_v97, main_call0_call0_c_25, main_call0_call0_v98, main_call0_call0_v99, main_call0_call0_v100, main_call0_call0_v101, main_call0_call0_v102, main_call0_call0_v103, main_call0_call0_v104, main_call0_call0_v105, main_call0_call0_c_26, main_call0_call0_v106, main_call0_call0_v107, main_call0_call0_v108, main_call0_call0_c_27, main_call0_call0_v109, main_call0_call0_v110, main_call0_call0_c_28, main_call0_call0_v111, main_call0_call0_v112, main_call0_call0_v113, main_call0_call0_v114, main_call0_call0_v115]
set_option maxRecDepth 8192 in
theorem ops_part0_5_writes : (ops_part0_5 : List (HloOp τ sig (Elt F))).Forall fun op => op.writes ⊆ (ops_part0_5_W.map (Proc.devRef (τ := τ) .tc)).toFinset := by
  simp only [List.Forall]; repeat' apply And.intro
  all_goals (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `ops_part0_5` does not write keeps its contents through it. -/
theorem val0_6_keep (V0 : Valuation τ sig (Elt F)) (r : Ref sig .tc) (h : r ∉ ops_part0_5_W) :
    val0_6 V0 (Proc.devRef .tc r) = val0_5 V0 (Proc.devRef .tc r) :=
  after_of_writes_sub ops_part0_5 _ ops_part0_5_writes h
theorem val0_6_main_arg0 (V0 : Valuation τ sig (Elt F)) : val0_6 V0 (no_index (Proc.devRef .tc main_arg0)) = V0 (Proc.devRef .tc main_arg0) :=
  (val0_6_keep V0 main_arg0 (by decide)).trans (val0_5_main_arg0 V0)
theorem val0_6_main_call0_v2 (V0 : Valuation τ sig (Elt F)) : val0_6 V0 (no_index (Proc.devRef .tc main_call0_v2)) = res_main_call0_v2 V0 :=
  (val0_6_keep V0 main_call0_v2 (by decide)).trans (val0_5_main_call0_v2 V0)
theorem val0_6_main_call0_v3 (V0 : Valuation τ sig (Elt F)) : val0_6 V0 (no_index (Proc.devRef .tc main_call0_v3)) = broadcastInDim S1x1 ![] bcast_S_S1x1 (id (constant S_ .f32 0x3F800000#32)) :=
  (val0_6_keep V0 main_call0_v3 (by decide)).trans (val0_5_main_call0_v3 V0)
theorem val0_6_main_call0_v5 (V0 : Valuation τ sig (Elt F)) : val0_6 V0 (no_index (Proc.devRef .tc main_call0_v5)) = res_main_call0_v5 V0 :=
  (val0_6_keep V0 main_call0_v5 (by decide)).trans (val0_5_main_call0_v5 V0)
theorem val0_6_main_call0_v7 (V0 : Valuation τ sig (Elt F)) : val0_6 V0 (no_index (Proc.devRef .tc main_call0_v7)) = res_main_call0_v7 V0 :=
  (val0_6_keep V0 main_call0_v7 (by decide)).trans (val0_5_main_call0_v7 V0)
theorem val0_6_main_call0_call0_v1 (V0 : Valuation τ sig (Elt F)) : val0_6 V0 (no_index (Proc.devRef .tc main_call0_call0_v1)) = res_main_call0_call0_v1 V0 :=
  (val0_6_keep V0 main_call0_call0_v1 (by decide)).trans (val0_5_main_call0_call0_v1 V0)
set_option maxRecDepth 8192 in
set_option maxHeartbeats 2000000 in
theorem val0_6_main_call0_call0_v114 (V0 : Valuation τ sig (Elt F)) : val0_6 V0 (no_index (Proc.devRef .tc main_call0_call0_v114)) = res_main_call0_call0_v114 V0 := by
  unfold val0_6
  simp only [ops_part0_5, TRef.binary, TRef.nullary, TRef.unary, TRef.toBuf, TRef.ofBuf, cast_eq]
  after_results_simp
  simp only [val0_5_main_call0_v7, val0_5_main_call0_call0_c_23, val0_5_main_call0_call0_v87, val0_5_main_call0_call0_v90, val0_5_main_call0_call0_v88, val0_5_main_call0_v5] <;> rfl
set_option maxRecDepth 8192 in
set_option maxHeartbeats 2000000 in
theorem val0_6_main_call0_call0_v115 (V0 : Valuation τ sig (Elt F)) : val0_6 V0 (no_index (Proc.devRef .tc main_call0_call0_v115)) = res_main_call0_call0_v115 V0 := by
  unfold val0_6
  simp only [ops_part0_5, TRef.binary, TRef.nullary, TRef.unary, TRef.toBuf, TRef.ofBuf, cast_eq]
  after_results_simp
  simp only [val0_5_main_call0_v7, val0_5_main_call0_call0_c_23, val0_5_main_call0_call0_v87, val0_5_main_call0_call0_v90, val0_5_main_call0_call0_v88, val0_5_main_call0_v5] <;> rfl

/-- The device's buffer contents after @main's first 210 operations. -/
def val0_7 (V0 : Valuation τ sig (Elt F)) : Valuation τ sig (Elt F) := after ops_part0_6 (val0_6 V0)
/-- The buffers that window `ops_part0_6`'s operations write. -/
abbrev ops_part0_6_W : List (Ref sig .tc) := [main_call0_call0_c_29, main_call0_call0_v116, main_call0_call0_v117, main_call0_call0_c_30, main_call0_call0_v118, main_call0_call0_v119, main_call0_call0_v120, main_call0_call0_v121, main_call0_call0_v122, main_call0_call0_c_31, main_call0_call0_v123, main_call0_call0_v124, main_call0_call0_c_32, main_call0_call0_v125, main_call0_call0_v126, main_call0_call0_v127, main_call0_call0_v128, main_call0_call0_v129, main_call0_call0_c_33, main_call0_call0_v130, main_call0_call0_v131, main_call0_call0_c_34, main_call0_call0_v132, main_call0_call0_v133, main_call0_call0_v134, main_call0_call0_v135, main_call0_call0_v136, main_call0_call0_v137, main_call0_call0_v138, main_call0_call0_v139]
set_option maxRecDepth 8192 in
theorem ops_part0_6_writes : (ops_part0_6 : List (HloOp τ sig (Elt F))).Forall fun op => op.writes ⊆ (ops_part0_6_W.map (Proc.devRef (τ := τ) .tc)).toFinset := by
  simp only [List.Forall]; repeat' apply And.intro
  all_goals (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `ops_part0_6` does not write keeps its contents through it. -/
theorem val0_7_keep (V0 : Valuation τ sig (Elt F)) (r : Ref sig .tc) (h : r ∉ ops_part0_6_W) :
    val0_7 V0 (Proc.devRef .tc r) = val0_6 V0 (Proc.devRef .tc r) :=
  after_of_writes_sub ops_part0_6 _ ops_part0_6_writes h
theorem val0_7_main_arg0 (V0 : Valuation τ sig (Elt F)) : val0_7 V0 (no_index (Proc.devRef .tc main_arg0)) = V0 (Proc.devRef .tc main_arg0) :=
  (val0_7_keep V0 main_arg0 (by decide)).trans (val0_6_main_arg0 V0)
theorem val0_7_main_call0_v2 (V0 : Valuation τ sig (Elt F)) : val0_7 V0 (no_index (Proc.devRef .tc main_call0_v2)) = res_main_call0_v2 V0 :=
  (val0_7_keep V0 main_call0_v2 (by decide)).trans (val0_6_main_call0_v2 V0)
theorem val0_7_main_call0_v3 (V0 : Valuation τ sig (Elt F)) : val0_7 V0 (no_index (Proc.devRef .tc main_call0_v3)) = broadcastInDim S1x1 ![] bcast_S_S1x1 (id (constant S_ .f32 0x3F800000#32)) :=
  (val0_7_keep V0 main_call0_v3 (by decide)).trans (val0_6_main_call0_v3 V0)
theorem val0_7_main_call0_v5 (V0 : Valuation τ sig (Elt F)) : val0_7 V0 (no_index (Proc.devRef .tc main_call0_v5)) = res_main_call0_v5 V0 :=
  (val0_7_keep V0 main_call0_v5 (by decide)).trans (val0_6_main_call0_v5 V0)
theorem val0_7_main_call0_call0_v1 (V0 : Valuation τ sig (Elt F)) : val0_7 V0 (no_index (Proc.devRef .tc main_call0_call0_v1)) = res_main_call0_call0_v1 V0 :=
  (val0_7_keep V0 main_call0_call0_v1 (by decide)).trans (val0_6_main_call0_call0_v1 V0)
set_option maxRecDepth 8192 in
set_option maxHeartbeats 2000000 in
theorem val0_7_main_call0_call0_v137 (V0 : Valuation τ sig (Elt F)) : val0_7 V0 (no_index (Proc.devRef .tc main_call0_call0_v137)) = addi (res_main_call0_call0_v129 V0) (broadcastInDim S128x100000 ![] bcast_S_S128x100000 (res_main_call0_v7 V0)) := by
  unfold val0_7
  simp only [ops_part0_6, TRef.binary, TRef.nullary, TRef.unary, TRef.toBuf, TRef.ofBuf, cast_eq]
  after_results_simp
  simp only [val0_6_main_call0_v7, val0_6_main_call0_call0_v114, val0_6_main_call0_call0_v115] <;> rfl
set_option maxRecDepth 8192 in
set_option maxHeartbeats 2000000 in
theorem val0_7_main_call0_call0_v139 (V0 : Valuation τ sig (Elt F)) : val0_7 V0 (no_index (Proc.devRef .tc main_call0_call0_v139)) = addi (xori (res_main_call0_call0_v129 V0) (ori (Host.shli (res_main_call0_call0_v128 V0) (broadcastInDim S128x100000 ![] bcast_S_S128x100000 (constantI S_ 32 24#32))) (Host.shrui (res_main_call0_call0_v128 V0) (broadcastInDim S128x100000 ![] bcast_S_S128x100000 (constantI S_ 32 8#32))))) (broadcastInDim S128x100000 ![] bcast_S_S128x100000 (res_main_call0_call0_v1 V0)) := by
  unfold val0_7
  simp only [ops_part0_6, TRef.binary, TRef.nullary, TRef.unary, TRef.toBuf, TRef.ofBuf, cast_eq]
  after_results_simp
  simp only [val0_6_main_call0_call0_v1, val0_6_main_call0_call0_v114, val0_6_main_call0_call0_v115] <;> rfl

/-- The device's buffer contents after @main's first 240 operations. -/
def val0_8 (V0 : Valuation τ sig (Elt F)) : Valuation τ sig (Elt F) := after ops_part0_7 (val0_7 V0)
/-- The buffers that window `ops_part0_7`'s operations write. -/
abbrev ops_part0_7_W : List (Ref sig .tc) := [main_call0_call0_c_35, main_call0_call0_v140, main_call0_call0_v141, main_call0_call0_v142, main_call0_call0_c_36, main_call0_call0_v143, main_call0_call0_v144, main_call0_call0_c_37, main_call0_call0_v145, main_call0_call0_v146, main_call0_call0_v147, main_call0_call0_v148, main_call0_call0_v149, main_call0_call0_c_38, main_call0_call0_v150, main_call0_call0_v151, main_call0_call0_c_39, main_call0_call0_v152, main_call0_call0_v153, main_call0_call0_v154, main_call0_call0_v155, main_call0_call0_v156, main_call0_call0_c_40, main_call0_call0_v157, main_call0_call0_v158, main_call0_call0_c_41, main_call0_call0_v159, main_call0_call0_v160, main_call0_call0_v161, main_call0_call0_v162]
set_option maxRecDepth 8192 in
theorem ops_part0_7_writes : (ops_part0_7 : List (HloOp τ sig (Elt F))).Forall fun op => op.writes ⊆ (ops_part0_7_W.map (Proc.devRef (τ := τ) .tc)).toFinset := by
  simp only [List.Forall]; repeat' apply And.intro
  all_goals (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `ops_part0_7` does not write keeps its contents through it. -/
theorem val0_8_keep (V0 : Valuation τ sig (Elt F)) (r : Ref sig .tc) (h : r ∉ ops_part0_7_W) :
    val0_8 V0 (Proc.devRef .tc r) = val0_7 V0 (Proc.devRef .tc r) :=
  after_of_writes_sub ops_part0_7 _ ops_part0_7_writes h
theorem val0_8_main_arg0 (V0 : Valuation τ sig (Elt F)) : val0_8 V0 (no_index (Proc.devRef .tc main_arg0)) = V0 (Proc.devRef .tc main_arg0) :=
  (val0_8_keep V0 main_arg0 (by decide)).trans (val0_7_main_arg0 V0)
theorem val0_8_main_call0_v2 (V0 : Valuation τ sig (Elt F)) : val0_8 V0 (no_index (Proc.devRef .tc main_call0_v2)) = res_main_call0_v2 V0 :=
  (val0_8_keep V0 main_call0_v2 (by decide)).trans (val0_7_main_call0_v2 V0)
theorem val0_8_main_call0_v3 (V0 : Valuation τ sig (Elt F)) : val0_8 V0 (no_index (Proc.devRef .tc main_call0_v3)) = broadcastInDim S1x1 ![] bcast_S_S1x1 (id (constant S_ .f32 0x3F800000#32)) :=
  (val0_8_keep V0 main_call0_v3 (by decide)).trans (val0_7_main_call0_v3 V0)
theorem val0_8_main_call0_v5 (V0 : Valuation τ sig (Elt F)) : val0_8 V0 (no_index (Proc.devRef .tc main_call0_v5)) = res_main_call0_v5 V0 :=
  (val0_8_keep V0 main_call0_v5 (by decide)).trans (val0_7_main_call0_v5 V0)
theorem val0_8_main_call0_call0_v1 (V0 : Valuation τ sig (Elt F)) : val0_8 V0 (no_index (Proc.devRef .tc main_call0_call0_v1)) = res_main_call0_call0_v1 V0 :=
  (val0_8_keep V0 main_call0_call0_v1 (by decide)).trans (val0_7_main_call0_call0_v1 V0)
set_option maxRecDepth 8192 in
set_option maxHeartbeats 2000000 in
theorem val0_8_main_call0_call0_v156 (V0 : Valuation τ sig (Elt F)) : val0_8 V0 (no_index (Proc.devRef .tc main_call0_call0_v156)) = res_main_call0_call0_v156 V0 := by
  unfold val0_8
  simp only [ops_part0_7, TRef.binary, TRef.nullary, TRef.unary, TRef.toBuf, TRef.ofBuf, cast_eq]
  after_results_simp
  simp only [val0_7_main_call0_call0_v139, val0_7_main_call0_call0_v137] <;> rfl
set_option maxRecDepth 8192 in
set_option maxHeartbeats 2000000 in
theorem val0_8_main_call0_call0_v162 (V0 : Valuation τ sig (Elt F)) : val0_8 V0 (no_index (Proc.devRef .tc main_call0_call0_v162)) = res_main_call0_call0_v162 V0 := by
  unfold val0_8
  simp only [ops_part0_7, TRef.binary, TRef.nullary, TRef.unary, TRef.toBuf, TRef.ofBuf, cast_eq]
  after_results_simp
  simp only [val0_7_main_call0_call0_v139, val0_7_main_call0_call0_v137] <;> rfl

/-- The device's buffer contents after @main's first 270 operations. -/
def val0_9 (V0 : Valuation τ sig (Elt F)) : Valuation τ sig (Elt F) := after ops_part0_8 (val0_8 V0)
/-- The buffers that window `ops_part0_8`'s operations write. -/
abbrev ops_part0_8_W : List (Ref sig .tc) := [main_call0_call0_v163, main_call0_call0_c_42, main_call0_call0_v164, main_call0_call0_v165, main_call0_call0_c_43, main_call0_call0_v166, main_call0_call0_v167, main_call0_call0_v168, main_call0_call0_v169, main_call0_call0_v170, main_call0_v19_0, main_call0_call0_v172, main_call0_call0_v173, main_call0_call0_c_44, main_call0_call0_v174, main_call0_v19_1, main_call0_v20, main_call0_c_2, main_call0_v21, main_call0_v22, main_call0_c_3, main_call0_v23, main_call0_v24, main_call0_v25, main_call0_cst, main_call0_v26, main_call0_v27, main_call0_v28, main_call0_v29, main_call0_v30]
set_option maxRecDepth 8192 in
theorem ops_part0_8_writes : (ops_part0_8 : List (HloOp τ sig (Elt F))).Forall fun op => op.writes ⊆ (ops_part0_8_W.map (Proc.devRef (τ := τ) .tc)).toFinset := by
  simp only [List.Forall]; repeat' apply And.intro
  all_goals (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `ops_part0_8` does not write keeps its contents through it. -/
theorem val0_9_keep (V0 : Valuation τ sig (Elt F)) (r : Ref sig .tc) (h : r ∉ ops_part0_8_W) :
    val0_9 V0 (Proc.devRef .tc r) = val0_8 V0 (Proc.devRef .tc r) :=
  after_of_writes_sub ops_part0_8 _ ops_part0_8_writes h
theorem val0_9_main_arg0 (V0 : Valuation τ sig (Elt F)) : val0_9 V0 (no_index (Proc.devRef .tc main_arg0)) = V0 (Proc.devRef .tc main_arg0) :=
  (val0_9_keep V0 main_arg0 (by decide)).trans (val0_8_main_arg0 V0)
theorem val0_9_main_call0_v2 (V0 : Valuation τ sig (Elt F)) : val0_9 V0 (no_index (Proc.devRef .tc main_call0_v2)) = res_main_call0_v2 V0 :=
  (val0_9_keep V0 main_call0_v2 (by decide)).trans (val0_8_main_call0_v2 V0)
set_option maxRecDepth 8192 in
set_option maxHeartbeats 2000000 in
theorem val0_9_main_call0_v30 (V0 : Valuation τ sig (Elt F)) : val0_9 V0 (no_index (Proc.devRef .tc main_call0_v30)) = mulf (subf (bitcastToFloat (F := F) .f32 (ori (Host.shrui (xori (addi (res_main_call0_call0_v163 V0) (broadcastInDim S128x100000 ![] bcast_S_S128x100000 (res_main_call0_call0_v1 V0))) (addi (addi (xori (res_main_call0_call0_v163 V0) (ori (Host.shli (res_main_call0_call0_v162 V0) (broadcastInDim S128x100000 ![] bcast_S_S128x100000 (constantI S_ 32 6#32))) (Host.shrui (res_main_call0_call0_v162 V0) (broadcastInDim S128x100000 ![] bcast_S_S128x100000 (constantI S_ 32 26#32))))) (broadcastInDim S128x100000 ![] bcast_S_S128x100000 (res_main_call0_v5 V0))) (broadcastInDim S128x100000 ![] bcast_S_S128x100000 (constantI S_ 32 5#32)))) (broadcastInDim S128x100000 ![] bcast_S_S128x100000 (constantI S_ 32 9#32))) (broadcastInDim S128x100000 ![] bcast_S_S128x100000 (constantI S_ 32 1065353216#32)))) (broadcastInDim S128x100000 ![] bcast_S_S128x100000 (constant S_ .f32 0x3F800000#32))) (broadcastInDim S128x100000 ![0, 1] bcast_S1x1_S128x100000_0_1 (subf (broadcastInDim S1x1 ![] bcast_S_S1x1 (id (constant S_ .f32 0x3F800000#32))) (res_main_call0_v2 V0))) := by
  unfold val0_9
  simp only [ops_part0_8, TRef.binary, TRef.nullary, TRef.unary, TRef.toBuf, TRef.ofBuf, cast_eq]
  after_results_simp
  simp only [val0_8_main_call0_v2, val0_8_main_call0_v3, val0_8_main_call0_v5, val0_8_main_call0_call0_v162, val0_8_main_call0_call0_v156, val0_8_main_call0_call0_v1] <;> rfl

/-- The device's buffer contents after @main's first 300 operations. -/
def val0_10 (V0 : Valuation τ sig (Elt F)) : Valuation τ sig (Elt F) := after ops_part0_9 (val0_9 V0)
/-- The buffers that window `ops_part0_9`'s operations write. -/
abbrev ops_part0_9_W : List (Ref sig .tc) := [main_call0_v31, main_call0_v32, main_call0_v33, main_v7, main_cst_3, main_v8, main_v9, main_v10, main_v11, main_v12, main_v13, main_v14, main_cst_4, main_v15, main_cst_5, main_v16, main_cst_6, main_v17, main_v18, main_cst_7, main_v19, main_v20, main_v21, main_v22, main_cst_8, main_v23, main_v24, main_cst_9, main_v25, main_cst_10]
set_option maxRecDepth 8192 in
theorem ops_part0_9_writes : (ops_part0_9 : List (HloOp τ sig (Elt F))).Forall fun op => op.writes ⊆ (ops_part0_9_W.map (Proc.devRef (τ := τ) .tc)).toFinset := by
  simp only [List.Forall]; repeat' apply And.intro
  all_goals (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `ops_part0_9` does not write keeps its contents through it. -/
theorem val0_10_keep (V0 : Valuation τ sig (Elt F)) (r : Ref sig .tc) (h : r ∉ ops_part0_9_W) :
    val0_10 V0 (Proc.devRef .tc r) = val0_9 V0 (Proc.devRef .tc r) :=
  after_of_writes_sub ops_part0_9 _ ops_part0_9_writes h
theorem val0_10_main_arg0 (V0 : Valuation τ sig (Elt F)) : val0_10 V0 (no_index (Proc.devRef .tc main_arg0)) = V0 (Proc.devRef .tc main_arg0) :=
  (val0_10_keep V0 main_arg0 (by decide)).trans (val0_9_main_arg0 V0)
set_option maxRecDepth 8192 in
set_option maxHeartbeats 2000000 in
theorem val0_10_main_v15 (V0 : Valuation τ sig (Elt F)) : val0_10 V0 (no_index (Proc.devRef .tc main_v15)) = broadcastInDim S128x100000 ![] bcast_S_S128x100000 (constant S_ .f32 0x00000000#32) := by
  unfold val0_10
  simp only [ops_part0_9, TRef.binary, TRef.unary, TRef.toBuf, TRef.ofBuf, cast_eq]
  after_results_simp
  all_goals rfl
set_option maxRecDepth 8192 in
set_option maxHeartbeats 2000000 in
theorem val0_10_main_v22 (V0 : Valuation τ sig (Elt F)) : val0_10 V0 (no_index (Proc.devRef .tc main_v22)) = res_main_v22 V0 := by
  unfold val0_10
  simp only [ops_part0_9, TRef.binary, TRef.unary, TRef.toBuf, TRef.ofBuf, cast_eq]
  after_results_simp
  simp only [val0_9_main_call0_v2, val0_9_main_call0_v30, val0_9_main_arg0] <;> rfl
set_option maxRecDepth 8192 in
set_option maxHeartbeats 2000000 in
theorem val0_10_main_v24 (V0 : Valuation τ sig (Elt F)) : val0_10 V0 (no_index (Proc.devRef .tc main_v24)) = res_main_v24 V0 := by
  unfold val0_10
  simp only [ops_part0_9, TRef.binary, TRef.unary, TRef.toBuf, TRef.ofBuf, cast_eq]
  after_results_simp
  simp only [val0_9_main_call0_v2, val0_9_main_call0_v30, val0_9_main_arg0] <;> rfl
set_option maxRecDepth 8192 in
set_option maxHeartbeats 2000000 in
theorem val0_10_main_v25 (V0 : Valuation τ sig (Elt F)) : val0_10 V0 (no_index (Proc.devRef .tc main_v25)) = Host.reduce FloatOps.maximumf (res_main_v24 V0) (constant S_ .f32 0xFF800000#32) reducesTo_S128x100000_S128_d1 h_S_ := by
  unfold val0_10
  simp only [ops_part0_9, TRef.binary, TRef.unary, TRef.toBuf, TRef.ofBuf, cast_eq]
  after_results_simp
  simp only [val0_9_main_call0_v2, val0_9_main_call0_v30, val0_9_main_arg0] <;> rfl
set_option maxRecDepth 8192 in
set_option maxHeartbeats 2000000 in
theorem val0_10_main_cst_10 (V0 : Valuation τ sig (Elt F)) : val0_10 V0 (no_index (Proc.devRef .tc main_cst_10)) = constant S_ .f32 0xFF800000#32 := by
  unfold val0_10
  simp only [ops_part0_9, TRef.binary, TRef.unary, TRef.toBuf, TRef.ofBuf, cast_eq]
  after_results_simp
  all_goals rfl

/-- The device's buffer contents after @main's first 1 window. -/
def val1 (V0 : Valuation τ sig (Elt F)) : Valuation τ sig (Elt F) := after ops_part0_10 (val0_10 V0)
/-- The buffers that window `ops_part0_10`'s operations write. -/
abbrev ops_part0_10_W : List (Ref sig .tc) := [main_v26, main_v27, main_v28, main_v29, main_v30, main_v31, main_cst_11, main_v32, main_v33, main_v34, main_v35, main_v36, main_cst_12, main_v37, main_v38, main_cst_13, main_v39, main_v40, main_v41, main_v42, main_cst_14]
set_option maxRecDepth 8192 in
theorem ops_part0_10_writes : (ops_part0_10 : List (HloOp τ sig (Elt F))).Forall fun op => op.writes ⊆ (ops_part0_10_W.map (Proc.devRef (τ := τ) .tc)).toFinset := by
  simp only [List.Forall]; repeat' apply And.intro
  all_goals (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `ops_part0_10` does not write keeps its contents through it. -/
theorem val1_keep (V0 : Valuation τ sig (Elt F)) (r : Ref sig .tc) (h : r ∉ ops_part0_10_W) :
    val1 V0 (Proc.devRef .tc r) = val0_10 V0 (Proc.devRef .tc r) :=
  after_of_writes_sub ops_part0_10 _ ops_part0_10_writes h
theorem val1_main_arg0 (V0 : Valuation τ sig (Elt F)) : val1 V0 (no_index (Proc.devRef .tc main_arg0)) = V0 (Proc.devRef .tc main_arg0) :=
  (val1_keep V0 main_arg0 (by decide)).trans (val0_10_main_arg0 V0)
set_option maxRecDepth 8192 in
set_option maxHeartbeats 2000000 in
theorem val1_main_v36 (V0 : Valuation τ sig (Elt F)) : val1 V0 (no_index (Proc.devRef .tc main_v36)) = addf (broadcastInDim S128x100000 ![] bcast_S_S128x100000 (constant S_ .f32 0x00000000#32)) (res_main_v35 V0) := by
  unfold val1
  simp only [ops_part0_10]
  after_results_simp
  simp only [val0_10_main_v25, val0_10_main_cst_10, val0_10_main_v24, val0_10_main_v15] <;> rfl
set_option maxRecDepth 8192 in
set_option maxHeartbeats 2000000 in
theorem val1_main_v42 (V0 : Valuation τ sig (Elt F)) : val1 V0 (no_index (Proc.devRef .tc main_v42)) = addf (res_main_v22 V0) (Host.log (maximumf (subf (broadcastInDim S128x100000 ![] bcast_S_S128x100000 (constant S_ .f32 0x3F800000#32)) (res_main_v35 V0)) (broadcastInDim S128x100000 ![] bcast_S_S128x100000 (constant S_ .f32 0x00800000#32)))) := by
  unfold val1
  simp only [ops_part0_10]
  after_results_simp
  simp only [val0_10_main_v25, val0_10_main_cst_10, val0_10_main_v24, val0_10_main_v22] <;> rfl
set_option maxRecDepth 8192 in
set_option maxHeartbeats 2000000 in
theorem val1_main_cst_14 (V0 : Valuation τ sig (Elt F)) : val1 V0 (no_index (Proc.devRef .tc main_cst_14)) = constant S_ .f32 0x3F800000#32 := by
  unfold val1
  simp only [ops_part0_10]
  after_results_simp
  all_goals rfl

/-- The device's buffer contents after @main's first 2 windows. -/
def val2 (V0 : Valuation τ sig (Elt F)) : Valuation τ sig (Elt F) := after ops_part1 (val1 V0)
/-- The buffers that window `main_part1`'s operations write. -/
abbrev ops_part1_W : List (Ref sig .tc) := [main_v43, main_v44, main_cst_15, main_v45, main_cst_16, main_v46, main_v47, main_v48, main_v49, main_v50, main_v51, main_cst_17, main_v52, main_v53, main_v54, main_v55, main_v56, main_values, main_indices, main_v57, main_v58, main_cst_18, main_v59, main_c_19, main_v60, main_v61, main_c_20, main_v62, main_v63, main_v64, main_c_21, main_v65, main_v66, main_c_22, main_v67, main_v68, main_v69, main_v70, main_v71, main_v72, main_v73, main_cst_23, main_v74, main_v75, main_v76, main_v77]
set_option maxRecDepth 8192 in
theorem ops_part1_writes : (ops_part1 : List (HloOp τ sig (Elt F))).Forall fun op => op.writes ⊆ (ops_part1_W.map (Proc.devRef (τ := τ) .tc)).toFinset := by
  simp only [List.Forall]; repeat' apply And.intro
  all_goals (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `main_part1` does not write keeps its contents through it. -/
theorem val2_keep (V0 : Valuation τ sig (Elt F)) (r : Ref sig .tc) (h : r ∉ ops_part1_W) :
    val2 V0 (Proc.devRef .tc r) = val1 V0 (Proc.devRef .tc r) :=
  after_of_writes_sub ops_part1 _ ops_part1_writes h
theorem val2_main_arg0 (V0 : Valuation τ sig (Elt F)) : val2 V0 (no_index (Proc.devRef .tc main_arg0)) = V0 (Proc.devRef .tc main_arg0) :=
  (val2_keep V0 main_arg0 (by decide)).trans (val1_main_arg0 V0)
set_option maxRecDepth 8192 in
set_option maxHeartbeats 2000000 in
theorem val2_main_v77 (V0 : Valuation τ sig (Elt F)) : val2 V0 (no_index (Proc.devRef .tc main_v77)) = addf (subf (Host.scatter scatter_S128x100000_S128x2x2_S128x2_n_01_01_2 (fun _ b => b) (broadcastInDim S128x100000 ![] bcast_S_S128x100000 (constant S_ .f32 0x00000000#32)) (concatenate S128x2x2 2 [⟨S128x2x1, (broadcastInDim S128x2x1 ![0, 1] bcast_S128x2_S128x2x1_0_1 (broadcastInDim S128x2 ![0, 1] bcast_S128x1_S128x2_0_1 (select (cmpi .slt (res_main_v58 V0) (broadcastInDim S128x1 ![] bcast_S_S128x1 (constantI S_ 32 0#32))) (addi (res_main_v58 V0) (broadcastInDim S128x1 ![] bcast_S_S128x1 (constantI S_ 32 128#32))) (res_main_v58 V0))))⟩, ⟨S128x2x1, (broadcastInDim S128x2x1 ![0, 1] bcast_S128x2_S128x2x1_0_1 (select (cmpi .slt (res_main_indices V0) (broadcastInDim S128x2 ![] bcast_S_S128x2 (constantI S_ 32 0#32))) (addi (res_main_indices V0) (broadcastInDim S128x2 ![] bcast_S_S128x2 (constantI S_ 32 100000#32))) (res_main_indices V0)))⟩] concatenates_S128x2x1_S128x2x1_S128x2x2_d2) (broadcastInDim S128x2 ![] bcast_S_S128x2 (constant S_ .f32 0x3F800000#32))) (res_main_v56 V0)) (res_main_v56 V0) := by
  unfold val2
  simp only [ops_part1]
  after_results_simp
  simp only [val1_main_cst_14, val1_main_v42, val1_main_v36] <;> rfl

theorem after_ops (V0 : Valuation τ sig (Elt F)) : after ops V0 = val2 V0 := by
  simp only [ops, ops_part0, after_append]
  rfl

set_option maxRecDepth 8192 in
/-- On every device, for any float values, from any memory with zero counters: every weakly fair execution of
    @main terminates with each result at the operations' composed term of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v77) = addf (subf (Host.scatter scatter_S128x100000_S128x2x2_S128x2_n_01_01_2 (fun _ b => b) (broadcastInDim S128x100000 ![] bcast_S_S128x100000 (constant S_ .f32 0x00000000#32)) (concatenate S128x2x2 2 [⟨S128x2x1, (broadcastInDim S128x2x1 ![0, 1] bcast_S128x2_S128x2x1_0_1 (broadcastInDim S128x2 ![0, 1] bcast_S128x1_S128x2_0_1 (select (cmpi .slt (res_main_v58 (launchContents m c)) (broadcastInDim S128x1 ![] bcast_S_S128x1 (constantI S_ 32 0#32))) (addi (res_main_v58 (launchContents m c)) (broadcastInDim S128x1 ![] bcast_S_S128x1 (constantI S_ 32 128#32))) (res_main_v58 (launchContents m c)))))⟩, ⟨S128x2x1, (broadcastInDim S128x2x1 ![0, 1] bcast_S128x2_S128x2x1_0_1 (select (cmpi .slt (res_main_indices (launchContents m c)) (broadcastInDim S128x2 ![] bcast_S_S128x2 (constantI S_ 32 0#32))) (addi (res_main_indices (launchContents m c)) (broadcastInDim S128x2 ![] bcast_S_S128x2 (constantI S_ 32 100000#32))) (res_main_indices (launchContents m c))))⟩] concatenates_S128x2x1_S128x2x1_S128x2x2_d2) (broadcastInDim S128x2 ![] bcast_S_S128x2 (constant S_ .f32 0x3F800000#32))) (res_main_v56 (launchContents m c))) (res_main_v56 (launchContents m c))
      ∧ r.2.mem ((c.tc : Thread nD τ).loc main_arg0) = m ((c.tc : Thread nD τ).loc main_arg0) :=
  (θ_run defs _ _).mono (fun _ h c => ⟨(h c main_v77).trans ((congrFun (after_ops (launchContents m c)) (Proc.devRef .tc main_v77)).trans (val2_main_v77 (launchContents m c))),
      (h c main_arg0).trans ((congrFun (after_ops (launchContents m c)) (Proc.devRef .tc main_arg0)).trans (val2_main_arg0 (launchContents m c)))⟩)
    (run_seq scopedRefs_eq scopedSems_eq defs main (fun _ => ops) main_eq (fun _ => ops_sub) m ρ fun _ => ops_fresh)

end Cert.ReferenceIdeal.RefRun

end
-- ==== Proof.RefHash.lean ====
/- The reference's random words: at every position, the hash of its flat place. -/
module

public import proofs.«01_k».proof.Proof.RefRes
public import proofs.«01_k».proof.Proof.Total

@[expose] public section

set_option maxRecDepth 16384

noncomputable section

namespace Cert.ReferenceIdeal.Hand

open Cert.ReferenceIdeal Cert.ReferenceIdeal.Gen Cert.ReferenceIdeal.RefRun Cert.Top2
open Idealize.ShloMosaic Idealize.ShloMosaic.TcCoe Idealize.SL.Sem Idealize.ShloMosaic.StableHlo

/-- A scalar spread over the array. -/
abbrev spread (x : IVec S_ 32) : IVec S128x100000 32 := broadcastInDim S128x100000 ![] bcast_S_S128x100000 x

/-- A rotation of every word of an array. -/
abbrev turn (r s : BitVec 32) (B : IVec S128x100000 32) : IVec S128x100000 32 :=
  ori (Host.shli B (spread (constantI S_ 32 r))) (Host.shrui B (spread (constantI S_ 32 s)))

/-- The arrays holding a pair of words at a position: the sum of the two, and the second. -/
def At (S B : IVec S128x100000 32) (j : S128x100000.Idx) (p : BitVec 32 × BitVec 32) : Prop := S j = p.1 + p.2 ∧ B j = p.2

theorem turn_at (r s : BitVec 32) (hr : r.toNat < 32) (hs : s.toNat < 32) (B : IVec S128x100000 32) (j : S128x100000.Idx) :
    turn r s B j = (B j <<< r) ||| (B j >>> s) := by
  show IntOp.shli .host (B j) r ||| IntOp.shrui .host (B j) s = _
  unfold IntOp.shli IntOp.shrui
  rw [if_pos hr, if_pos hs]

/-- One round. -/
theorem round {S B : IVec S128x100000 32} {j : S128x100000.Idx} {p : BitVec 32 × BitVec 32} (h : At S B j p)
    (r s : BitVec 32) (hr : r.toNat < 32) (hs : s.toNat < 32) :
    At (addi S (xori S (turn r s B))) (xori S (turn r s B)) j (mix r s p) := by
  have hb : xori S (turn r s B) j = (mix r s p).2 := by
    show S j ^^^ turn r s B j = _
    rw [turn_at r s hr hs, h.1, h.2, BitVec.xor_comm]
    rfl
  refine ⟨?_, hb⟩
  show S j + xori S (turn r s B) j = _
  rw [hb, h.1]
  rfl

/-- The last round of a group with the key injection after it. -/
theorem group {S B : IVec S128x100000 32} {j : S128x100000.Idx} {p : BitVec 32 × BitVec 32} (h : At S B j p)
    (r s : BitVec 32) (hr : r.toNat < 32) (hs : s.toNat < 32) (a b : IVec S_ 32) (a' b' n : BitVec 32)
    (ha : ∀ i, a i = a') (hb : ∀ i, b i = b') :
    At (addi (addi S (spread a)) (addi (addi (xori S (turn r s B)) (spread b)) (spread (constantI S_ 32 n))))
      (addi (addi (xori S (turn r s B)) (spread b)) (spread (constantI S_ 32 n))) j (inj a' b' n (mix r s p)) := by
  have hx : xori S (turn r s B) j = (mix r s p).2 := (round h r s hr hs).2
  have h2 : addi (addi (xori S (turn r s B)) (spread b)) (spread (constantI S_ 32 n)) j = (inj a' b' n (mix r s p)).2 := by
    show xori S (turn r s B) j + spread b j + n = _
    rw [hx, show spread b j = b' from hb _]
    rfl
  refine ⟨?_, h2⟩
  show S j + spread a j + addi (addi (xori S (turn r s B)) (spread b)) (spread (constantI S_ 32 n)) j = _
  rw [h2, h.1, show spread a j = a' from ha _]
  rfl

variable (V0 : Valuation τ sig (Elt Ideal))

/-- The key's high word. -/
theorem key_hi (i : S_.Idx) : res_main_call0_v5 V0 i = 0#32 := by
  unfold res_main_call0_v5 res_main_v6 shapeCast extractStridedSlice
  refine (concatenate_pair_apply_left (s₁ := S1) (s₂ := S1) (0 : Fin S2.rank) _ _ _ _ rfl (ValueIdx.ix1 (0 : Fin 1) : S1.Idx) fun b => ?_).trans ?_
  · match b with
    | ⟨0, _⟩ =>
      have h : (Shape.reshapeEquiv shapeCasts_S1_S_ i 0).val < 1 := (Shape.reshapeEquiv shapeCasts_S1_S_ i 0).isLt
      show 0 = 0 + (Shape.reshapeEquiv shapeCasts_S1_S_ i 0).val
      omega
  · show IntOp.shrui .host 42#32 32#32 = 0#32
    decide

/-- The key's low word. -/
theorem key_lo (i : S_.Idx) : res_main_call0_v7 V0 i = 42#32 := by
  unfold res_main_call0_v7 res_main_v6 shapeCast extractStridedSlice
  refine (concatenate_pair_apply_right (s₁ := S1) (s₂ := S1) (0 : Fin S2.rank) _ _ _ _ rfl rfl (ValueIdx.ix1 (0 : Fin 1) : S1.Idx) (fun b hb => ?_) ?_).trans ?_
  · match b with
    | ⟨0, _⟩ => exact absurd rfl hb
  · have h : (Shape.reshapeEquiv shapeCasts_S1_S_ i 0).val < 1 := (Shape.reshapeEquiv shapeCasts_S1_S_ i 0).isLt
    show 0 + 1 = 1 + (Shape.reshapeEquiv shapeCasts_S1_S_ i 0).val
    omega
  · show IntOp.andi 42#32 4294967295#32 = 42#32
    decide

theorem key_mix (i : S_.Idx) : res_main_call0_call0_v1 V0 i = 466689008#32 := by
  show IntOp.xori (IntOp.xori (res_main_call0_v5 V0 i) (res_main_call0_v7 V0 i)) 466688986#32 = _
  rw [key_hi, key_lo]; decide

/-- A position's flat place. -/
theorem place (j : S128x100000.Idx) :
    res_main_call0_v14 V0 j = BitVec.ofNat 64 ((j 0).val * 100000 + (j 1).val) := by
  show 100000#64 * BitVec.ofNat 64 (j 0).val + 1#64 * BitVec.ofNat 64 (j 1).val = _
  apply BitVec.eq_of_toNat_eq
  simp [BitVec.toNat_add, BitVec.toNat_mul]
  omega

theorem place_lt (j : S128x100000.Idx) : (j 0).val * 100000 + (j 1).val < 12800000 := by
  have h0 : (j 0).val < 128 := (j 0).isLt
  have h1 : (j 1).val < 100000 := (j 1).isLt
  omega

/-- The first pair: zero and the keyed place. -/
theorem start (j : S128x100000.Idx) :
    At (res_main_call0_call0_v6 V0) (res_main_call0_call0_v5 V0) j
      (0#32, BitVec.ofNat 32 ((j 0).val * 100000 + (j 1).val) + 42#32) := by
  have hp := place V0 j
  have hl := place_lt j
  have h5 : res_main_call0_call0_v5 V0 j = BitVec.ofNat 32 ((j 0).val * 100000 + (j 1).val) + 42#32 := by
    show (res_main_call0_v14 V0 j).setWidth 32 + spread (res_main_call0_v7 V0) j = _
    rw [hp, show spread (res_main_call0_v7 V0) j = 42#32 from key_lo V0 _]
    refine congrArg (· + 42#32) (BitVec.eq_of_toNat_eq ?_)
    simp
  refine ⟨?_, h5⟩
  show ((IntOp.shrui .host (res_main_call0_v14 V0 j) 32#64).setWidth 32 + spread (res_main_call0_v5 V0) j) + res_main_call0_call0_v5 V0 j = _
  rw [h5, hp, show spread (res_main_call0_v5 V0) j = 0#32 from key_hi V0 _]
  refine congrArg (· + _) ?_
  show (IntOp.shrui .host (BitVec.ofNat 64 ((j 0).val * 100000 + (j 1).val)) 32#64).setWidth 32 + 0#32 = 0#32
  unfold IntOp.shrui
  rw [if_pos (by decide)]
  apply BitVec.eq_of_toNat_eq
  simp [BitVec.toNat_ushiftRight, Nat.shiftRight_eq_div_pow]
  omega

variable (j : S128x100000.Idx) (p : BitVec 32 × BitVec 32)

theorem group1 (h : At (res_main_call0_call0_v6 V0) (res_main_call0_call0_v5 V0) j p) :
    At (res_main_call0_call0_v40 V0) (res_main_call0_call0_v39 V0) j (inj 42#32 466689008#32 1#32 (even p)) := by
  have h1 : At (res_main_call0_call0_v13 V0) (res_main_call0_call0_v12 V0) j _ := round h 13#32 19#32 (by decide) (by decide)
  have h2 : At (res_main_call0_call0_v20 V0) (res_main_call0_call0_v19 V0) j _ := round h1 15#32 17#32 (by decide) (by decide)
  have h3 : At (res_main_call0_call0_v27 V0) (res_main_call0_call0_v26 V0) j _ := round h2 26#32 6#32 (by decide) (by decide)
  exact group h3 6#32 26#32 (by decide) (by decide) _ _ _ _ 1#32 (key_lo V0) (key_mix V0)

theorem group2 (h : At (res_main_call0_call0_v40 V0) (res_main_call0_call0_v39 V0) j p) :
    At (res_main_call0_call0_v74 V0) (res_main_call0_call0_v73 V0) j (inj 466689008#32 0#32 2#32 (odd p)) := by
  have h1 : At (res_main_call0_call0_v47 V0) (res_main_call0_call0_v46 V0) j _ := round h 17#32 15#32 (by decide) (by decide)
  have h2 : At (res_main_call0_call0_v54 V0) (res_main_call0_call0_v53 V0) j _ := round h1 29#32 3#32 (by decide) (by decide)
  have h3 : At (res_main_call0_call0_v61 V0) (res_main_call0_call0_v60 V0) j _ := round h2 16#32 16#32 (by decide) (by decide)
  exact group h3 24#32 8#32 (by decide) (by decide) _ _ _ _ 2#32 (key_mix V0) (key_hi V0)

theorem group3 (h : At (res_main_call0_call0_v74 V0) (res_main_call0_call0_v73 V0) j p) :
    At (res_main_call0_call0_v108 V0) (res_main_call0_call0_v107 V0) j (inj 0#32 42#32 3#32 (even p)) := by
  have h1 : At (res_main_call0_call0_v81 V0) (res_main_call0_call0_v80 V0) j _ := round h 13#32 19#32 (by decide) (by decide)
  have h2 : At (res_main_call0_call0_v88 V0) (res_main_call0_call0_v87 V0) j _ := round h1 15#32 17#32 (by decide) (by decide)
  have h3 : At (res_main_call0_call0_v95 V0) (res_main_call0_call0_v94 V0) j _ := round h2 26#32 6#32 (by decide) (by decide)
  exact group h3 6#32 26#32 (by decide) (by decide) _ _ _ _ 3#32 (key_hi V0) (key_lo V0)

theorem group4 (h : At (res_main_call0_call0_v108 V0) (res_main_call0_call0_v107 V0) j p) :
    At (res_main_call0_call0_v142 V0) (res_main_call0_call0_v141 V0) j (inj 42#32 466689008#32 4#32 (odd p)) := by
  have h1 : At (res_main_call0_call0_v115 V0) (res_main_call0_call0_v114 V0) j _ := round h 17#32 15#32 (by decide) (by decide)
  have h2 : At (res_main_call0_call0_v122 V0) (res_main_call0_call0_v121 V0) j _ := round h1 29#32 3#32 (by decide) (by decide)
  have h3 : At (res_main_call0_call0_v129 V0) (res_main_call0_call0_v128 V0) j _ := round h2 16#32 16#32 (by decide) (by decide)
  exact group h3 24#32 8#32 (by decide) (by decide) _ _ _ _ 4#32 (key_lo V0) (key_mix V0)

/-- The random word, as the reference combines the last pair. -/
def bits : IVec S128x100000 32 :=
  xori (addi (res_main_call0_call0_v163 V0) (spread (res_main_call0_call0_v1 V0)))
    (addi (addi (xori (res_main_call0_call0_v163 V0) (turn 6#32 26#32 (res_main_call0_call0_v162 V0))) (spread (res_main_call0_v5 V0)))
      (spread (constantI S_ 32 5#32)))

theorem group5 (h : At (res_main_call0_call0_v142 V0) (res_main_call0_call0_v141 V0) j p) :
    bits V0 j = (inj 466689008#32 0#32 5#32 (even p)).1 ^^^ (inj 466689008#32 0#32 5#32 (even p)).2 := by
  have h1 : At (res_main_call0_call0_v149 V0) (res_main_call0_call0_v148 V0) j _ := round h 13#32 19#32 (by decide) (by decide)
  have h2 : At (res_main_call0_call0_v156 V0) (res_main_call0_call0_v155 V0) j _ := round h1 15#32 17#32 (by decide) (by decide)
  have h3 : At (res_main_call0_call0_v163 V0) (res_main_call0_call0_v162 V0) j _ := round h2 26#32 6#32 (by decide) (by decide)
  have h4 := group h3 6#32 26#32 (by decide) (by decide) (res_main_call0_call0_v1 V0) (res_main_call0_v5 V0) _ _ 5#32 (key_mix V0) (key_hi V0)
  show IntOp.xori (IntOp.addi (res_main_call0_call0_v163 V0 j) (spread (res_main_call0_call0_v1 V0) j)) _ = _
  rw [h4.2, h3.1, show spread (res_main_call0_call0_v1 V0) j = 466689008#32 from key_mix V0 _]
  rfl

/-- The random word at a position. -/
theorem bits_eq : bits V0 j = word (BitVec.ofNat 32 ((j 0).val * 100000 + (j 1).val)) :=
  group5 V0 j _ (group4 V0 j _ (group3 V0 j _ (group2 V0 j _ (group1 V0 j _ (start V0 j)))))

end Cert.ReferenceIdeal.Hand

end
-- ==== Proof.Soft.lean ====
/- Two relaxed picks of a row keep its order: the sum of the two softmaxes grows with the score. -/
module

public import Mathlib.Analysis.SpecialFunctions.Log.Basic
public import Mathlib.Analysis.SpecialFunctions.Exp
public import Mathlib.Algebra.BigOperators.Field
public import Mathlib.Tactic.Linarith

@[expose] public section

noncomputable section

namespace Cert.Top2

variable {n : ℕ}

/-- A softmax shifted by a constant. -/
def soft (s : Fin n → ℝ) (M : ℝ) (i : Fin n) : ℝ := Real.exp (s i - M) / ∑ j, Real.exp (s j - M)

theorem denom_pos (s : Fin n → ℝ) (M : ℝ) (i : Fin n) : 0 < ∑ j, Real.exp (s j - M) :=
  lt_of_lt_of_le (Real.exp_pos _) (Finset.single_le_sum (f := fun j => Real.exp (s j - M)) (fun j _ => (Real.exp_pos _).le) (Finset.mem_univ i))

theorem soft_pos (s : Fin n → ℝ) (M : ℝ) (i : Fin n) : 0 < soft s M i := div_pos (Real.exp_pos _) (denom_pos s M i)

theorem soft_mono (s : Fin n → ℝ) (M : ℝ) {i j : Fin n} (h : s i ≤ s j) : soft s M i ≤ soft s M j :=
  div_le_div_of_nonneg_right (Real.exp_le_exp.2 (sub_le_sub_right h M)) (denom_pos s M i).le

theorem soft_strict (s : Fin n → ℝ) (M : ℝ) {i j : Fin n} (h : s i < s j) : soft s M i < soft s M j :=
  div_lt_div_of_pos_right (Real.exp_lt_exp.2 (sub_lt_sub_right h M)) (denom_pos s M i)

theorem soft_sum (s : Fin n → ℝ) (M : ℝ) (i : Fin n) : ∑ j, soft s M j = 1 := by
  unfold soft
  rw [← Finset.sum_div]
  exact div_self (denom_pos s M i).ne'

theorem soft_pair (s : Fin n → ℝ) (M : ℝ) {i j : Fin n} (h : i ≠ j) : soft s M i + soft s M j ≤ 1 := by
  rw [← soft_sum s M i, ← Finset.sum_pair h]
  exact Finset.sum_le_sum_of_subset_of_nonneg (Finset.subset_univ _) fun k _ _ => (soft_pos s M k).le

/-- A value after the first pick: its logarithmic distance from being picked added, not below `T`. -/
def next (s : Fin n → ℝ) (M T : ℝ) (i : Fin n) : ℝ := s i + Real.log (max (1 - soft s M i) T)

theorem next_mono (s : Fin n → ℝ) (M T : ℝ) (hT : 0 < T) {i j : Fin n} (h : s i < s j) : next s M T i ≤ next s M T j := by
  have hne : i ≠ j := fun e => absurd h (e ▸ lt_irrefl _)
  have hp := soft_strict s M h
  have hs := soft_pair s M hne
  have hi := soft_pos s M i
  have hw : soft s M i * max (1 - soft s M i) T ≤ soft s M j * max (1 - soft s M j) T := by
    rcases max_cases (1 - soft s M i) T with ⟨e, _⟩ | ⟨e, _⟩ <;> rw [e]
    · have h1 : soft s M i * (1 - soft s M i) ≤ soft s M j * (1 - soft s M j) := by
        nlinarith [mul_nonneg (sub_nonneg.2 hp.le) (sub_nonneg.2 hs)]
      exact h1.trans (mul_le_mul_of_nonneg_left (le_max_left _ _) (hi.trans hp).le)
    · exact (mul_le_mul_of_nonneg_right hp.le hT.le).trans (mul_le_mul_of_nonneg_left (le_max_right _ _) (hi.trans hp).le)
  have hd := denom_pos s M i
  have ei : ∀ k, Real.exp (next s M T k) = soft s M k * max (1 - soft s M k) T * (Real.exp M * ∑ j, Real.exp (s j - M)) := fun k => by
    have hm : 0 < max (1 - soft s M k) T := lt_of_lt_of_le hT (le_max_right _ _)
    unfold next
    rw [Real.exp_add, Real.exp_log hm]
    have : soft s M k * (Real.exp M * ∑ j, Real.exp (s j - M)) = Real.exp (s k) := by
      unfold soft
      rw [div_mul_eq_mul_div, div_eq_iff hd.ne', ← mul_assoc, ← Real.exp_add, sub_add_cancel]
    rw [← this]; ring
  rw [← Real.exp_le_exp, ei, ei]
  exact mul_le_mul_of_nonneg_right hw (mul_pos (Real.exp_pos _) hd).le

/-- The relaxed picks in the order of the scores. -/
theorem relaxed_lt_iff (s : Fin n → ℝ) (M M' T : ℝ) (hT : 0 < T) (i j : Fin n) :
    soft s M i + soft (next s M T) M' i < soft s M j + soft (next s M T) M' j ↔ s i < s j := by
  have up : ∀ i j, s i < s j → soft s M i + soft (next s M T) M' i < soft s M j + soft (next s M T) M' j := fun i j h =>
    add_lt_add_of_lt_of_le (soft_strict s M h) (soft_mono _ M' (next_mono s M T hT h))
  refine ⟨fun h => ?_, up i j⟩
  rcases lt_trichotomy (s i) (s j) with h' | h' | h'
  · exact h'
  · have e : soft s M i = soft s M j := by unfold soft; rw [h']
    have e' : next s M T i = next s M T j := by unfold next; rw [h', e]
    have e'' : soft (next s M T) M' i = soft (next s M T) M' j := by unfold soft; rw [e']
    rw [e, e''] at h; exact absurd h (lt_irrefl _)
  · exact absurd (h.trans (up j i h')) (lt_irrefl _)

end Cert.Top2

end
-- ==== Proof.RefSoft.lean ====
/- The reference's values: the scores with their noise, and the two relaxed picks of a row as reals. -/
module

public import proofs.«01_k».proof.Proof.RefHash
public import proofs.«01_k».proof.Proof.Soft
public import proofs.«01_k».proof.Proof.Folds

@[expose] public section

set_option maxRecDepth 16384

noncomputable section

namespace Cert.ReferenceIdeal.Hand

open Cert.ReferenceIdeal Cert.ReferenceIdeal.Gen Cert.ReferenceIdeal.RefRun Cert.Top2
open Idealize.ShloMosaic Idealize.ShloMosaic.TcCoe Idealize.SL.Sem Idealize.ShloMosaic.StableHlo

variable (V0 : Valuation τ sig (Elt Ideal))

/-- The scores. -/
abbrev arg : Grid.Idx → EReal := V0 (Proc.devRef .tc main_arg0)

/-- The logarithm of the smallest normal number against one is nothing. -/
theorem log_one : Ideal.log (max (1 - 0) tiny) = 0 := by
  have h : max (1 - 0 : EReal) tiny = ((1 : ℝ) : EReal) := by
    rw [sub_zero, tiny_eq]
    exact max_eq_left (by exact_mod_cast tiny_lt_one.le)
  rw [h, log_coe_pos one_pos, Real.log_one]; rfl

/-- A draw is not below zero, so a floor of zero changes nothing. -/
theorem floor_zero (b : BitVec 32) : max (max 0 (uni b * (1 - 0) + 0)) tiny = max tiny (uni b) := by
  obtain ⟨u, hu, h0, h1⟩ := uni_real b
  rw [sub_zero, mul_one, add_zero, max_comm tiny]
  congr 1
  exact max_eq_right (by rw [hu]; exact_mod_cast h0)

section Pointwise

variable {s : Shape} {t : Shape} (x y : FVec Ideal s .f32) (j : s.Idx)

theorem add_at : addf x y j = x j + y j := rfl
theorem sub_at : subf x y j = x j - y j := rfl
theorem mul_at : mulf x y j = x j * y j := rfl
theorem max_at : maximumf x y j = max (x j) (y j) := rfl
theorem neg_at : Host.negf x j = -x j := rfl
theorem log_at : Host.log x j = Ideal.log (x j) := rfl
theorem exp_at : Host.exp x j = Ideal.exp (x j) := rfl
theorem div_at : Host.divf x y j = Ideal.div (x j) (y j) := rfl
theorem const_at (b : BitVec 32) (h : S_.BroadcastsInDim s (![] : Fin 0 → Fin s.rank)) :
    broadcastInDim s ![] h (constant (F := Ideal) S_ .f32 b) j = Ideal.ofBits .f32 b := rfl

end Pointwise

/-- The uniform draws of an array of random words. -/
def draws (b : IVec S128x100000 32) : FVec Ideal S128x100000 .f32 :=
  subf (bitcastToFloat (F := Ideal) .f32 (ori (Host.shrui b (spread (constantI S_ 32 9#32))) (spread (constantI S_ 32 1065353216#32))))
    (broadcastInDim S128x100000 ![] bcast_S_S128x100000 (constant S_ .f32 0x3F800000#32))

theorem draws_at (b : IVec S128x100000 32) (j : S128x100000.Idx) : draws b j = uni (b j) := by
  have h : IntOp.shrui .host (b j) 9#32 = b j >>> 9#32 := by unfold IntOp.shrui; rw [if_pos (by decide)]
  unfold draws uni
  rw [sub_at, const_at, ← h]
  rfl

/-- A one by one array spread over the grid. -/
abbrev cell (z : FVec Ideal S1x1 .f32) : FVec Ideal S128x100000 .f32 :=
  broadcastInDim S128x100000 ![0, 1] bcast_S1x1_S128x100000_0_1 z

/-- The values the reference forms of the scores and the draws. -/
def noisy (a u : FVec Ideal S128x100000 .f32) (z o : FVec Ideal S1x1 .f32) : FVec Ideal S128x100000 .f32 :=
  addf (addf a (Host.negf (Host.log (Host.negf (Host.log (maximumf (maximumf (cell z)
    (addf (mulf u (cell (subf o z))) (cell z))) (broadcastInDim S128x100000 ![] bcast_S_S128x100000 (constant S_ .f32 0x00800000#32))))))))
    (Host.log (maximumf (subf (broadcastInDim S128x100000 ![] bcast_S_S128x100000 (constant S_ .f32 0x3F800000#32))
      (broadcastInDim S128x100000 ![] bcast_S_S128x100000 (constant S_ .f32 0x00000000#32)))
      (broadcastInDim S128x100000 ![] bcast_S_S128x100000 (constant S_ .f32 0x00800000#32))))

theorem noisy_at (a u : FVec Ideal S128x100000 .f32) (z o : FVec Ideal S1x1 .f32) (hz : ∀ i, z i = 0) (ho : ∀ i, o i = 1)
    (j : S128x100000.Idx) (b : BitVec 32) (hu : u j = uni b) : noisy a u z o j = a j + gum b := by
  have hc : cell z j = 0 := hz _
  have hd : cell (subf o z) j = 1 - 0 := by
    refine (sub_at o z _).trans ?_
    rw [hz, ho]
  unfold noisy
  rw [add_at, add_at, neg_at, log_at, neg_at, log_at, log_at, max_at, max_at, max_at, add_at, mul_at, sub_at, const_at, const_at, const_at, hc, hd, hu,
    one_eq, zero_eq]
  show a j + -Ideal.log (-Ideal.log (max (max 0 (uni b * (1 - 0) + 0)) tiny)) + Ideal.log (max (1 - 0) tiny) = _
  rw [floor_zero, log_one, add_zero]
  rfl

theorem v22_split : res_main_v22 V0 = noisy (arg V0) (draws (bits V0)) (res_main_call0_v2 V0)
    (broadcastInDim S1x1 ![] bcast_S_S1x1 (id (constant S_ .f32 0x3F800000#32))) := by
  unfold res_main_v22 noisy draws bits
  with_reducible rfl

/-- The value at a position: the score with the noise of its place. -/
theorem v22_eq (R : Fin 128) (C : Fin 100000) : res_main_v22 V0 (ValueIdx.ix2 R C) = total (arg V0) R C.val := by
  rw [v22_split]
  refine (noisy_at (arg V0) _ _ _ (fun i => ?_) (fun i => ?_) _ _ ((draws_at _ _).trans (congrArg uni (bits_eq V0 _)))).trans ?_
  · unfold res_main_call0_v2
    exact (const_at i _ _).trans zero_eq
  · exact (const_at i _ _).trans one_eq
  · unfold total
    rw [dif_pos C.isLt]

theorem reduces_row : S128x100000.Reduces [1] S128 := by decide

theorem lift_row (R : Fin 128) (C : Fin 100000) : reduces_row.lift (ValueIdx.ix1 R) C = ValueIdx.ix2 R C := by
  funext a
  match a with
  | ⟨0, _⟩ => rfl
  | ⟨1, _⟩ => rfl

/-- A row's value spread over the row. -/
abbrev across (v : S128.Idx → EReal) : S128x100000.Idx → EReal :=
  broadcastInDim S128x100000 ![0, 1] bcast_S128x1_S128x100000_0_1 (broadcastInDim S128x1 ![0] bcast_S128_S128x1_0 v)

theorem across_at (v : S128.Idx → EReal) (R : Fin 128) (C : Fin 100000) : across v (ValueIdx.ix2 R C) = v (ValueIdx.ix1 R) := by
  refine congrArg v (funext fun a => ?_)
  match a with
  | ⟨0, _⟩ => rfl

/-- The exponentials of an array's rows, each less its greatest. -/
abbrev exps (x : FVec Ideal S128x100000 .f32) : FVec Ideal S128x100000 .f32 :=
  Host.exp (subf x (across (maximumf (broadcastInDim S128 ![] bcast_S_S128 (constant S_ .f32 0xFF800000#32))
    (Host.reduce FloatOps.maximumf x (constant S_ .f32 0xFF800000#32) reducesTo_S128x100000_S128_d1 h_S_))))

/-- The softmax of an array's rows. -/
abbrev softs (x : FVec Ideal S128x100000 .f32) : FVec Ideal S128x100000 .f32 :=
  Host.divf (exps x) (across (Host.reduceAdd (exps x) (constant S_ .f32 0x00000000#32) reducesTo_S128x100000_S128_d1 h_S_))

theorem coe_sum {ι : Type} (S : Finset ι) (f : ι → ℝ) : ∑ i ∈ S, (f i : EReal) = ((∑ i ∈ S, f i : ℝ) : EReal) := by
  classical
  induction S using Finset.induction_on with
  | empty => simp
  | insert a S ha ih => rw [Finset.sum_insert ha, Finset.sum_insert ha, ih, EReal.coe_add]

/-- A row's greatest value is real. -/
theorem exps_at (x : FVec Ideal S128x100000 .f32) (R : Fin 128) (s : Fin 100000 → ℝ)
    (hx : ∀ C, x (ValueIdx.ix2 R C) = (s C : EReal)) :
    ∃ M : ℝ, ∀ C, exps x (ValueIdx.ix2 R C) = (Real.exp (s C - M) : EReal) := by
  obtain ⟨l, hl, -⟩ := fold_max (n := 100000) (by norm_num) fun C => (s C : EReal)
  have hr : Host.reduce FloatOps.maximumf x (constant S_ .f32 0xFF800000#32) reducesTo_S128x100000_S128_d1 h_S_ (ValueIdx.ix1 R) = (s l : EReal) := by
    refine (Host.reduce_eq_fold_single FloatOps.maximumf x _ reducesTo_S128x100000_S128_d1 reduces_row h_S_ (ValueIdx.ix1 R)).trans ?_
    have e : (x ∘ reduces_row.lift (ValueIdx.ix1 R)) = fun C : Fin 100000 => (s C : EReal) := by
      funext C
      exact (congrArg x (lift_row R C)).trans (hx C)
    rw [e]
    exact (congrArg (fun b => (Finset.univ : Finset (Fin 100000)).fold max b (fun C => (s C : EReal))) bot_eq).trans hl
  refine ⟨s l, fun C => ?_⟩
  have hm : maximumf (F := Ideal) (φ := .f32) (broadcastInDim S128 ![] bcast_S_S128 (constant S_ .f32 0xFF800000#32))
    (Host.reduce FloatOps.maximumf x (constant S_ .f32 0xFF800000#32) reducesTo_S128x100000_S128_d1 h_S_) (ValueIdx.ix1 R) = (s l : EReal) := by
    rw [max_at, const_at, bot_eq, hr]; exact max_eq_right bot_le
  unfold exps
  rw [exp_at, sub_at, across_at, hm, hx, ← EReal.coe_sub]
  rfl

theorem div_coe (a b : ℝ) (hb : 0 < b) : Ideal.div (a : EReal) (b : EReal) = ((a / b : ℝ) : EReal) := by
  unfold Ideal.div
  rw [if_neg (by exact_mod_cast hb.ne'), div_eq_mul_inv, EReal.coe_mul, EReal.coe_inv]

/-- The softmax of a row of reals. -/
theorem softs_at (x : FVec Ideal S128x100000 .f32) (R : Fin 128) (s : Fin 100000 → ℝ)
    (hx : ∀ C, x (ValueIdx.ix2 R C) = (s C : EReal)) :
    ∃ M : ℝ, ∀ C, softs x (ValueIdx.ix2 R C) = (soft s M C : EReal) := by
  obtain ⟨M, hM⟩ := exps_at x R s hx
  refine ⟨M, fun C => ?_⟩
  unfold softs
  generalize exps x = e at hM ⊢
  have hs : Host.reduceAdd e (constant S_ .f32 0x00000000#32) reducesTo_S128x100000_S128_d1 h_S_ (ValueIdx.ix1 R)
      = ((∑ C, Real.exp (s C - M) : ℝ) : EReal) := by
    refine (Ideal.hostReduceAdd_single reducesTo_S128x100000_S128_d1 reduces_row e _ (ValueIdx.ix1 R)).trans ?_
    refine (congrArg₂ (· + ·) zero_eq (Finset.sum_congr rfl fun C _ => (congrArg e (lift_row R C)).trans (hM C))).trans ?_
    rw [zero_add]
    exact coe_sum _ _
  rw [div_at, across_at, hs, hM, div_coe _ _ (denom_pos s M C)]
  rfl

theorem div_one (r : ℝ) : Ideal.div (r : EReal) (Ideal.ofBits .f32 0x3F800000#32) = (r : EReal) := by
  rw [one_eq, ← EReal.coe_one, div_coe r 1 one_pos, _root_.div_one]

/-- The relaxed picks of a row: reals in the order of its values. -/
theorem v56_eq (hx : ∀ j, ∃ a : ℝ, arg V0 j = a) (R : Fin 128) :
    ∃ k : Fin 100000 → ℝ, (∀ C, res_main_v56 V0 (ValueIdx.ix2 R C) = (k C : EReal))
      ∧ ∀ C D : Fin 100000, k C < k D ↔ total (arg V0) R C.val < total (arg V0) R D.val := by
  choose s hs using fun C : Fin 100000 => total_real (arg V0) hx R C.val
  have h24 : ∀ C, res_main_v24 V0 (ValueIdx.ix2 R C) = (s C : EReal) := fun C => by
    unfold res_main_v24
    rw [div_at, const_at, v22_eq, hs, div_one]
  obtain ⟨M, h35⟩ := softs_at (res_main_v24 V0) R s h24
  have h35' : ∀ C, res_main_v35 V0 (ValueIdx.ix2 R C) = (soft s M C : EReal) := h35
  have h44 : ∀ C, res_main_v44 V0 (ValueIdx.ix2 R C) = (next s M ((2 : ℝ) ^ (-126 : ℤ)) C : EReal) := fun C => by
    have hm : max (Ideal.ofBits .f32 0x3F800000#32 - (soft s M C : EReal)) tiny = ((max (1 - soft s M C) ((2 : ℝ) ^ (-126 : ℤ)) : ℝ) : EReal) := by
      rw [one_eq, tiny_eq, ← EReal.coe_one, ← EReal.coe_sub]
      exact (EReal.coe_strictMono.monotone.map_max).symm
    unfold res_main_v44
    rw [div_at, const_at, add_at, log_at, max_at, sub_at, const_at, const_at, h35']
    change Ideal.div (_ + Ideal.log (max _ tiny)) _ = _
    rw [hm, log_coe_pos (lt_of_lt_of_le tiny_pos (le_max_right _ _)), v22_eq, hs, ← EReal.coe_add, div_one]
    rfl
  obtain ⟨M', h51⟩ := softs_at (res_main_v44 V0) R _ h44
  refine ⟨fun C => soft s M C + soft (next s M ((2 : ℝ) ^ (-126 : ℤ))) M' C, fun C => ?_, fun C D => ?_⟩
  · have h := h51 C
    unfold res_main_v56
    rw [add_at, add_at, const_at]
    change _ + softs (res_main_v44 V0) (ValueIdx.ix2 R C) = _
    rw [zero_eq, zero_add, h35', h51, ← EReal.coe_add]
  · rw [relaxed_lt_iff s M M' _ tiny_pos C D, hs, hs, EReal.coe_lt_coe_iff]

end Cert.ReferenceIdeal.Hand

end
-- ==== Proof.Sort.lean ====
/- The first two positions of a stable descending sort are the two best positions. -/
module

public import proofs.«01_k».proof.Proof.Top2
public import Idealize.ShloMosaic.Lib.SortFacts

@[expose] public section

noncomputable section

namespace Cert.Top2

open Idealize.ShloMosaic

/-- Before in a stable descending order: larger, or equal and earlier. -/
def ahead {n : ℕ} (v : Fin n → EReal) (a b : Fin n) : Prop := v b < v a ∨ (v a = v b ∧ a < b)

variable {n : ℕ} (v : Fin n → EReal) (gt : Fin n → Fin n → Bool) (hgt : ∀ a b, gt a b = true ↔ v b < v a)
include hgt

/-- One insertion of a position earlier than all. -/
theorem insert_ordered (a : Fin n) (l : List (Fin n)) (hl : l.Pairwise (ahead v)) (ha : ∀ b ∈ l, a < b) :
    (insertBefore gt a l).Pairwise (ahead v) := by
  induction l with
  | nil => exact List.pairwise_singleton _ _
  | cons b l ih =>
    rw [List.pairwise_cons] at hl
    unfold insertBefore
    split
    · next h =>
      refine List.pairwise_cons.mpr ⟨fun c hc => ?_, ih hl.2 fun c hc => ha c (List.mem_cons_of_mem _ hc)⟩
      rcases List.mem_cons.mp ((perm_insertBefore gt a l).mem_iff.mp hc) with rfl | hc'
      · exact .inl ((hgt b c).1 h)
      · exact hl.1 c hc'
    · next h =>
      have hba : ¬ v a < v b := fun hlt => h ((hgt b a).2 hlt)
      refine List.pairwise_cons.mpr ⟨fun c hc => ?_, List.pairwise_cons.mpr hl⟩
      have hle : v c ≤ v a := by
        rcases List.mem_cons.mp hc with rfl | hc'
        · exact not_lt.1 hba
        · rcases hl.1 c hc' with h | ⟨h, _⟩
          · exact (h.le).trans (not_lt.1 hba)
          · exact h ▸ not_lt.1 hba
      rcases lt_or_eq_of_le hle with h | h
      · exact .inl h
      · exact .inr ⟨h.symm, ha c hc⟩

theorem sort_ordered (l : List (Fin n)) (hl : l.Pairwise (· < ·)) : (stableSort gt l).Pairwise (ahead v) := by
  induction l with
  | nil => exact List.Pairwise.nil
  | cons a l ih =>
    rw [List.pairwise_cons] at hl
    unfold stableSort
    exact insert_ordered v gt hgt a _ (ih hl.2) fun b hb => hl.1 b ((perm_stableSort gt l).mem_iff.mp hb)

theorem sorted_ahead (i j : Fin n) (hij : i < j) : ahead v (sortedFrom gt i) (sortedFrom gt j) := by
  have hp : ∀ a b : Fin (sortPositions n gt).length, a < b →
      ahead v ((sortPositions n gt).get a) ((sortPositions n gt).get b) :=
    List.pairwise_iff_get.mp (sort_ordered v gt hgt (List.finRange n) (List.pairwise_lt_finRange n))
  unfold sortedFrom
  exact hp _ _ (by simp only [Fin.lt_def, Fin.val_cast]; exact hij)

/-- The first two of the sort are the two best. -/
theorem sorted_top2 (hn : 1 < n) (s : ℕ → EReal) (hs : ∀ k : Fin n, s k.val = v k) :
    IsTop2 s (· < n) (sortedFrom gt ⟨0, by omega⟩).val (sortedFrom gt ⟨1, hn⟩).val := by
  have hb : ∀ a b : Fin n, ahead v a b → beats s a.val b.val := by
    rintro a b (h | ⟨h, hl⟩)
    · exact .inl (by rw [hs, hs]; exact h)
    · exact .inr ⟨by rw [hs, hs]; exact h, hl⟩
  have key : ∀ (i : Fin n) (c : ℕ) (hc : c < n), (∀ j : Fin n, j ≤ i → (sortedFrom gt j).val ≠ c) →
      beats s (sortedFrom gt i).val c := fun i c hc hne => by
    obtain ⟨j, hj⟩ := sortedFrom_surjective gt ⟨c, hc⟩
    have hij : i < j := by
      by_contra h
      exact hne j (not_lt.1 h) (by rw [hj])
    have := hb _ _ (sorted_ahead v gt hgt i j hij)
    rwa [hj] at this
  refine ⟨(sortedFrom gt _).isLt, (sortedFrom gt _).isLt, fun h => ?_, fun c hc hn' => key _ c hc fun j hj h => ?_,
    fun c hc hn' hn'' => key _ c hc fun j hj h => ?_⟩
  · have := sortedFrom_injective gt (Fin.ext h)
    exact absurd (congrArg Fin.val this) (by norm_num)
  · have : j = ⟨0, by omega⟩ := Fin.ext (Nat.le_zero.1 hj)
    rw [this] at h; exact hn' h.symm
  · have hj' : j.val ≤ 1 := hj
    rcases Nat.le_one_iff_eq_zero_or_eq_one.1 hj' with h0 | h1
    · have : j = ⟨0, by omega⟩ := Fin.ext h0
      rw [this] at h; exact hn' h.symm
    · have : j = ⟨1, hn⟩ := Fin.ext h1
      rw [this] at h; exact hn'' h.symm

end Cert.Top2
-- ==== Proof.RefTop.lean ====
/- The reference's result: ones at a row's two best positions and zeros elsewhere. -/
module

public import proofs.«01_k».proof.Proof.RefSoft
public import proofs.«01_k».proof.Proof.Sort
public import Idealize.ShloMosaic.Lib.ScatterToDense.RefScatter

@[expose] public section

set_option maxRecDepth 16384

noncomputable section

namespace Cert.ReferenceIdeal.Hand

open Cert.ReferenceIdeal Cert.ReferenceIdeal.Gen Cert.ReferenceIdeal.RefRun Cert.Top2
open Idealize.ShloMosaic Idealize.ShloMosaic.TcCoe Idealize.SL.Sem Idealize.ShloMosaic.StableHlo

/-- A row's position moved along the row. -/
theorem along_row {T C : ℕ} (R : Fin T) (a b : Fin C) :
    Shape.Idx.along (s := (⟨2, ![T, C]⟩ : Shape)) (ValueIdx.ix2 R a) (1 : Fin 2) b = ValueIdx.ix2 R b := by
  funext i
  fin_cases i
  · exact Function.update_of_ne (show (0 : Fin 2) ≠ 1 by decide) _ _
  · exact Function.update_self _ _ _

/-- The positions the greatest values of a row are found at. -/
theorem topK_at {α : Type} {T C K : ℕ} (h : (⟨2, ![T, C]⟩ : Shape).Slices (fun _ => 0) ⟨2, ![T, K]⟩) (gt : α → α → BitVec 1)
    (x : (⟨2, ![T, C]⟩ : Shape).Idx → α) (R : Fin T) (k : Fin K) (hk : k.val < C) :
    (Host.topK ⟨2, ![T, K]⟩ 1 gt x h).2 (ValueIdx.ix2 R k)
      = BitVec.ofNat 32 (sortedFrom (fun a b : Fin C => gt (x (ValueIdx.ix2 R a)) (x (ValueIdx.ix2 R b)) == 1#1) ⟨k.val, hk⟩).val := by
  refine (show _ = extractStridedSlice ⟨2, ![T, K]⟩ (fun _ => 0) (Host.sort2 (⟨2, ![T, C]⟩ : Shape) 1 (fun l r => gt l.1 r.1) x
    (fun i => if hd : 1 < 2 then iotaInDim (⟨2, ![T, C]⟩ : Shape) 32 ⟨1, hd⟩ i else 0#32)).2 h (ValueIdx.ix2 R k) from rfl).trans ?_
  refine (extractStridedSlice_apply _ _ h (ValueIdx.ix2 R k) (ValueIdx.ix2 R ⟨k.val, hk⟩) ?_).trans ?_
  · intro a
    fin_cases a
    · exact (Nat.zero_add _).symm
    · exact (Nat.zero_add _).symm
  · have e : ∀ b, Shape.Idx.along (s := (⟨2, ![T, C]⟩ : Shape)) (ValueIdx.ix2 R ⟨k.val, hk⟩) (1 : Fin 2) b = ValueIdx.ix2 R b := along_row R _
    show (if hd : 1 < 2 then iotaInDim (⟨2, ![T, C]⟩ : Shape) 32 ⟨1, hd⟩ (Shape.Idx.along (s := (⟨2, ![T, C]⟩ : Shape)) (ValueIdx.ix2 R ⟨k.val, hk⟩) (1 : Fin 2) _) else 0#32) = _
    rw [dif_pos Nat.one_lt_two, e]
    refine congrArg (fun q : Fin C → Fin C → Bool => BitVec.ofNat 32 (sortedFrom q ⟨k.val, hk⟩).val) ?_
    funext a b
    show (gt (x (Shape.Idx.along (s := (⟨2, ![T, C]⟩ : Shape)) (ValueIdx.ix2 R ⟨k.val, hk⟩) (1 : Fin 2) a))
      (x (Shape.Idx.along (s := (⟨2, ![T, C]⟩ : Shape)) (ValueIdx.ix2 R ⟨k.val, hk⟩) (1 : Fin 2) b)) == 1#1) = _
    rw [e, e]
    rfl

/-- The order a sort of values goes by. -/
theorem gt_iff (a b : EReal) : (FloatOps.cmpfTotal (F := Ideal) (φ := .f32) .gt a b == 1#1) = true ↔ b < a := by
  show (BitVec.ofBool (decide (b < a)) == 1#1) = true ↔ _
  by_cases h : b < a
  · simp [h]
  · simp [h]

/-- A place that is not negative is kept. -/
theorem wrap_at {s : Shape} (v z n : IVec s 32) (j : s.Idx) (hz : z j = 0#32) (k : ℕ) (hk : k < 2 ^ 31) (hv : v j = BitVec.ofNat 32 k) :
    select (cmpi .slt v z) (addi v n) v j = BitVec.ofNat 32 k := by
  show Scalar.select (IntOp.cmpi .slt (v j) (z j)) (IntOp.addi (v j) (n j)) (v j) = _
  have h : ¬ 2 ^ 31 ≤ (v j).toNat := by
    rw [hv, BitVec.toNat_ofNat, Nat.mod_eq_of_lt (by omega)]
    omega
  rw [hz, WordCmp.cmpi_slt_zero, WordCmp.select_decide, if_neg h, hv]

/-- Two columns of places side by side: the first. -/
theorem pair_fst (x y : IVec S128x2x1 32) (i : Fin 128) (k : Fin 2) :
    concatenate S128x2x2 2 [⟨S128x2x1, x⟩, ⟨S128x2x1, y⟩] concatenates_S128x2x1_S128x2x1_S128x2x2_d2 (ValueIdx.ix3 i k (0 : Fin 2))
      = x (ValueIdx.ix3 i k (0 : Fin 1)) := by
  refine concatenate_pair_apply_left (t := S128x2x2) (s₁ := S128x2x1) (s₂ := S128x2x1) (2 : Fin 3) x y _ (ValueIdx.ix3 i k (0 : Fin 2)) rfl (ValueIdx.ix3 i k (0 : Fin 1)) fun b => ?_
  fin_cases b <;> rfl

/-- Two columns of places side by side: the second. -/
theorem pair_snd (x y : IVec S128x2x1 32) (i : Fin 128) (k : Fin 2) :
    concatenate S128x2x2 2 [⟨S128x2x1, x⟩, ⟨S128x2x1, y⟩] concatenates_S128x2x1_S128x2x1_S128x2x2_d2 (ValueIdx.ix3 i k (1 : Fin 2))
      = y (ValueIdx.ix3 i k (0 : Fin 1)) := by
  refine concatenate_pair_apply_right (t := S128x2x2) (s₁ := S128x2x1) (s₂ := S128x2x1) (2 : Fin 3) x y _ (ValueIdx.ix3 i k (1 : Fin 2)) rfl rfl (ValueIdx.ix3 i k (0 : Fin 1)) (fun b hb => ?_) rfl
  fin_cases b
  · rfl
  · rfl
  · exact absurd rfl hb

/-- The ones the reference scatters over zeros, given the rows and the places. -/
def hard (v : IVec S128x1 32) (ind : IVec S128x2 32) : FVec Ideal S128x100000 .f32 :=
  Host.scatter scatter_S128x100000_S128x2x2_S128x2_n_01_01_2 (fun _ b => b) (broadcastInDim S128x100000 ![] bcast_S_S128x100000 (constant S_ .f32 0x00000000#32))
    (concatenate S128x2x2 2 [⟨S128x2x1, (broadcastInDim S128x2x1 ![0, 1] bcast_S128x2_S128x2x1_0_1 (broadcastInDim S128x2 ![0, 1] bcast_S128x1_S128x2_0_1
      (select (cmpi .slt v (broadcastInDim S128x1 ![] bcast_S_S128x1 (constantI S_ 32 0#32))) (addi v (broadcastInDim S128x1 ![] bcast_S_S128x1 (constantI S_ 32 128#32))) v)))⟩,
      ⟨S128x2x1, (broadcastInDim S128x2x1 ![0, 1] bcast_S128x2_S128x2x1_0_1
      (select (cmpi .slt ind (broadcastInDim S128x2 ![] bcast_S_S128x2 (constantI S_ 32 0#32))) (addi ind (broadcastInDim S128x2 ![] bcast_S_S128x2 (constantI S_ 32 100000#32))) ind))⟩]
      concatenates_S128x2x1_S128x2x1_S128x2x2_d2) (broadcastInDim S128x2 ![] bcast_S_S128x2 (constant S_ .f32 0x3F800000#32))

theorem lay_at (x : IVec S128x2 32) (i : Fin 128) (k : Fin 2) :
    broadcastInDim S128x2x1 ![0, 1] bcast_S128x2_S128x2x1_0_1 x (ValueIdx.ix3 i k (0 : Fin 1)) = x (ValueIdx.ix2 i k) := by
  refine congrArg x (funext fun a => ?_)
  fin_cases a <;> rfl

theorem rep_at (x : IVec S128x1 32) (i : Fin 128) (k : Fin 2) :
    broadcastInDim S128x2 ![0, 1] bcast_S128x1_S128x2_0_1 x (ValueIdx.ix2 i k) = x (ValueIdx.ix2 i (0 : Fin 1)) := by
  refine congrArg x (funext fun a => ?_)
  fin_cases a <;> rfl

theorem constI_at {s : Shape} (b : BitVec 32) (h : S_.BroadcastsInDim s (![] : Fin 0 → Fin s.rank)) (j : s.Idx) :
    broadcastInDim s ![] h (constantI S_ 32 b) j = b := rfl

/-- A one at each of a row's two places. -/
theorem hard_at (v : IVec S128x1 32) (ind : IVec S128x2 32) (hv : ∀ R : Fin 128, v (ValueIdx.ix2 R (0 : Fin 1)) = BitVec.ofNat 32 R.val)
    (w : Fin 128 → ℕ → ℕ) (hw : ∀ R k, w R k < 100000) (hi : ∀ (R : Fin 128) (k : Fin 2), ind (ValueIdx.ix2 R k) = BitVec.ofNat 32 (w R k.val))
    (R : Fin 128) (C : Fin 100000) : hard v ind (ValueIdx.ix2 R C) = if C.val = w R 0 ∨ C.val = w R 1 then 1 else 0 := by
  refine (ScatterToDense.scatter_eq_GS scatter_S128x100000_S128x2x2_S128x2_n_01_01_2 rfl rfl rfl (by norm_num) (by norm_num) _ _ _
    (fun R k => BitVec.ofNat 32 (w R k)) (fun _ _ => (1 : EReal)) (fun i k => ?_) (fun i k => ?_) (fun i k => ?_) R C).trans ?_
  · refine (pair_fst _ _ i k).trans ((lay_at _ i k).trans ((rep_at _ i k).trans ?_))
    exact wrap_at v _ _ _ (constI_at _ _ _) i.val (by have := i.isLt; omega) (hv i)
  · refine (pair_snd _ _ i k).trans ((lay_at _ i k).trans ?_)
    exact wrap_at ind _ _ _ (constI_at _ _ _) (w i k.val) (by have := hw i k.val; omega) (hi i k)
  · exact (const_at _ _ _).trans one_eq
  · have e : ∀ k, (BitVec.ofNat 32 (w R k)).toNat = w R k := fun k => by
      rw [BitVec.toNat_ofNat, Nat.mod_eq_of_lt]
      exact (hw R k).trans (by norm_num)
    rw [ScatterToDense.GS_succ, ScatterToDense.GS_succ, ScatterToDense.GS_zero, e, e, const_at, zero_eq]
    by_cases h1 : C.val = w R 1
    · rw [if_pos h1, if_pos (.inr h1)]
    · by_cases h0 : C.val = w R 0
      · rw [if_neg h1, if_pos h0, if_pos (.inl h0)]
      · rw [if_neg h1, if_neg h0, if_neg (not_or.2 ⟨h0, h1⟩)]

/-- A place in the order of a row. -/
def spot (x : FVec Ideal S128x100000 .f32) (R : Fin 128) (n : ℕ) : ℕ :=
  if h : n < 100000 then (sortedFrom (fun a b : Fin 100000 => FloatOps.cmpfTotal (F := Ideal) (φ := .f32) .gt (x (ValueIdx.ix2 R a)) (x (ValueIdx.ix2 R b)) == 1#1) ⟨n, h⟩).val else 0

theorem spot_lt (x : FVec Ideal S128x100000 .f32) (R : Fin 128) (n : ℕ) : spot x R n < 100000 := by
  unfold spot
  split
  · exact Fin.isLt _
  · norm_num

theorem spot_top (x : FVec Ideal S128x100000 .f32) (R : Fin 128) (s : ℕ → EReal)
    (hs : ∀ c d : Fin 100000, x (ValueIdx.ix2 R c) < x (ValueIdx.ix2 R d) ↔ s c.val < s d.val) :
    IsTop2 s (· < 100000) (spot x R 0) (spot x R 1) := by
  have h := sorted_top2 (n := 100000) (fun C => x (ValueIdx.ix2 R C))
    (fun a b => FloatOps.cmpfTotal (F := Ideal) (φ := .f32) .gt (x (ValueIdx.ix2 R a)) (x (ValueIdx.ix2 R b)) == 1#1) (fun a b => gt_iff _ _) (by norm_num)
    (fun n => if h : n < 100000 then x (ValueIdx.ix2 R ⟨n, h⟩) else 0) (fun k => dif_pos k.isLt)
  have h' := h.congr (s' := s) fun c d hc hd => by
    rw [dif_pos hc, dif_pos hd]
    exact hs ⟨c, hc⟩ ⟨d, hd⟩
  unfold spot
  rw [dif_pos (show 0 < 100000 by norm_num), dif_pos (show 1 < 100000 by norm_num)]
  exact h'

theorem topK_spot (x : FVec Ideal S128x100000 .f32) (R : Fin 128) (k : Fin 2) :
    (Host.topK S128x2 1 (FloatOps.cmpfTotal .gt) x sliceFits_S128x100000_S128x2).2 (ValueIdx.ix2 R k) = BitVec.ofNat 32 (spot x R k.val) := by
  have hk : k.val < 100000 := by have := k.isLt; omega
  refine (topK_at (T := 128) (C := 100000) (K := 2) sliceFits_S128x100000_S128x2 (FloatOps.cmpfTotal (F := Ideal) (φ := .f32) .gt) x R k hk).trans ?_
  unfold spot
  rw [dif_pos hk]

theorem rows_at (V0 : Valuation τ sig (Elt Ideal)) (R : Fin 128) : res_main_v58 V0 (ValueIdx.ix2 R (0 : Fin 1)) = BitVec.ofNat 32 R.val := rfl

/-- The reference's result is the marks of the scores. -/
theorem result (V0 : Valuation τ sig (Elt Ideal)) (hx : ∀ j, ∃ a : ℝ, arg V0 j = a) :
    addf (subf (hard (res_main_v58 V0) (res_main_indices V0)) (res_main_v56 V0)) (res_main_v56 V0) = marks (arg V0) := by
  funext j
  obtain ⟨R, C, rfl⟩ : ∃ (R : Fin 128) (C : Fin 100000), j = ValueIdx.ix2 R C := ⟨j 0, j 1, funext fun a => by fin_cases a <;> rfl⟩
  obtain ⟨k, hk, hlt⟩ := v56_eq V0 hx R
  have htop : IsTop2 (total (arg V0) R) (· < 100000) (spot (res_main_v56 V0) R 0) (spot (res_main_v56 V0) R 1) :=
    spot_top (res_main_v56 V0) R (total (arg V0) R) fun c d => by
      rw [hk, hk]
      exact EReal.coe_lt_coe_iff.trans (hlt c d)
  have hh := hard_at (res_main_v58 V0) (res_main_indices V0) (rows_at V0) (spot (res_main_v56 V0)) (spot_lt _)
    (fun R k => by unfold res_main_indices; exact topK_spot _ R k) R C
  have hm : marks (arg V0) (ValueIdx.ix2 R C) = if C.val = spot (res_main_v56 V0) R 0 ∨ C.val = spot (res_main_v56 V0) R 1 then 1 else 0 :=
    mark_eq htop C.val
  rw [add_at, sub_at, hh, hk, hm]
  split
  · rw [← EReal.coe_one, ← EReal.coe_sub, ← EReal.coe_add, sub_add_cancel]
  · rw [← EReal.coe_zero, ← EReal.coe_sub, ← EReal.coe_add, sub_add_cancel]

end Cert.ReferenceIdeal.Hand
-- ==== Proof.Finite.lean ====
/- What the precondition says: every score is a real number. -/
module

public import proofs.«01_k».proof.Pre_finite_scores
public import proofs.«01_k».proof.Proof.Total
public import Idealize.ShloMosaic.Lib.ReduceAll

@[expose] public section

noncomputable section

namespace Cert.Finite

open Idealize.ShloMosaic Cert.Pre_finite_scores Cert.Top2

theorem facts : Cert.Pre_finite_scores.Facts where
  bcast_S_S128x100000 := by decide
  reducesTo_S128x100000_S_d0_1 := by decide
  h_S_ := by decide

theorem top_eq : Ideal.ofBits .f32 0x7F800000#32 = (⊤ : EReal) := by
  simp [Ideal.ofBits, Ideal.ieee]

/-- The test at one position. -/
theorem test_at {s : Shape} (x y : FVec Ideal s .f32) (j : s.Idx) (h : cmpf .olt (Host.absf x) y j = 1#1) : max (x j) (-(x j)) < y j := by
  have h' : BitVec.ofBool (decide (max (x j) (-(x j)) < y j)) = 1#1 := h
  by_contra hn
  rw [decide_eq_false hn] at h'
  exact absurd h' (by decide)

theorem const_at {s : Shape} (b : BitVec 32) (h : S_.BroadcastsInDim s (![] : Fin 0 → Fin s.rank)) (j : s.Idx) :
    broadcastInDim s ![] h (constant (F := Ideal) S_ .f32 b) j = Ideal.ofBits .f32 b := rfl

/-- Scores that pass the test are real. -/
theorem real [Cert.Pre_finite_scores.Facts] (x : Grid.Idx → EReal) (h : fn (F := Ideal) x = fun _ => 1#1) (j : Grid.Idx) : ∃ a : ℝ, x j = a := by
  haveI : Subsingleton S_.Idx := ⟨fun a b => funext fun i => i.elim0⟩
  have hj := congrFun h (Shape.Idx.first Facts.h_S_)
  unfold fn at hj
  have hx := test_at _ _ j (Host.reduce_andi_all _ _ _ _ _ hj j)
  rw [const_at, top_eq] at hx
  have h1 : x j ≠ ⊤ := ne_of_lt ((le_max_left _ _).trans_lt hx)
  have h2 : x j ≠ ⊥ := fun e => by
    rw [e] at hx
    exact absurd ((le_max_right _ _).trans_lt hx) (by simp)
  exact ⟨(x j).toReal, (EReal.coe_toReal h1 h2).symm⟩

end Cert.Finite

end
-- ==== Proof.lean ====
/- The proof of the certificate's claim. -/
module

public import proofs.«01_k».proof.Defs
public import proofs.«01_k».proof.Proof.BFrame
public import proofs.«01_k».proof.Proof.KFrame
public import proofs.«01_k».proof.Proof.KValue
public import proofs.«01_k».proof.Proof.RefRun
public import proofs.«01_k».proof.Proof.RefTop
public import proofs.«01_k».proof.Proof.Finite

@[expose] public section

noncomputable section

namespace Cert.Proof

open Idealize.ShloMosaic Idealize.SL.Sem

/-- The reference names no semaphore at all. -/
theorem ref_no_sem (s : MemSt Cert.ReferenceIdeal.nD Cert.ReferenceIdeal.τ Cert.ReferenceIdeal.sig (Elt Ideal)) :
    s.sem = fun _ => 0 := by
  funext g
  exact ((by decide : ∀ sm : SemLoc Cert.ReferenceIdeal.sig, False) g.2).elim

/-- The reference ends with the marks of the scores it was launched with, when they are real. -/
theorem ref_marks (m : (ℓ : Loc Cert.ReferenceIdeal.nD Cert.ReferenceIdeal.τ Cert.ReferenceIdeal.sig) → Buf (Elt Ideal) ℓ)
    (g : Dev Cert.ReferenceIdeal.nD → PrngReg)
    (hx : ∀ (c : Dev Cert.ReferenceIdeal.nD) j, ∃ a : ℝ, Cert.ReferenceIdeal.Hand.arg (StableHlo.launchContents m c) j = a) :
    θ_run (Cert.ReferenceIdeal.defs (F := Ideal)) (onTc (τ := Cert.ReferenceIdeal.τ) (Cert.ReferenceIdeal.main (F := Ideal))) ⟨m, fun _ => 0, g⟩
      (fun r => ∀ c : Dev Cert.ReferenceIdeal.nD,
        r.2.mem ((c.tc : Thread Cert.ReferenceIdeal.nD Cert.ReferenceIdeal.τ).loc Cert.ReferenceIdeal.main_v77)
          = Cert.Top2.marks (Cert.ReferenceIdeal.Hand.arg (StableHlo.launchContents m c))
        ∧ r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0)) :=
  (θ_run _ _ _).mono (fun _ h c => ⟨(h c).1.trans (Cert.ReferenceIdeal.Hand.result (StableHlo.launchContents m c) (hx c)), (h c).2⟩)
    (Cert.ReferenceIdeal.RefRun.run m g)

theorem claim : Cert.Claim := ⟨Cert.Kernel.Gen.facts, Cert.KernelIdeal.Gen.facts, Cert.ReferenceIdeal.Gen.facts, Cert.Finite.facts,
  fun m g _ => Cert.Kernel.Hand.frame_quiescent m g,
  fun m g _ => Cert.KernelIdeal.Hand.frame_quiescent m g,
  fun m g _ => Cert.KernelIdeal.Hand.frame_quiescent m g,
  fun m g _ => (θ_run _ _ _).mono (fun r h => ⟨fun c => (h c).2, ref_no_sem r.2⟩) (Cert.ReferenceIdeal.RefRun.run m g),
  fun m g _ => (θ_run _ _ _).mono (fun r h => ⟨fun c => (h c).2, ref_no_sem r.2⟩) (Cert.ReferenceIdeal.RefRun.run m g),
  trivial,
  fun m g m' g' hpre hin => by
    have hx : ∀ c j, ∃ a : ℝ, Cert.KernelIdeal.Hand.scores m c j = a := fun c j => @Cert.Finite.real Cert.Finite.facts (Cert.KernelIdeal.Hand.scores m c) (hpre c) j
    have e : ∀ c : Dev Cert.KernelIdeal.nD, Cert.ReferenceIdeal.Hand.arg (StableHlo.launchContents m' c) = Cert.KernelIdeal.Hand.scores m c :=
      fun c => hin c
    refine ⟨fun c => Cert.Top2.marks (Cert.KernelIdeal.Hand.scores m c), Cert.KernelIdeal.Hand.run m g hx, ?_⟩
    refine (θ_run _ _ _).mono (fun _ h c => ⟨(h c).1.trans (congrArg Cert.Top2.marks (e c)), (h c).2⟩) (ref_marks m' g' fun c j => ?_)
    rw [e c]
    exact hx c j⟩

end Cert.Proof

end
